-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv_w" .f32 0x3372B9D6#32 ((1 / 17694720 : ℝ) : EReal)
  ∧ IdealRules.named_const.Statement Cert.KernelIdeal.κ "inv_d" .f32 0x39CCCCCD#32 ((1 / 2560 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_v30) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x1024x2560 : Shape := ⟨3, ![16, 1024, 2560]⟩
abbrev S6912x2560 : Shape := ⟨2, ![6912, 2560]⟩
abbrev S2560 : Shape := ⟨1, ![2560]⟩
abbrev S1x1 : Shape := ⟨2, ![1, 1]⟩
abbrev S256x2560 : Shape := ⟨2, ![256, 2560]⟩
abbrev S8x2560 : Shape := ⟨2, ![8, 2560]⟩
abbrev S32x8x2560 : Shape := ⟨3, ![32, 8, 2560]⟩
abbrev S1x8x2560 : Shape := ⟨3, ![1, 8, 2560]⟩
abbrev S1 : Shape := ⟨1, ![1]⟩
abbrev S1x1x1 : Shape := ⟨3, ![1, 1, 1]⟩
abbrev S7168x2560 : Shape := ⟨2, ![7168, 2560]⟩
abbrev S6912x640 : Shape := ⟨2, ![6912, 640]⟩
abbrev S256x640 : Shape := ⟨2, ![256, 640]⟩
abbrev S256x512 : Shape := ⟨2, ![256, 512]⟩
abbrev S64x512 : Shape := ⟨2, ![64, 512]⟩
abbrev S64x128 : Shape := ⟨2, ![64, 128]⟩
abbrev S64x128x1 : Shape := ⟨3, ![64, 128, 1]⟩
abbrev S256x128 : Shape := ⟨2, ![256, 128]⟩
abbrev S16384x2560 : Shape := ⟨2, ![16384, 2560]⟩
abbrev S1x2560 : Shape := ⟨2, ![1, 2560]⟩
abbrev S16384x6912 : Shape := ⟨2, ![16384, 6912]⟩
abbrev S16x1x1024 : Shape := ⟨3, ![16, 1, 1024]⟩
abbrev S1024x2560 : Shape := ⟨2, ![1024, 2560]⟩
abbrev S1024x512 : Shape := ⟨2, ![1024, 512]⟩
abbrev S1x1x1024 : Shape := ⟨3, ![1, 1, 1024]⟩
abbrev S1024x128 : Shape := ⟨2, ![1024, 128]⟩
abbrev S32x2560 : Shape := ⟨2, ![32, 2560]⟩
abbrev S32 : Shape := ⟨1, ![32]⟩
abbrev S32x1 : Shape := ⟨2, ![32, 1]⟩
abbrev S32x128 : Shape := ⟨2, ![32, 128]⟩
abbrev S128x128 : Shape := ⟨2, ![128, 128]⟩
abbrev S128 : Shape := ⟨1, ![128]⟩
abbrev S1x128 : Shape := ⟨2, ![1, 128]⟩
abbrev S1x1x128 : Shape := ⟨3, ![1, 1, 128]⟩
abbrev S512x2560 : Shape := ⟨2, ![512, 2560]⟩
abbrev S1024x1 : Shape := ⟨2, ![1024, 1]⟩
abbrev S16x1024x6912 : Shape := ⟨3, ![16, 1024, 6912]⟩
abbrev S_ : Shape := ⟨0, ![]⟩
abbrev S16x1024 : Shape := ⟨2, ![16, 1024]⟩

abbrev nBuf : Space → Nat
  | .hbm => 15
  | .vmem => 21
  | .smem => 3
  | _ => 0

abbrev bufTy : (tb : Table) → Fin (tcTables nBuf tb) → BufTy
  | .hbm, ⟨0, _⟩ => ⟨S16x1024x2560, .bf16⟩
  | .hbm, ⟨1, _⟩ => ⟨S6912x2560, .bf16⟩
  | .hbm, ⟨2, _⟩ => ⟨S2560, .f32⟩
  | .hbm, ⟨3, _⟩ => ⟨S1x1, .f32⟩
  | .hbm, ⟨4, _⟩ => ⟨S7168x2560, .bf16⟩
  | .hbm, ⟨5, _⟩ => ⟨S6912x640, .i8⟩
  | .hbm, ⟨6, _⟩ => ⟨S16384x2560, .bf16⟩
  | .hbm, ⟨7, _⟩ => ⟨S1x2560, .f32⟩
  | .hbm, ⟨8, _⟩ => ⟨S16384x6912, .bf16⟩
  | .hbm, ⟨9, _⟩ => ⟨S16384x2560, .i8⟩
  | .hbm, ⟨10, _⟩ => ⟨S16x1x1024, .f32⟩
  | .hbm, ⟨11, _⟩ => ⟨S16x1024x6912, .bf16⟩
  | .hbm, ⟨12, _⟩ => ⟨S_, .f32⟩
  | .hbm, ⟨13, _⟩ => ⟨S16x1024x2560, .i8⟩
  | .hbm, ⟨14, _⟩ => ⟨S16x1024, .f32⟩
  | .local _ .vmem, ⟨0, _⟩ => ⟨S256x2560, .bf16⟩
  | .local _ .vmem, ⟨1, _⟩ => ⟨S256x2560, .bf16⟩
  | .local _ .vmem, ⟨2, _⟩ => ⟨S8x2560, .f32⟩
  | .local _ .vmem, ⟨3, _⟩ => ⟨S256x2560, .bf16⟩
  | .local _ .vmem, ⟨4, _⟩ => ⟨S256x2560, .bf16⟩
  | .local _ .vmem, ⟨5, _⟩ => ⟨S256x2560, .bf16⟩
  | .local _ .vmem, ⟨6, _⟩ => ⟨S256x2560, .bf16⟩
  | .local _ .vmem, ⟨7, _⟩ => ⟨S256x640, .i8⟩
  | .local _ .vmem, ⟨8, _⟩ => ⟨S256x640, .i8⟩
  | .local _ .vmem, ⟨9, _⟩ => ⟨S1024x2560, .bf16⟩
  | .local _ .vmem, ⟨10, _⟩ => ⟨S1024x2560, .bf16⟩
  | .local _ .vmem, ⟨11, _⟩ => ⟨S1x2560, .f32⟩
  | .local _ .vmem, ⟨12, _⟩ => ⟨S7168x2560, .bf16⟩
  | .local _ .vmem, ⟨13, _⟩ => ⟨S1024x512, .bf16⟩
  | .local _ .vmem, ⟨14, _⟩ => ⟨S1024x512, .bf16⟩
  | .local _ .vmem, ⟨15, _⟩ => ⟨S1024x2560, .i8⟩
  | .local _ .vmem, ⟨16, _⟩ => ⟨S1024x2560, .i8⟩
  | .local _ .vmem, ⟨17, _⟩ => ⟨S1x1x1024, .f32⟩
  | .local _ .vmem, ⟨18, _⟩ => ⟨S1x1x1024, .f32⟩
  | .local _ .vmem, ⟨19, _⟩ => ⟨S1024x2560, .bf16⟩
  | .local _ .vmem, ⟨20, _⟩ => ⟨S1024x128, .f32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S16x1024x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc1_stg1_0 : Ref sig .tc := ⟨.vmem, 3, rfl⟩
abbrev cc1_stg1_1 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg4_1 : Ref sig .tc := ⟨.vmem, 14, rfl⟩
abbrev cc2_stg5_0 : Ref sig .tc := ⟨.vmem, 15, rfl⟩
abbrev cc2_stg5_1 : Ref sig .tc := ⟨.vmem, 16, rfl⟩
abbrev cc2_stg6_0 : Ref sig .tc := ⟨.vmem, 17, rfl⟩
abbrev cc2_stg6_1 : Ref sig .tc := ⟨.vmem, 18, rfl⟩
abbrev cc2_scratch0 : Ref sig .tc := ⟨.vmem, 19, rfl⟩
abbrev cc2_scratch1 : Ref sig .tc := ⟨.vmem, 20, rfl⟩
abbrev cc0_stg1_0 : Ref sig .tc := ⟨.smem, 0, rfl⟩
abbrev cc1_stg0_0 : Ref sig .tc := ⟨.smem, 1, rfl⟩
abbrev cc2_stg0_0 : Ref sig .tc := ⟨.smem, 2, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc2_sem0_0 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem4_0 : DmaSem sig := 15
abbrev cc2_sem4_1 : DmaSem sig := 16
abbrev cc2_sem5_0 : DmaSem sig := 17
abbrev cc2_sem5_1 : DmaSem sig := 18
abbrev cc2_sem6_0 : DmaSem sig := 19
abbrev cc2_sem6_1 : DmaSem sig := 20

abbrev nD : Nat := 1
abbrev τ : Topo := Topo.v7x

variable {F : FTy → Type} [FloatOps F]

abbrev grid0 : Pipeline.Grid := ⟨1, ![27], ![false]⟩

def k0_cond2 (i : grid0.Coords) : BitVec 1 :=
  let arg0 : BitVec 32 := BitVec.ofNat 32 (i 0).val
  let c26_i32 : BitVec 32 := 26#32
  let v13 : BitVec 1 := Scalar.cmpi .eq arg0 c26_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![27], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .smem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x2560 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2560 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x640 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![16, 14], ![false, false]⟩

def k2_cond1 (i : grid2.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k2_t1_loop : Scf.Loop 32 :=
  let c0_i32_11 : BitVec 32 := 0#32
  let c32_i32 : BitVec 32 := 32#32
  let v20 : BitVec 32 := Scalar.addi c0_i32_11 c32_i32
  let c1_i32 : BitVec 32 := 1#32
  ⟨c0_i32_11, v20, c1_i32⟩
def k2_mult1 (k2_t1 : Fin k2_t1_loop.trips) : BitVec 32 :=
  let c0_i32_11 : BitVec 32 := 0#32
  let c1_i32 : BitVec 32 := 1#32
  let arg11 : BitVec 32 := Scf.iv c0_i32_11 c1_i32 k2_t1
  let c32_i32_62 : BitVec 32 := 32#32
  let v95 : BitVec 32 := Scalar.muli arg11 c32_i32_62
  v95
def k2_off1 (k2_t1 : Fin k2_t1_loop.trips) : Fin 2 → Nat :=
  let c0_i32_11 : BitVec 32 := 0#32
  let c1_i32 : BitVec 32 := 1#32
  let arg11 : BitVec 32 := Scf.iv c0_i32_11 c1_i32 k2_t1
  let c32_i32_62 : BitVec 32 := 32#32
  let v95 : BitVec 32 := Scalar.muli arg11 c32_i32_62
  let v96 : BitVec 32 := v95
  let v97 : Index := Scalar.indexCast v96
  let c0_63 : Index := 0#32
  ![v97.toNat, 0]
def k2_off2 (k2_t1 : Fin k2_t1_loop.trips) : Fin 2 → Nat :=
  let c0_i32_11 : BitVec 32 := 0#32
  let c1_i32 : BitVec 32 := 1#32
  let arg11 : BitVec 32 := Scf.iv c0_i32_11 c1_i32 k2_t1
  let c32_i32_62 : BitVec 32 := 32#32
  let v95 : BitVec 32 := Scalar.muli arg11 c32_i32_62
  let v96 : BitVec 32 := v95
  let v141 : Index := Scalar.indexCast v96
  let c0_73 : Index := 0#32
  ![v141.toNat, 0]
def k2_mult2 (i : grid2.Coords) : BitVec 32 :=
  let arg1 : BitVec 32 := BitVec.ofNat 32 (i 1).val
  let c512_i32 : BitVec 32 := 512#32
  let v3 : BitVec 32 := Scalar.muli arg1 c512_i32
  v3
def k2_off3 (i : grid2.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1024x2560 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1x2560 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S7168x2560 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x512 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S1024x2560 .i8 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S1x1x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]
-- ==== KernelIdeal.lean ====
variable {F : FTy → Type} [FloatOps F] [Named F]
def κ : String → Option EReal := fun
  | "inv_d" => some ((1 / 2560 : ℝ) : EReal)
  | "inv_w" => some ((1 / 17694720 : ℝ) : EReal)
  | _ => none
-- ==== ReferenceIdeal.lean ====
abbrev S16x1024x2560 : Shape := ⟨3, ![16, 1024, 2560]⟩
abbrev S6912x2560 : Shape := ⟨2, ![6912, 2560]⟩
abbrev S2560 : Shape := ⟨1, ![2560]⟩
abbrev S_ : Shape := ⟨0, ![]⟩
abbrev S16x1024 : Shape := ⟨2, ![16, 1024]⟩
abbrev S16x1024x1 : Shape := ⟨3, ![16, 1024, 1]⟩
abbrev S1x1x2560 : Shape := ⟨3, ![1, 1, 2560]⟩
abbrev S16x1024x6912 : Shape := ⟨3, ![16, 1024, 6912]⟩
abbrev S6912x640x4 : Shape := ⟨3, ![6912, 640, 4]⟩
abbrev S6912x640x1 : Shape := ⟨3, ![6912, 640, 1]⟩
abbrev S6912x640 : Shape := ⟨2, ![6912, 640]⟩

abbrev nBuf : Space → Nat
  | .hbm => 104
  | .vmem => 0
  | .smem => 0
  | _ => 0

abbrev bufTy : (tb : Table) → Fin (tcTables nBuf tb) → BufTy
  | .hbm, ⟨0, _⟩ => ⟨S16x1024x2560, .bf16⟩
  | .hbm, ⟨1, _⟩ => ⟨S6912x2560, .bf16⟩
  | .hbm, ⟨2, _⟩ => ⟨S2560, .f32⟩
  | .hbm, ⟨3, _⟩ => ⟨S6912x2560, .f32⟩
  | .hbm, ⟨4, _⟩ => ⟨S6912x2560, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S6912x2560, .f32⟩
  | .hbm, ⟨10, _⟩ => ⟨S6912x2560, .f32⟩
  | .hbm, ⟨11, _⟩ => ⟨S6912x2560, .f32⟩
  | .hbm, ⟨12, _⟩ => ⟨S_, .i32⟩
  | .hbm, ⟨13, _⟩ => ⟨S_, .i32⟩
  | .hbm, ⟨14, _⟩ => ⟨S_, .f32⟩
  | .hbm, ⟨15, _⟩ => ⟨S6912x2560, .f32⟩
  | .hbm, ⟨16, _⟩ => ⟨S6912x2560, .f32⟩
  | .hbm, ⟨17, _⟩ => ⟨S_, .f32⟩
  | .hbm, ⟨18, _⟩ => ⟨S6912x2560, .f32⟩
  | .hbm, ⟨19, _⟩ => ⟨S6912x2560, .f32⟩
  | .hbm, ⟨20, _⟩ => ⟨S6912x2560, .i32⟩
  | .hbm, ⟨21, _⟩ => ⟨S6912x2560, .i8⟩
  | .hbm, ⟨22, _⟩ => ⟨S16x1024x2560, .f32⟩
  | .hbm, ⟨23, _⟩ => ⟨S16x1024x2560, .f32⟩
  | .hbm, ⟨24, _⟩ => ⟨S_, .f32⟩
  | .hbm, ⟨25, _⟩ => ⟨S16x1024, .f32⟩
  | .hbm, ⟨26, _⟩ => ⟨S16x1024x1, .f32⟩
  | .hbm, ⟨27, _⟩ => ⟨S_, .f32⟩
  | .hbm, ⟨28, _⟩ => ⟨S16x1024x1, .f32⟩
  | .hbm, ⟨29, _⟩ => ⟨S16x1024x1, .f32⟩
  | .hbm, ⟨30, _⟩ => ⟨S_, .f32⟩
  | .hbm, ⟨31, _⟩ => ⟨S16x1024x1, .f32⟩
  | .hbm, ⟨32, _⟩ => ⟨S16x1024x1, .f32⟩
  | .hbm, ⟨33, _⟩ => ⟨S16x1024x1, .f32⟩
  | .hbm, ⟨34, _⟩ => ⟨S16x1024x2560, .f32⟩
  | .hbm, ⟨35, _⟩ => ⟨S16x1024x2560, .f32⟩
  | .hbm, ⟨36, _⟩ => ⟨S1x1x2560, .f32⟩
  | .hbm, ⟨37, _⟩ => ⟨S16x1024x2560, .f32⟩
  | .hbm, ⟨38, _⟩ => ⟨S16x1024x2560, .f32⟩
  | .hbm, ⟨39, _⟩ => ⟨S16x1024x2560, .f32⟩
  | .hbm, ⟨40, _⟩ => ⟨S_, .f32⟩
  | .hbm, ⟨41, _⟩ => ⟨S16x1024, .f32⟩
  | .hbm, ⟨42, _⟩ => ⟨S_, .f32⟩
  | .hbm, ⟨43, _⟩ => ⟨S16x1024, .f32⟩
  | .hbm, ⟨44, _⟩ => ⟨S16x1024, .i1⟩
  | .hbm, ⟨45, _⟩ => ⟨S_, .f32⟩
  | .hbm, ⟨46, _⟩ => ⟨S16x1024, .f32⟩
  | .hbm, ⟨47, _⟩ => ⟨S16x1024, .f32⟩
  | .hbm, ⟨48, _⟩ => ⟨S_, .f32⟩
  | .hbm, ⟨49, _⟩ => ⟨S16x1024, .f32⟩
  | .hbm, ⟨50, _⟩ => ⟨S16x1024, .f32⟩
  | .hbm, ⟨51, _⟩ => ⟨S16x1024x1, .f32⟩
  | .hbm, ⟨52, _⟩ => ⟨S16x1024x2560, .f32⟩
  | .hbm, ⟨53, _⟩ => ⟨S16x1024x2560, .f32⟩
  | .hbm, ⟨54, _⟩ => ⟨S16x1024x2560, .f32⟩
  | .hbm, ⟨55, _⟩ => ⟨S_, .i32⟩
  | .hbm, ⟨56, _⟩ => ⟨S_, .i32⟩
  | .hbm, ⟨57, _⟩ => ⟨S_, .f32⟩
  | .hbm, ⟨58, _⟩ => ⟨S16x1024x2560, .f32⟩
  | .hbm, ⟨59, _⟩ => ⟨S16x1024x2560, .f32⟩
  | .hbm, ⟨60, _⟩ => ⟨S_, .f32⟩
  | .hbm, ⟨61, _⟩ => ⟨S16x1024x2560, .f32⟩
  | .hbm, ⟨62, _⟩ => ⟨S16x1024x2560, .f32⟩
  | .hbm, ⟨63, _⟩ => ⟨S16x1024x2560, .i32⟩
  | .hbm, ⟨64, _⟩ => ⟨S16x1024x2560, .i8⟩
  | .hbm, ⟨65, _⟩ => ⟨S16x1024x2560, .i32⟩
  | .hbm, ⟨66, _⟩ => ⟨S16x1024x2560, .f32⟩
  | .hbm, ⟨67, _⟩ => ⟨S16x1024x2560, .bf16⟩
  | .hbm, ⟨68, _⟩ => ⟨S6912x2560, .i32⟩
  | .hbm, ⟨69, _⟩ => ⟨S6912x2560, .f32⟩
  | .hbm, ⟨70, _⟩ => ⟨S6912x2560, .bf16⟩
  | .hbm, ⟨71, _⟩ => ⟨S16x1024x6912, .f32⟩
  | .hbm, ⟨72, _⟩ => ⟨S16x1024x1, .f32⟩
  | .hbm, ⟨73, _⟩ => ⟨S16x1024x6912, .f32⟩
  | .hbm, ⟨74, _⟩ => ⟨S16x1024x6912, .f32⟩
  | .hbm, ⟨75, _⟩ => ⟨S16x1024x6912, .f32⟩
  | .hbm, ⟨76, _⟩ => ⟨S16x1024x6912, .f32⟩
  | .hbm, ⟨77, _⟩ => ⟨S16x1024x6912, .bf16⟩
  | .hbm, ⟨78, _⟩ => ⟨S6912x2560, .i32⟩
  | .hbm, ⟨79, _⟩ => ⟨S_, .i32⟩
  | .hbm, ⟨80, _⟩ => ⟨S6912x2560, .i32⟩
  | .hbm, ⟨81, _⟩ => ⟨S6912x2560, .i32⟩
  | .hbm, ⟨82, _⟩ => ⟨S6912x640x4, .i32⟩
  | .hbm, ⟨83, _⟩ => ⟨S6912x640x1, .i32⟩
  | .hbm, ⟨84, _⟩ => ⟨S6912x640, .i32⟩
  | .hbm, ⟨85, _⟩ => ⟨S6912x640x1, .i32⟩
  | .hbm, ⟨86, _⟩ => ⟨S6912x640, .i32⟩
  | .hbm, ⟨87, _⟩ => ⟨S_, .i32⟩
  | .hbm, ⟨88, _⟩ => ⟨S6912x640, .i32⟩
  | .hbm, ⟨89, _⟩ => ⟨S6912x640, .i32⟩
  | .hbm, ⟨90, _⟩ => ⟨S6912x640, .i32⟩
  | .hbm, ⟨91, _⟩ => ⟨S6912x640x1, .i32⟩
  | .hbm, ⟨92, _⟩ => ⟨S6912x640, .i32⟩
  | .hbm, ⟨93, _⟩ => ⟨S_, .i32⟩
  | .hbm, ⟨94, _⟩ => ⟨S6912x640, .i32⟩
  | .hbm, ⟨95, _⟩ => ⟨S6912x640, .i32⟩
  | .hbm, ⟨96, _⟩ => ⟨S6912x640, .i32⟩
  | .hbm, ⟨97, _⟩ => ⟨S6912x640x1, .i32⟩
  | .hbm, ⟨98, _⟩ => ⟨S6912x640, .i32⟩
  | .hbm, ⟨99, _⟩ => ⟨S_, .i32⟩
  | .hbm, ⟨100, _⟩ => ⟨S6912x640, .i32⟩
  | .hbm, ⟨101, _⟩ => ⟨S6912x640, .i32⟩
  | .hbm, ⟨102, _⟩ => ⟨S6912x640, .i32⟩
  | .hbm, ⟨103, _⟩ => ⟨S6912x640, .i8⟩
  | _, _ => ⟨S16x1024x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_c_1 : Ref sig .tc := ⟨.hbm, 13, rfl⟩
abbrev main_call1_v0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_v27 : Ref sig .tc := ⟨.hbm, 44, rfl⟩
abbrev main_cst_7 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_call2_v0 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_9 : Ref sig .tc := ⟨.hbm, 55, rfl⟩
abbrev main_c_10 : Ref sig .tc := ⟨.hbm, 56, rfl⟩
abbrev main_call4_v0 : Ref sig .tc := ⟨.hbm, 57, rfl⟩
abbrev main_call4_v1 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_c_12 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩

abbrev nD : Nat := 1
abbrev τ : Topo := Topo.v7x

variable {F : FTy → Type} [FloatOps F]
-- ==== Proof.Kernel.Region0.lean ====
/- The first `pallas_call` (the mean of |w|): the triple of its body at every grid point, with the carried accumulator's
   contents point by point, and its proof data. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 0).val) 0#32)) 0#32) = 1#1
/-- The first branch of the body is taken at the first point only. -/
theorem hcond0_0 : ∀ t : Fin cfg0.N, cond0_0 (grid0.coords t) ↔ t.val % 27 = 0 :=
  (fun t => by
    have ht : t.val < 27 := Nat.lt_of_lt_of_eq t.isLt N_0
    have e0 : (grid0.coords t 0).val = t.val / 1 % 27 := Pipeline.Grid.coords_val t 0 (by decide) rfl
    simp only [cond0_0, e0]
    word_cmp
   : ∀ t : Fin grid0.N, cond0_0 (grid0.coords t) ↔ t.val % 27 = 0)

abbrev cond0_1 (i : grid0.Coords) : Prop := k0_cond2 i = 1#1
/-- The last branch of the body is taken at the last point only. -/
theorem hcond0_1 : ∀ t : Fin cfg0.N, cond0_1 (grid0.coords t) ↔ t.val % 27 = 26 :=
  (fun t => by
    have ht : t.val < 27 := Nat.lt_of_lt_of_eq t.isLt N_0
    have e0 : (grid0.coords t 0).val = t.val / 1 % 27 := Pipeline.Grid.coords_val t 0 (by decide) rfl
    simp only [cond0_1, k0_cond2, e0]
    word_cmp
   : ∀ t : Fin grid0.N, cond0_1 (grid0.coords t) ↔ t.val % 27 = 26)

theorem liveAt0_0 : ∀ t : Fin cfg0.N, cfg0.idle 0 (grid0.coords t) = false := fun _ => rfl
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

abbrev VO0_1 : View sig .tc .smem S1x1 .f32 := (Memref.whole cc0_stg1_0 : Memref sig .tc .smem S1x1 .f32).view
abbrev ms0_0 (t : Fin cfg0.N) : Memref sig .tc .vmem S256x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
abbrev scM0_0 : Memref sig .tc .vmem S8x2560 .f32 := Memref.whole cc0_scratch0
abbrev VS0_0 : View sig .tc .vmem S8x2560 .f32 := scM0_0.view

/-- The scoped buffers the region neither stages through nor carries, each at some contents. -/
def Rest0 (c : Dev nD) : sProp 𝕄 :=
  iprop((∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc2_stg0_0), ((c : Thread nD τ).loc cc2_stg0_0) ↦{fullShare} f))

/-- The class invariant `ΦA` of the region splits into the carried scratch, as owned memrefs, and the rest; -/
theorem PhiA0_split (c : Dev nD) :
    (Pipeline.ΦA spec0 c : sProp 𝕄)
      ⊢ iprop(iprop((∃ d, owns (c : Thread nD τ) scM0_0 fullShare d)) ∗ iprop(Rest0 c ∗ (∃ r, prngReg c r))) := by
  unfold Pipeline.ΦA Rest0; rw [scopedRest0_eq]; simp only [scM0_0, owns_whole]
  · iintro ⟨⟨H0, H1, H2, H3, H4, H5, H6, H7, H8, H9, H10, H11, H12, H13, H14, H15, H16, H17, H18, H19, H20⟩, Hg⟩
    isplitl [H0]
    · iexact H0
    isplitl [H1 H2 H3 H4 H5 H6 H7 H8 H9 H10 H11 H12 H13 H14 H15 H16 H17 H18 H19 H20]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    iexact Hg

/-- and is made of them again. -/
theorem PhiA0_merge (c : Dev nD) :
    iprop(iprop((∃ d, owns (c : Thread nD τ) scM0_0 fullShare d)) ∗ iprop(Rest0 c ∗ (∃ r, prngReg c r)))
      ⊢ (Pipeline.ΦA spec0 c : sProp 𝕄) := by
  unfold Pipeline.ΦA Rest0; rw [scopedRest0_eq]; simp only [scM0_0, owns_whole]
  · iintro ⟨H0, ⟨H1, H2, H3, H4, H5, H6, H7, H8, H9, H10, H11, H12, H13, H14, H15, H16, H17, H18, H19, H20⟩, Hg⟩
    isplitl [H0 H1 H2 H3 H4 H5 H6 H7 H8 H9 H10 H11 H12 H13 H14 H15 H16 H17 H18 H19 H20]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    iexact Hg

theorem PhiA0_eq (c : Dev nD) :
    (Pipeline.ΦA spec0 c : sProp 𝕄)
      = iprop(iprop((∃ d, owns (c : Thread nD τ) scM0_0 fullShare d)) ∗ iprop(Rest0 c ∗ (∃ r, prngReg c r))) :=
  Entails.antisymm (PhiA0_split c) (PhiA0_merge c)

set_option maxHeartbeats 1000000 in
noncomputable def kernelRun0_A (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : cond0_0 i) (hc1 : ¬cond0_1 i)
    (x0 : Vec F S256x2560 .bf16) :
    Σ' (L1 : List (View.Piece (Elt F) S1x1 .f32)), { LS0 : List (View.Piece (Elt F) S8x2560 .f32) //
      ∀ (xi1 : Vec F S1x1 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_gamma i arg1 harg1 arg2 harg2 arg3 harg3) K } := by
  refine ⟨[], ?_, fun xi1 E K => ?run⟩
  case run =>
    simp only [cc0_gamma_eq_skeleton]; unfold cc0_gamma_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
noncomputable def kernelRun0_B (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : ¬cond0_0 i) (hc1 : ¬cond0_1 i)
    (x0 : Vec F S256x2560 .bf16) (xs0 : Vec F S8x2560 .f32) :
    Σ' (L1 : List (View.Piece (Elt F) S1x1 .f32)), { LS0 : List (View.Piece (Elt F) S8x2560 .f32) //
      ∀ (xi1 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_gamma i arg1 harg1 arg2 harg2 arg3 harg3) K } := by
  refine ⟨[], ?_, fun xi1 E K => ?run⟩
  case run =>
    simp only [cc0_gamma_eq_skeleton]; unfold cc0_gamma_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
noncomputable def kernelRun0_C (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : ¬cond0_0 i) (hc1 : cond0_1 i)
    (x0 : Vec F S256x2560 .bf16) (xs0 : Vec F S8x2560 .f32) :
    Σ' (L1 : List (View.Piece (Elt F) S1x1 .f32)), { LS0 : List (View.Piece (Elt F) S8x2560 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0_gamma i arg1 harg1 arg2 harg2 arg3 harg3) K } := by
  refine ⟨?_, ?_, fun E K => ?run⟩
  case run =>
    simp only [cc0_gamma_eq_skeleton]; unfold cc0_gamma_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    iexists _; iexact HS0

def out0_A_1 (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : cond0_0 i) (hc1 : ¬cond0_1 i)
    (x0 : Vec F S256x2560 .bf16) : Vec F S1x1 .f32 :=
  VO0_1.read (Elt F) (VO0_1.writes (Elt F) VO0_1.junk (kernelRun0_A c i arg1 harg1 arg2 harg2 arg3 harg3 hc0 hc1 x0).1)

theorem scover0_A_0 (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : cond0_0 i) (hc1 : ¬cond0_1 i)
    (x0 : Vec F S256x2560 .bf16) (y : S8x2560.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S8x2560.size (by sl_kernel_rfl) y

def sout0_A_0 (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : cond0_0 i) (hc1 : ¬cond0_1 i)
    (x0 : Vec F S256x2560 .bf16) : Vec F S8x2560 .f32 :=
  VS0_0.read (Elt F) (VS0_0.writes (Elt F) VS0_0.junk (kernelRun0_A c i arg1 harg1 arg2 harg2 arg3 harg3 hc0 hc1 x0).2.1)

def out0_B_1 (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : ¬cond0_0 i) (hc1 : ¬cond0_1 i)
    (x0 : Vec F S256x2560 .bf16) (xs0 : Vec F S8x2560 .f32) : Vec F S1x1 .f32 :=
  VO0_1.read (Elt F) (VO0_1.writes (Elt F) VO0_1.junk (kernelRun0_B c i arg1 harg1 arg2 harg2 arg3 harg3 hc0 hc1 x0 xs0).1)

theorem scover0_B_0 (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : ¬cond0_0 i) (hc1 : ¬cond0_1 i)
    (x0 : Vec F S256x2560 .bf16) (xs0 : Vec F S8x2560 .f32) (y : S8x2560.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S8x2560.size (by sl_kernel_rfl) y

def sout0_B_0 (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : ¬cond0_0 i) (hc1 : ¬cond0_1 i)
    (x0 : Vec F S256x2560 .bf16) (xs0 : Vec F S8x2560 .f32) : Vec F S8x2560 .f32 :=
  VS0_0.read (Elt F) (VS0_0.writes (Elt F) VS0_0.junk (kernelRun0_B c i arg1 harg1 arg2 harg2 arg3 harg3 hc0 hc1 x0 xs0).2.1)

/-- The last point's pieces cover the output's block. -/
theorem cover0_C_1 (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : ¬cond0_0 i) (hc1 : cond0_1 i)
    (x0 : Vec F S256x2560 .bf16) (xs0 : Vec F S8x2560 .f32) (y : S1x1.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S1x1.size (by sl_kernel_rfl) y

/-- What the last point leaves in the output's block. -/
def out0_C_1 (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : ¬cond0_0 i) (hc1 : cond0_1 i)
    (x0 : Vec F S256x2560 .bf16) (xs0 : Vec F S8x2560 .f32) : Vec F S1x1 .f32 :=
  VO0_1.read (Elt F) (VO0_1.writes (Elt F) VO0_1.junk (kernelRun0_C c i arg1 harg1 arg2 harg2 arg3 harg3 hc0 hc1 x0 xs0).1)

theorem scover0_C_0 (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : ¬cond0_0 i) (hc1 : cond0_1 i)
    (x0 : Vec F S256x2560 .bf16) (xs0 : Vec F S8x2560 .f32) (y : S8x2560.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S8x2560.size (by sl_kernel_rfl) y

def sout0_C_0 (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : ¬cond0_0 i) (hc1 : cond0_1 i)
    (x0 : Vec F S256x2560 .bf16) (xs0 : Vec F S8x2560 .f32) : Vec F S8x2560 .f32 :=
  VS0_0.read (Elt F) (VS0_0.writes (Elt F) VS0_0.junk (kernelRun0_C c i arg1 harg1 arg2 harg2 arg3 harg3 hc0 hc1 x0 xs0).2.1)

/-- What the output's staging buffer and the carried scratch hold after point `n`. -/
def outsAt0 (c : Dev nD) : (n : ℕ) → n < cfg0.N → Vec F S1x1 .f32 × Vec F S8x2560 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 27 = 0 then
      if h1 : (n + 1) % 27 = 26 then
        False.elim (by have hN : n + 1 < 27 := lt_of_lt_of_eq hn (show cfg0.N = 27 from N_0); omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 27 = 26 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 27 = 0) (h1 : ¬t.val % 27 = 26) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 27 = 0) (h1 : ¬t.val % 27 = 26) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 27 = 0) (h1 : t.val % 27 = 26) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: the carried scratch at what the point before left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2)) ∗ iprop(Rest0 c ∗ (∃ r, prngReg c r)))

theorem PhiS_zero0 (c : Dev nD) (n : ℕ) (h : n ≤ cfg0.N) (hz : n = 0) : PhiS0 V c n h = Pipeline.ΦA spec0 c := by
  subst hz; rfl

theorem PhiS_succ0 (c : Dev nD) (n : ℕ) (hn : n < cfg0.N) :
    PhiS0 V c (n + 1) hn = iprop(iprop(owns (c : Thread nD τ) scM0_0 fullShare ((outsAt0 V c n hn).2)) ∗ iprop(Rest0 c ∗ (∃ r, prngReg c r))) := rfl

theorem PhiS_pos0 (c : Dev nD) (n : ℕ) (h : n ≤ cfg0.N) (hz : n ≠ 0) :
    PhiS0 V c n h = iprop(iprop(owns (c : Thread nD τ) scM0_0 fullShare ((outsAt0 V c (n - 1) (by omega)).2)) ∗ iprop(Rest0 c ∗ (∃ r, prngReg c r))) := by
  cases n with
  | zero => exact absurd rfl hz
  | succ n => rfl

/-- The region's proof data, at the contents `V` the region is entered from. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc0 (c : Dev nD) (t : Fin cfg0.N) :
    (dat0 V c).Φ t.castSucc = PhiS0 V c t.val (Nat.le_of_lt t.isLt) := by
  dsimp only [dat0]; exact Pipeline.Dat.Φ_castSucc (PhiS0 V c) t

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS_succ0]
  have hN : t.val < 27 := lt_of_lt_of_eq t.isLt (show cfg0.N = 27 from N_0)
  by_cases h0 : t.val % 27 = 0
  · by_cases h1 : t.val % 27 = 26
    · exfalso; omega
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      by_cases hz : t.val = 0
      · rw [PhiS_castSucc0 V c t, PhiS_zero0 V c _ _ hz, PhiA0_eq]
        rw [outsAt0_A V c t h0 h1]
        unfold sout0_A_0; (try dsimp only)
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · exfalso; have hN : t.val < 27 := lt_of_lt_of_eq t.isLt (show cfg0.N = 27 from N_0); omega
  · by_cases h1 : t.val % 27 = 26
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1)], after0_1]
      by_cases hz : t.val = 0
      · exfalso; have hN : t.val < 27 := lt_of_lt_of_eq t.isLt (show cfg0.N = 27 from N_0); omega
      · rw [PhiS_castSucc0 V c t, PhiS_pos0 V c _ _ hz]
        rw [outsAt0_C V c t h0 h1]
        unfold out0_C_1 sout0_C_0; (try dsimp only)
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      by_cases hz : t.val = 0
      · exfalso; have hN : t.val < 27 := lt_of_lt_of_eq t.isLt (show cfg0.N = 27 from N_0); omega
      · rw [PhiS_castSucc0 V c t, PhiS_pos0 V c _ _ hz]
        rw [outsAt0_B V c t h0 h1]
        unfold sout0_B_0; (try dsimp only)
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

theorem defs₀_row0 (t : Fin cfg0.N) :
    defs₀ (F := F) .tc cfg0.body (cfg0.bodyArgs t (cfg0.slots t)) = bodyAt0 t := by
  unfold defs₀; rw [Defs.onTc_tc]

/-- The body obligation of the region, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The launch's invariant gives the region's before the first point. -/
theorem hin0 (c : Dev nD) : Pipeline.ΦA spec0 c ⊢ (dat0 V c).Φ 0 := by
  rw [show (dat0 V c).Φ 0 = PhiS0 V c 0 (Nat.zero_le _) from rfl, PhiS_zero0 V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS_pos0 V c _ _ ht, PhiA0_eq]
  iintro ⟨HS0, Hg⟩
  isplitl [HS0]
  · iexists _; iexact HS0
  iexact Hg

/-- The region's invariant after the last point gives the launch's back. -/
theorem hout0 (c : Dev nD) : (dat0 V c).Φ (Fin.last cfg0.N) ⊢ Pipeline.ΦA spec0 c :=
  Phi_out0 V c _ (by rw [Fin.val_last]; have : cfg0.N = 27 := N_0; omega)

/-- What point `n` leaves in the carried scratch over what the point before left (`acc`). -/
def scAt0_0 (c : Dev nD) (n : ℕ) (hb : n < cfg0.N) (acc : Vec F S8x2560 .f32) : Vec F S8x2560 .f32 :=
  if h0 : n % 27 = 0 then
    if h1 : n % 27 = 26 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk0 V c 0 (⟨n, hb⟩ : Fin cfg0.N))
  else
    if h1 : n % 27 = 26 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk0 V c 0 (⟨n, hb⟩ : Fin cfg0.N)) acc
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk0 V c 0 (⟨n, hb⟩ : Fin cfg0.N)) acc

theorem soutsAt0_0_eq (c : Dev nD) (t : Fin cfg0.N) :
    (outsAt0 V c t.val t.isLt).2 = Pipeline.accAt (fun n h => scAt0_0 V c n h (VS0_0.read (Elt F) VS0_0.junk)) (scAt0_0 V c) (27 * (t.val / 27)) (t.val % 27)
      (by have h1 := t.isLt; have h2 := Nat.div_add_mod t.val 27; omega) :=
  Pipeline.eq_accAt_of_mod (fun n h => (outsAt0 V c n h).2) 27 (fun n h => scAt0_0 V c n h (VS0_0.read (Elt F) VS0_0.junk)) (scAt0_0 V c)
    (fun n h hn => by
      have hN := lt_of_lt_of_eq h (show cfg0.N = 27 from N_0)
      by_cases h0 : n % 27 = 0 <;> by_cases h1 : n % 27 = 26
      all_goals first | (exfalso; omega) | (rw [outsAt0_A V c ⟨n, h⟩ h0 h1]; dsimp only; unfold scAt0_0; rw [dif_pos h0, dif_neg h1] <;> try rfl) | (rw [outsAt0_B V c ⟨n, h⟩ h0 h1]; dsimp only; unfold scAt0_0; rw [dif_neg h0, dif_neg h1] <;> try rfl) | (rw [outsAt0_C V c ⟨n, h⟩ h0 h1]; dsimp only; unfold scAt0_0; rw [dif_neg h0, dif_pos h1] <;> try rfl))
    (fun n h hn => by
      have hN := lt_of_lt_of_eq h (show cfg0.N = 27 from N_0)
      by_cases h0 : (n + 1) % 27 = 0 <;> by_cases h1 : (n + 1) % 27 = 26
      all_goals first | (exfalso; omega) | (rw [outsAt0_A V c ⟨n + 1, h⟩ h0 h1]; dsimp only; unfold scAt0_0; rw [dif_pos h0, dif_neg h1] <;> try rfl) | (rw [outsAt0_B V c ⟨n + 1, h⟩ h0 h1]; dsimp only; unfold scAt0_0; rw [dif_neg h0, dif_neg h1] <;> try rfl) | (rw [outsAt0_C V c ⟨n + 1, h⟩ h0 h1]; dsimp only; unfold scAt0_0; rw [dif_neg h0, dif_pos h1] <;> try rfl))
    (by decide) t.val t.isLt _

/-- After point `n` the carried scratch is the fold of the points from 0 to `n`. -/
theorem soutsAt0_0_sweep (c : Dev nD) (n : ℕ) (hn : n < cfg0.N) :
    (outsAt0 V c n hn).2 = Pipeline.accAt (fun n h => scAt0_0 V c n h (VS0_0.read (Elt F) VS0_0.junk)) (scAt0_0 V c) 0 n (by omega) := by
  have e := soutsAt0_0_eq V c ⟨n, hn⟩
  have hN := lt_of_lt_of_eq hn (show cfg0.N = 27 from N_0)
  have hd : n / 27 = 0 := Nat.div_eq_of_lt hN
  have hm : n % 27 = n := Nat.mod_eq_of_lt hN
  simpa only [hd, hm, Nat.mul_zero] using e

end Cert.Kernel.Gen

end
-- ==== Proof.Kernel.Region1.lean ====
/- The second `pallas_call` (ternary weights and their packing): the triple of its body at every grid point and its proof data. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev VO1_2 : View sig .tc .vmem S256x2560 .bf16 := (Memref.whole cc1_stg2_0 : Memref sig .tc .vmem S256x2560 .bf16).view
abbrev VO1_3 : View sig .tc .vmem S256x640 .i8 := (Memref.whole cc1_stg3_0 : Memref sig .tc .vmem S256x640 .i8).view
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x2560 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x2560 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x640 .i8 := win1_3.stage (cfg1.slots t 3)
abbrev hs1_3 (t : Fin cfg1.N) : (ms1_3 t).IsWhole := hstage1_3 ((cfg1.slots t 3).cast nbuf1_3)

set_option maxHeartbeats 1000000 in
noncomputable def kernelRun1_A (c : Dev nD) (i : grid1.Coords) (arg1 : Memref sig .tc .smem S1x1 .f32) (harg1 : arg1.IsWhole) (arg2 : Memref sig .tc .vmem S256x2560 .bf16) (harg2 : arg2.IsWhole) (arg3 : Memref sig .tc .vmem S256x2560 .bf16) (harg3 : arg3.IsWhole) (arg4 : Memref sig .tc .vmem S256x640 .i8) (harg4 : arg4.IsWhole)
    (x0 : Vec F S1x1 .f32) (x1 : Vec F S256x2560 .bf16) :
    Σ' (L2 : List (View.Piece (Elt F) S256x2560 .bf16)), { L3 : List (View.Piece (Elt F) S256x640 .i8) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc1_ternary i arg1 harg1 arg2 harg2 arg3 harg3 arg4 harg4) K } := by
  refine ⟨?_, ?_, fun E K => ?run⟩
  case run =>
    simp only [cc1_ternary_eq_skeleton]; unfold cc1_ternary_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton]
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

theorem cover1_A_2 (c : Dev nD) (i : grid1.Coords) (arg1 : Memref sig .tc .smem S1x1 .f32) (harg1 : arg1.IsWhole) (arg2 : Memref sig .tc .vmem S256x2560 .bf16) (harg2 : arg2.IsWhole) (arg3 : Memref sig .tc .vmem S256x2560 .bf16) (harg3 : arg3.IsWhole) (arg4 : Memref sig .tc .vmem S256x640 .i8) (harg4 : arg4.IsWhole)
    (x0 : Vec F S1x1 .f32) (x1 : Vec F S256x2560 .bf16) (y : S256x2560.Idx) :
    ∃ pc ∈ (kernelRun1_A c i arg1 harg1 arg2 harg2 arg3 harg3 arg4 harg4 x0 x1).1, y ∈ pc.1.set :=
  View.cover_of_tiledL (kernelRun1_A c i arg1 harg1 arg2 harg2 arg3 harg3 arg4 harg4 x0 x1).1 S256x512.size (by sl_kernel_rfl) y

def out1_A_2 (c : Dev nD) (i : grid1.Coords) (arg1 : Memref sig .tc .smem S1x1 .f32) (harg1 : arg1.IsWhole) (arg2 : Memref sig .tc .vmem S256x2560 .bf16) (harg2 : arg2.IsWhole) (arg3 : Memref sig .tc .vmem S256x2560 .bf16) (harg3 : arg3.IsWhole) (arg4 : Memref sig .tc .vmem S256x640 .i8) (harg4 : arg4.IsWhole)
    (x0 : Vec F S1x1 .f32) (x1 : Vec F S256x2560 .bf16) : Vec F S256x2560 .bf16 :=
  VO1_2.read (Elt F) (VO1_2.writes (Elt F) VO1_2.junk (kernelRun1_A c i arg1 harg1 arg2 harg2 arg3 harg3 arg4 harg4 x0 x1).1)

theorem cover1_A_3 (c : Dev nD) (i : grid1.Coords) (arg1 : Memref sig .tc .smem S1x1 .f32) (harg1 : arg1.IsWhole) (arg2 : Memref sig .tc .vmem S256x2560 .bf16) (harg2 : arg2.IsWhole) (arg3 : Memref sig .tc .vmem S256x2560 .bf16) (harg3 : arg3.IsWhole) (arg4 : Memref sig .tc .vmem S256x640 .i8) (harg4 : arg4.IsWhole)
    (x0 : Vec F S1x1 .f32) (x1 : Vec F S256x2560 .bf16) (y : S256x640.Idx) :
    ∃ pc ∈ (kernelRun1_A c i arg1 harg1 arg2 harg2 arg3 harg3 arg4 harg4 x0 x1).2.1, y ∈ pc.1.set :=
  View.cover_of_tiledL (kernelRun1_A c i arg1 harg1 arg2 harg2 arg3 harg3 arg4 harg4 x0 x1).2.1 S256x128.size (by sl_kernel_rfl) y

def out1_A_3 (c : Dev nD) (i : grid1.Coords) (arg1 : Memref sig .tc .smem S1x1 .f32) (harg1 : arg1.IsWhole) (arg2 : Memref sig .tc .vmem S256x2560 .bf16) (harg2 : arg2.IsWhole) (arg3 : Memref sig .tc .vmem S256x2560 .bf16) (harg3 : arg3.IsWhole) (arg4 : Memref sig .tc .vmem S256x640 .i8) (harg4 : arg4.IsWhole)
    (x0 : Vec F S1x1 .f32) (x1 : Vec F S256x2560 .bf16) : Vec F S256x640 .i8 :=
  VO1_3.read (Elt F) (VO1_3.writes (Elt F) VO1_3.junk (kernelRun1_A c i arg1 harg1 arg2 harg2 arg3 harg3 arg4 harg4 x0 x1).2.1)

/-- What the two outputs' staging buffers hold after point `t`. -/
def outsAt1 (c : Dev nD) (t : Fin cfg1.N) : Vec F S256x2560 .bf16 × Vec F S256x640 .i8 :=
  (out1_A_2 c (grid1.coords t) (ms1_0 t) (hs1_0 t) (ms1_1 t) (hs1_1 t) (ms1_2 t) (hs1_2 t) (ms1_3 t) (hs1_3 t) (iblk1 V c 0 t) (iblk1 V c 1 t), out1_A_3 c (grid1.coords t) (ms1_0 t) (hs1_0 t) (ms1_1 t) (hs1_1 t) (ms1_2 t) (hs1_2 t) (ms1_3 t) (hs1_3 t) (iblk1 V c 0 t) (iblk1 V c 1 t))

/-- The region's proof data, at the contents `V` the region is entered from. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t).1
    | ⟨3, _⟩ => (outsAt1 V c t).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t).1 := by dsimp only [dat1]
theorem after1_3 (c : Dev nD) (t : Fin cfg1.N) : (dat1 V c).after 3 t = (outsAt1 V c t).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  unfold outsAt1
  unfold out1_A_2 out1_A_3; (try dsimp only)
  iintro ⟨HΦ, Ho, ⟨%d0, H0⟩, ⟨%d1, H1⟩, ⟨%d2, H2⟩, ⟨%d3, H3⟩⟩
  iapply ((kernelRun1_A c (grid1.coords t) _ _ _ _ _ _ _ _ (iblk1 V c 0 t) (iblk1 V c 1 t)).2.2 Set.univ _)
  isplitl [H0]; · iexact H0
  isplitl [H1]; · iexact H1
  isplitl [H2]; · iexists _; iexact H2
  isplitl [H3]; · iexists _; iexact H3
  iintro ⟨H0, H1, ⟨%e2, H2⟩, ⟨%e3, H3⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover1_A_2 c _ _ _ _ _ _ _ _ _ _ _)
  unfold owns; iexists _; isplitr
  swap; · iexact H3
  ipureintro; exact View.read_writes_of_cover _ _ _ _ _ (cover1_A_3 c _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

/-- The body obligation of the region, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Kernel.Gen

end
-- ==== Proof.Kernel.Region2Run.lean ====
/- The third `pallas_call` (quantised activations times ternary weights): the runs of its body in its two cases. -/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Loops
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := k2_cond1 i = 1#1
/-- The branch of the body is taken at the first column tile of each row tile. -/
theorem hcond2_0 : ∀ t : Fin cfg2.N, cond2_0 (grid2.coords t) ↔ t.val % 14 = 0 :=
  (fun t => by
    have ht : t.val < 224 := Nat.lt_of_lt_of_eq t.isLt N_2
    have e0 : (grid2.coords t 0).val = t.val / 14 % 16 := Pipeline.Grid.coords_val t 0 (by decide) rfl
    have e1 : (grid2.coords t 1).val = t.val / 1 % 14 := Pipeline.Grid.coords_val t 1 (by decide) rfl
    simp only [cond2_0, k2_cond1, e0, e1]
    word_cmp
   : ∀ t : Fin grid2.N, cond2_0 (grid2.coords t) ↔ t.val % 14 = 0)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl

abbrev ms2_0 (t : Fin cfg2.N) : Memref sig .tc .smem S1x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2560 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2560 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S7168x2560 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x512 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x2560 .i8 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1x1024 .f32 := win2_6.stage (cfg2.slots t 6)
abbrev hs2_6 (t : Fin cfg2.N) : (ms2_6 t).IsWhole := hstage2_6 ((cfg2.slots t 6).cast nbuf2_6)
abbrev scM2_0 : Memref sig .tc .vmem S1024x2560 .bf16 := Memref.whole cc2_scratch0
abbrev scM2_1 : Memref sig .tc .vmem S1024x128 .f32 := Memref.whole cc2_scratch1

theorem liveAt2_5_A : ∀ t : Fin cfg2.N, cond2_0 (grid2.coords t) → cfg2.idle 5 (grid2.coords t) = false := by decide +kernel
theorem idleAt2_5_B : ∀ t : Fin cfg2.N, ¬cond2_0 (grid2.coords t) → cfg2.idle 5 (grid2.coords t) = true := by decide +kernel
theorem liveAt2_6_A : ∀ t : Fin cfg2.N, cond2_0 (grid2.coords t) → cfg2.idle 6 (grid2.coords t) = false := by decide +kernel
theorem idleAt2_6_B : ∀ t : Fin cfg2.N, ¬cond2_0 (grid2.coords t) → cfg2.idle 6 (grid2.coords t) = true := by decide +kernel
theorem liveAt2_4 : ∀ t : Fin cfg2.N, cfg2.idle 4 (grid2.coords t) = false := fun _ => rfl
abbrev VO2_4 : View sig .tc .vmem S1024x512 .bf16 := (Memref.whole cc2_stg4_0 : Memref sig .tc .vmem S1024x512 .bf16).view
abbrev VO2_5 : View sig .tc .vmem S1024x2560 .i8 := (Memref.whole cc2_stg5_0 : Memref sig .tc .vmem S1024x2560 .i8).view
abbrev VO2_6 : View sig .tc .vmem S1x1x1024 .f32 := (Memref.whole cc2_stg6_0 : Memref sig .tc .vmem S1x1x1024 .f32).view
abbrev VS2_0 : View sig .tc .vmem S1024x2560 .bf16 := scM2_0.view
abbrev VS2_1 : View sig .tc .vmem S1024x128 .f32 := scM2_1.view

/-- The scoped buffers the region neither stages through nor carries, each at some contents. -/
def Rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f))

/-- The class invariant `ΦA` of the region splits into the carried scratch, as owned memrefs, and the rest; -/
theorem PhiA2_split (c : Dev nD) :
    (Pipeline.ΦA spec2 c : sProp 𝕄)
      ⊢ iprop(iprop((∃ d, owns (c : Thread nD τ) scM2_0 fullShare d) ∗ (∃ d, owns (c : Thread nD τ) scM2_1 fullShare d)) ∗ iprop(Rest2 c ∗ (∃ r, prngReg c r))) := by
  unfold Pipeline.ΦA Rest2; rw [scopedRest2_eq]; simp only [scM2_0, scM2_1, owns_whole]
  · iintro ⟨⟨H0, H1, H2, H3, H4, H5, H6, H7, H8, H9, H10, H11, H12⟩, Hg⟩
    isplitl [H9 H10]
    · isplitl [H9]; · iexact H9
      iexact H10
    isplitl [H0 H1 H2 H3 H4 H5 H6 H7 H8 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H11]; · iexact H11
      iexact H12
    iexact Hg

/-- and is made of them again. -/
theorem PhiA2_merge (c : Dev nD) :
    iprop(iprop((∃ d, owns (c : Thread nD τ) scM2_0 fullShare d) ∗ (∃ d, owns (c : Thread nD τ) scM2_1 fullShare d)) ∗ iprop(Rest2 c ∗ (∃ r, prngReg c r)))
      ⊢ (Pipeline.ΦA spec2 c : sProp 𝕄) := by
  unfold Pipeline.ΦA Rest2; rw [scopedRest2_eq]; simp only [scM2_0, scM2_1, owns_whole]
  · iintro ⟨⟨H9, H10⟩, ⟨H0, H1, H2, H3, H4, H5, H6, H7, H8, H11, H12⟩, Hg⟩
    isplitl [H0 H1 H2 H3 H4 H5 H6 H7 H8 H9 H10 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iexact Hg

theorem PhiA2_eq (c : Dev nD) :
    (Pipeline.ΦA spec2 c : sProp 𝕄)
      = iprop(iprop((∃ d, owns (c : Thread nD τ) scM2_0 fullShare d) ∗ (∃ d, owns (c : Thread nD τ) scM2_1 fullShare d)) ∗ iprop(Rest2 c ∗ (∃ r, prngReg c r))) :=
  Entails.antisymm (PhiA2_split c) (PhiA2_merge c)

/-- The pieces all trips of the body's loop write: the codes, the scratch codes, the scratch scales. -/
def pieces2 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i) (x1 : Vec F S1024x2560 .bf16) (x2 : Vec F S1x2560 .f32) :
    List (View.Piece (Elt F) S1024x2560 .i8) × List (View.Piece (Elt F) S1024x2560 .bf16) × List (View.Piece (Elt F) S1024x128 .f32) :=
  (pb_k2_t1 Variants.none c none i arg2 harg2 arg3 harg3 arg4 harg4 arg5 harg5 arg6 harg6 arg7 harg7 arg8 harg8 arg9 harg9 arg10 harg10 hc0 (View.readAt (Elt F) arg4.view (Rect.unit ![0, 0] S1x2560.size inb_S1x2560_S1x2560_0_0).toLoadRect (harg4.unread x2)) (harg3.unread x1) (Scf.trips k2_t1_loop.lb k2_t1_loop.ub k2_t1_loop.st))

/-- They cover this buffer, -/
theorem cover2_A_5 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i) (x1 : Vec F S1024x2560 .bf16) (x2 : Vec F S1x2560 .f32) (y : S1024x2560.Idx) :
    ∃ pc ∈ (pb_k2_t1 Variants.none c none i arg2 harg2 arg3 harg3 arg4 harg4 arg5 harg5 arg6 harg6 arg7 harg7 arg8 harg8 arg9 harg9 arg10 harg10 hc0 (View.readAt (Elt F) arg4.view (Rect.unit ![0, 0] S1x2560.size inb_S1x2560_S1x2560_0_0).toLoadRect (harg4.unread x2)) (harg3.unread x1) (Scf.trips k2_t1_loop.lb k2_t1_loop.ub k2_t1_loop.st)).1, y ∈ pc.1.set :=
  View.cover_of_tiledL (pb_k2_t1 Variants.none c none i arg2 harg2 arg3 harg3 arg4 harg4 arg5 harg5 arg6 harg6 arg7 harg7 arg8 harg8 arg9 harg9 arg10 harg10 hc0 (View.readAt (Elt F) arg4.view (Rect.unit ![0, 0] S1x2560.size inb_S1x2560_S1x2560_0_0).toLoadRect (harg4.unread x2)) (harg3.unread x1) (Scf.trips k2_t1_loop.lb k2_t1_loop.ub k2_t1_loop.st)).1 S32x2560.size (by sl_kernel_rfl) y
/-- leave this in it, -/
def out2_A_5 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i) (x1 : Vec F S1024x2560 .bf16) (x2 : Vec F S1x2560 .f32) : Vec F S1024x2560 .i8 :=
  VO2_5.read (Elt F) (VO2_5.writes (Elt F) VO2_5.junk (pieces2 c i arg2 harg2 arg3 harg3 arg4 harg4 arg5 harg5 arg6 harg6 arg7 harg7 arg8 harg8 arg9 harg9 arg10 harg10 hc0 x1 x2).1)
/-- and so, whatever it held, the whole buffer ends at that. -/
theorem writes2_A_5 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i) (x1 : Vec F S1024x2560 .bf16) (x2 : Vec F S1x2560 .f32) (f) :
    arg7.view.writes (Elt F) f (pb_k2_t1 Variants.none c none i arg2 harg2 arg3 harg3 arg4 harg4 arg5 harg5 arg6 harg6 arg7 harg7 arg8 harg8 arg9 harg9 arg10 harg10 hc0 (View.readAt (Elt F) arg4.view (Rect.unit ![0, 0] S1x2560.size inb_S1x2560_S1x2560_0_0).toLoadRect (harg4.unread x2)) (harg3.unread x1) (Scf.trips k2_t1_loop.lb k2_t1_loop.ub k2_t1_loop.st)).1 = harg7.unread (out2_A_5 c i arg2 harg2 arg3 harg3 arg4 harg4 arg5 harg5 arg6 harg6 arg7 harg7 arg8 harg8 arg9 harg9 arg10 harg10 hc0 x1 x2) :=
  harg7.eq_unread (View.read_writes_of_cover _ _ _ _ _ (cover2_A_5 c i arg2 harg2 arg3 harg3 arg4 harg4 arg5 harg5 arg6 harg6 arg7 harg7 arg8 harg8 arg9 harg9 arg10 harg10 hc0 x1 x2))

/-- They cover this buffer, -/
theorem cover2_A_s0 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i) (x1 : Vec F S1024x2560 .bf16) (x2 : Vec F S1x2560 .f32) (y : S1024x2560.Idx) :
    ∃ pc ∈ (pb_k2_t1 Variants.none c none i arg2 harg2 arg3 harg3 arg4 harg4 arg5 harg5 arg6 harg6 arg7 harg7 arg8 harg8 arg9 harg9 arg10 harg10 hc0 (View.readAt (Elt F) arg4.view (Rect.unit ![0, 0] S1x2560.size inb_S1x2560_S1x2560_0_0).toLoadRect (harg4.unread x2)) (harg3.unread x1) (Scf.trips k2_t1_loop.lb k2_t1_loop.ub k2_t1_loop.st)).2.1, y ∈ pc.1.set :=
  View.cover_of_tiledL (pb_k2_t1 Variants.none c none i arg2 harg2 arg3 harg3 arg4 harg4 arg5 harg5 arg6 harg6 arg7 harg7 arg8 harg8 arg9 harg9 arg10 harg10 hc0 (View.readAt (Elt F) arg4.view (Rect.unit ![0, 0] S1x2560.size inb_S1x2560_S1x2560_0_0).toLoadRect (harg4.unread x2)) (harg3.unread x1) (Scf.trips k2_t1_loop.lb k2_t1_loop.ub k2_t1_loop.st)).2.1 S32x2560.size (by sl_kernel_rfl) y
/-- leave this in it, -/
def out2_A_s0 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i) (x1 : Vec F S1024x2560 .bf16) (x2 : Vec F S1x2560 .f32) : Vec F S1024x2560 .bf16 :=
  VS2_0.read (Elt F) (VS2_0.writes (Elt F) VS2_0.junk (pieces2 c i arg2 harg2 arg3 harg3 arg4 harg4 arg5 harg5 arg6 harg6 arg7 harg7 arg8 harg8 arg9 harg9 arg10 harg10 hc0 x1 x2).2.1)
/-- and so, whatever it held, the whole buffer ends at that. -/
theorem writes2_A_s0 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i) (x1 : Vec F S1024x2560 .bf16) (x2 : Vec F S1x2560 .f32) (f) :
    arg9.view.writes (Elt F) f (pb_k2_t1 Variants.none c none i arg2 harg2 arg3 harg3 arg4 harg4 arg5 harg5 arg6 harg6 arg7 harg7 arg8 harg8 arg9 harg9 arg10 harg10 hc0 (View.readAt (Elt F) arg4.view (Rect.unit ![0, 0] S1x2560.size inb_S1x2560_S1x2560_0_0).toLoadRect (harg4.unread x2)) (harg3.unread x1) (Scf.trips k2_t1_loop.lb k2_t1_loop.ub k2_t1_loop.st)).2.1 = harg9.unread (out2_A_s0 c i arg2 harg2 arg3 harg3 arg4 harg4 arg5 harg5 arg6 harg6 arg7 harg7 arg8 harg8 arg9 harg9 arg10 harg10 hc0 x1 x2) :=
  harg9.eq_unread (View.read_writes_of_cover _ _ _ _ _ (cover2_A_s0 c i arg2 harg2 arg3 harg3 arg4 harg4 arg5 harg5 arg6 harg6 arg7 harg7 arg8 harg8 arg9 harg9 arg10 harg10 hc0 x1 x2))

/-- They cover this buffer, -/
theorem cover2_A_s1 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i) (x1 : Vec F S1024x2560 .bf16) (x2 : Vec F S1x2560 .f32) (y : S1024x128.Idx) :
    ∃ pc ∈ (pb_k2_t1 Variants.none c none i arg2 harg2 arg3 harg3 arg4 harg4 arg5 harg5 arg6 harg6 arg7 harg7 arg8 harg8 arg9 harg9 arg10 harg10 hc0 (View.readAt (Elt F) arg4.view (Rect.unit ![0, 0] S1x2560.size inb_S1x2560_S1x2560_0_0).toLoadRect (harg4.unread x2)) (harg3.unread x1) (Scf.trips k2_t1_loop.lb k2_t1_loop.ub k2_t1_loop.st)).2.2, y ∈ pc.1.set :=
  View.cover_of_tiledL (pb_k2_t1 Variants.none c none i arg2 harg2 arg3 harg3 arg4 harg4 arg5 harg5 arg6 harg6 arg7 harg7 arg8 harg8 arg9 harg9 arg10 harg10 hc0 (View.readAt (Elt F) arg4.view (Rect.unit ![0, 0] S1x2560.size inb_S1x2560_S1x2560_0_0).toLoadRect (harg4.unread x2)) (harg3.unread x1) (Scf.trips k2_t1_loop.lb k2_t1_loop.ub k2_t1_loop.st)).2.2 S32x128.size (by sl_kernel_rfl) y
/-- leave this in it, -/
def out2_A_s1 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i) (x1 : Vec F S1024x2560 .bf16) (x2 : Vec F S1x2560 .f32) : Vec F S1024x128 .f32 :=
  VS2_1.read (Elt F) (VS2_1.writes (Elt F) VS2_1.junk (pieces2 c i arg2 harg2 arg3 harg3 arg4 harg4 arg5 harg5 arg6 harg6 arg7 harg7 arg8 harg8 arg9 harg9 arg10 harg10 hc0 x1 x2).2.2)
/-- and so, whatever it held, the whole buffer ends at that. -/
theorem writes2_A_s1 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i) (x1 : Vec F S1024x2560 .bf16) (x2 : Vec F S1x2560 .f32) (f) :
    arg10.view.writes (Elt F) f (pb_k2_t1 Variants.none c none i arg2 harg2 arg3 harg3 arg4 harg4 arg5 harg5 arg6 harg6 arg7 harg7 arg8 harg8 arg9 harg9 arg10 harg10 hc0 (View.readAt (Elt F) arg4.view (Rect.unit ![0, 0] S1x2560.size inb_S1x2560_S1x2560_0_0).toLoadRect (harg4.unread x2)) (harg3.unread x1) (Scf.trips k2_t1_loop.lb k2_t1_loop.ub k2_t1_loop.st)).2.2 = harg10.unread (out2_A_s1 c i arg2 harg2 arg3 harg3 arg4 harg4 arg5 harg5 arg6 harg6 arg7 harg7 arg8 harg8 arg9 harg9 arg10 harg10 hc0 x1 x2) :=
  harg10.eq_unread (View.read_writes_of_cover _ _ _ _ _ (cover2_A_s1 c i arg2 harg2 arg3 harg3 arg4 harg4 arg5 harg5 arg6 harg6 arg7 harg7 arg8 harg8 arg9 harg9 arg10 harg10 hc0 x1 x2))

-- (the run's proof term is large: the definition's epilogue walks it past the default budget)
set_option maxHeartbeats 2000000 in
/-- The run of the body at a first column tile: the pieces it writes into the first and the third output, with its
    triple; the second output and the scratch end at what the loop leaves in them. -/
noncomputable def kernelRun2_A (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i)
    (x0 : Vec F S1x1 .f32) (x1 : Vec F S1024x2560 .bf16) (x2 : Vec F S1x2560 .f32) (x3 : Vec F S7168x2560 .bf16) :
    Σ' (L4 : List (View.Piece (Elt F) S1024x512 .bf16)), { L6 : List (View.Piece (Elt F) S1x1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare (out2_A_5 c i arg2 harg2 arg3 harg3 arg4 harg4 arg5 harg5 arg6 harg6 arg7 harg7 arg8 harg8 arg9 harg9 arg10 harg10 hc0 x1 x2) ∗ (∃ f, arg8.view.loc (c : Thread nD τ) ↦[arg8.view.set]{fullShare} arg8.view.writes (Elt F) f L6) ∗ owns (c : Thread nD τ) arg9 fullShare (out2_A_s0 c i arg2 harg2 arg3 harg3 arg4 harg4 arg5 harg5 arg6 harg6 arg7 harg7 arg8 harg8 arg9 harg9 arg10 harg10 hc0 x1 x2) ∗ owns (c : Thread nD τ) arg10 fullShare (out2_A_s1 c i arg2 harg2 arg3 harg3 arg4 harg4 arg5 harg5 arg6 harg6 arg7 harg7 arg8 harg8 arg9 harg9 arg10 harg10 hc0 x1 x2)) -∗ K ⟨⟩))
          ⊢ wp frame (wpE (defs₀ (F := F)) Variants.none c none) E (cc2_bitlinear i arg2 harg2 arg3 harg3 arg4 harg4 arg5 harg5 arg6 harg6 arg7 harg7 arg8 harg8 arg9 harg9 arg10 harg10) K } := by
  refine ⟨?_, ?_, fun E K => ?run⟩
  case run =>
    simp only [cc2_bitlinear_eq_skeleton]; unfold cc2_bitlinear_skel
    simp only [k2_part2_eq_skeleton, k2_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0)
    sl_step
    sl_unfold_run_names
    rw [writes2_A_5 c i arg2 harg2 arg3 harg3 arg4 harg4 arg5 harg5 arg6 harg6 arg7 harg7 arg8 harg8 arg9 harg9 arg10 harg10 hc0 x1 x2, writes2_A_s0 c i arg2 harg2 arg3 harg3 arg4 harg4 arg5 harg5 arg6 harg6 arg7 harg7 arg8 harg8 arg9 harg9 arg10 harg10 hc0 x1 x2, writes2_A_s1 c i arg2 harg2 arg3 harg3 arg4 harg4 arg5 harg5 arg6 harg6 arg7 harg7 arg8 harg8 arg9 harg9 arg10 harg10 hc0 x1 x2]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    iexists _; isplitr; · ipureintro; exact harg10.read_unread _
    iexact HS1

-- (as above)
set_option maxHeartbeats 2000000 in
/-- The run of the body at a later column tile, over the scratch contents `xs0`, `xs1`: the pieces it writes into the
    first output, with its triple; the two other outputs and the scratch are handed back untouched. -/
noncomputable def kernelRun2_B (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : ¬cond2_0 i)
    (x0 : Vec F S1x1 .f32) (x1 : Vec F S1024x2560 .bf16) (x2 : Vec F S1x2560 .f32) (x3 : Vec F S7168x2560 .bf16) (xs0 : Vec F S1024x2560 .bf16) (xs1 : Vec F S1024x128 .f32) :
    { L4 : List (View.Piece (Elt F) S1024x512 .bf16) //
      ∀ (xi5 : Vec F S1024x2560 .i8) (xi6 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ owns (c : Thread nD τ) arg9 fullShare xs0 ∗ owns (c : Thread nD τ) arg10 fullShare xs1) -∗ K ⟨⟩))
          ⊢ wp frame (wpE (defs₀ (F := F)) Variants.none c none) E (cc2_bitlinear i arg2 harg2 arg3 harg3 arg4 harg4 arg5 harg5 arg6 harg6 arg7 harg7 arg8 harg8 arg9 harg9 arg10 harg10) K } := by
  refine ⟨?_, fun xi5 xi6 E K => ?run⟩
  case run =>
    simp only [cc2_bitlinear_eq_skeleton]; unfold cc2_bitlinear_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6; obtain rfl := harg9.eq_unread hfs0; obtain rfl := harg10.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexists _; isplitr; · ipureintro; exact harg10.read_unread _
    iexact HS1

end Cert.Kernel.Gen

end
-- ==== Proof.Kernel.Region2.lean ====
/- The third `pallas_call`: what its buffers hold point by point, its body's triple at every grid point, its proof data. -/
module

public import proofs.«01_k».proof.Proof.Kernel.Region2Run

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pieces of the run at a first column tile cover this buffer, -/
theorem cover2_A_4 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i)
    (x0 : Vec F S1x1 .f32) (x1 : Vec F S1024x2560 .bf16) (x2 : Vec F S1x2560 .f32) (x3 : Vec F S7168x2560 .bf16) (y : S1024x512.Idx) :
    ∃ pc ∈ (kernelRun2_A c i arg2 harg2 arg3 harg3 arg4 harg4 arg5 harg5 arg6 harg6 arg7 harg7 arg8 harg8 arg9 harg9 arg10 harg10 hc0 x0 x1 x2 x3).1, y ∈ pc.1.set :=
  View.cover_of_tiledL (kernelRun2_A c i arg2 harg2 arg3 harg3 arg4 harg4 arg5 harg5 arg6 harg6 arg7 harg7 arg8 harg8 arg9 harg9 arg10 harg10 hc0 x0 x1 x2 x3).1 S1024x512.size (by sl_kernel_rfl) y
/-- and leave this in it. -/
def out2_A_4 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i)
    (x0 : Vec F S1x1 .f32) (x1 : Vec F S1024x2560 .bf16) (x2 : Vec F S1x2560 .f32) (x3 : Vec F S7168x2560 .bf16) : Vec F S1024x512 .bf16 :=
  VO2_4.read (Elt F) (VO2_4.writes (Elt F) VO2_4.junk (kernelRun2_A c i arg2 harg2 arg3 harg3 arg4 harg4 arg5 harg5 arg6 harg6 arg7 harg7 arg8 harg8 arg9 harg9 arg10 harg10 hc0 x0 x1 x2 x3).1)

/-- The pieces of the run at a first column tile cover this buffer, -/
theorem cover2_A_6 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i)
    (x0 : Vec F S1x1 .f32) (x1 : Vec F S1024x2560 .bf16) (x2 : Vec F S1x2560 .f32) (x3 : Vec F S7168x2560 .bf16) (y : S1x1x1024.Idx) :
    ∃ pc ∈ (kernelRun2_A c i arg2 harg2 arg3 harg3 arg4 harg4 arg5 harg5 arg6 harg6 arg7 harg7 arg8 harg8 arg9 harg9 arg10 harg10 hc0 x0 x1 x2 x3).2.1, y ∈ pc.1.set :=
  View.cover_of_tiledL (kernelRun2_A c i arg2 harg2 arg3 harg3 arg4 harg4 arg5 harg5 arg6 harg6 arg7 harg7 arg8 harg8 arg9 harg9 arg10 harg10 hc0 x0 x1 x2 x3).2.1 S1x1x128.size (by sl_kernel_rfl) y
/-- and leave this in it. -/
def out2_A_6 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i)
    (x0 : Vec F S1x1 .f32) (x1 : Vec F S1024x2560 .bf16) (x2 : Vec F S1x2560 .f32) (x3 : Vec F S7168x2560 .bf16) : Vec F S1x1x1024 .f32 :=
  VO2_6.read (Elt F) (VO2_6.writes (Elt F) VO2_6.junk (kernelRun2_A c i arg2 harg2 arg3 harg3 arg4 harg4 arg5 harg5 arg6 harg6 arg7 harg7 arg8 harg8 arg9 harg9 arg10 harg10 hc0 x0 x1 x2 x3).2.1)

/-- The pieces of the run at a later column tile cover the first output's block, -/
theorem cover2_B_4 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : ¬cond2_0 i)
    (x0 : Vec F S1x1 .f32) (x1 : Vec F S1024x2560 .bf16) (x2 : Vec F S1x2560 .f32) (x3 : Vec F S7168x2560 .bf16) (xs0 : Vec F S1024x2560 .bf16) (xs1 : Vec F S1024x128 .f32) (y : S1024x512.Idx) :
    ∃ pc ∈ (kernelRun2_B c i arg2 harg2 arg3 harg3 arg4 harg4 arg5 harg5 arg6 harg6 arg7 harg7 arg8 harg8 arg9 harg9 arg10 harg10 hc0 x0 x1 x2 x3 xs0 xs1).1, y ∈ pc.1.set :=
  View.cover_of_tiledL (kernelRun2_B c i arg2 harg2 arg3 harg3 arg4 harg4 arg5 harg5 arg6 harg6 arg7 harg7 arg8 harg8 arg9 harg9 arg10 harg10 hc0 x0 x1 x2 x3 xs0 xs1).1 S1024x512.size (by sl_kernel_rfl) y
/-- and leave this in it. -/
def out2_B_4 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : ¬cond2_0 i)
    (x0 : Vec F S1x1 .f32) (x1 : Vec F S1024x2560 .bf16) (x2 : Vec F S1x2560 .f32) (x3 : Vec F S7168x2560 .bf16) (xs0 : Vec F S1024x2560 .bf16) (xs1 : Vec F S1024x128 .f32) : Vec F S1024x512 .bf16 :=
  VO2_4.read (Elt F) (VO2_4.writes (Elt F) VO2_4.junk (kernelRun2_B c i arg2 harg2 arg3 harg3 arg4 harg4 arg5 harg5 arg6 harg6 arg7 harg7 arg8 harg8 arg9 harg9 arg10 harg10 hc0 x0 x1 x2 x3 xs0 xs1).1)

/-- The first point of `t`'s row tile. -/
def tA2 (t : Fin cfg2.N) : Fin cfg2.N := ⟨14 * (t.val / 14), Nat.lt_of_le_of_lt (Nat.mul_div_le _ _) t.isLt⟩
theorem hA2 (t : Fin cfg2.N) : cond2_0 (grid2.coords (tA2 t)) := (hcond2_0 _).mpr (Nat.mul_mod_right 14 _)
theorem tA2_of (t : Fin cfg2.N) (h : t.val % 14 = 0) : tA2 t = t := Fin.ext (by unfold tA2; dsimp only; omega)
theorem tA2_pred (t : Fin cfg2.N) (h : ¬ t.val % 14 = 0) : tA2 ⟨t.val - 1, Nat.lt_of_le_of_lt (Nat.sub_le _ _) t.isLt⟩ = tA2 t :=
  Fin.ext (by unfold tA2; dsimp only; omega)
/-- The codes a first point of a row tile leaves in its buffer, and below those of the row tile of any point. -/
def o5At2_at (c : Dev nD) (t : Fin cfg2.N) (hA : cond2_0 (grid2.coords t)) : Vec F S1024x2560 .i8 := out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hA (iblk2 V c 1 t) (iblk2 V c 2 t)
def o5At2 (c : Dev nD) (t : Fin cfg2.N) : Vec F S1024x2560 .i8 := o5At2_at V c (tA2 t) (hA2 t)
theorem o5At2_at_congr (c : Dev nD) (t u : Fin cfg2.N) (hA hB) (h : t = u) : o5At2_at V c t hA = o5At2_at V c u hB := by subst h; rfl
theorem o5At2_first (c : Dev nD) (t : Fin cfg2.N) (h0 : t.val % 14 = 0) : o5At2 V c t = out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (iblk2 V c 1 t) (iblk2 V c 2 t) :=
  o5At2_at_congr V c _ _ _ ((hcond2_0 t).mpr h0) (tA2_of t h0)
theorem o5At2_pred (c : Dev nD) (t : Fin cfg2.N) (h : ¬ t.val % 14 = 0) : o5At2 V c ⟨t.val - 1, Nat.lt_of_le_of_lt (Nat.sub_le _ _) t.isLt⟩ = o5At2 V c t :=
  o5At2_at_congr V c _ _ _ _ (tA2_pred t h)
/-- The same for the scales. -/
def o6At2_at (c : Dev nD) (t : Fin cfg2.N) (hA : cond2_0 (grid2.coords t)) : Vec F S1x1x1024 .f32 := out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hA (iblk2 V c 0 t) (iblk2 V c 1 t) (iblk2 V c 2 t) (iblk2 V c 3 t)
def o6At2 (c : Dev nD) (t : Fin cfg2.N) : Vec F S1x1x1024 .f32 := o6At2_at V c (tA2 t) (hA2 t)
theorem o6At2_at_congr (c : Dev nD) (t u : Fin cfg2.N) (hA hB) (h : t = u) : o6At2_at V c t hA = o6At2_at V c u hB := by subst h; rfl
theorem o6At2_first (c : Dev nD) (t : Fin cfg2.N) (h0 : t.val % 14 = 0) : o6At2 V c t = out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (iblk2 V c 0 t) (iblk2 V c 1 t) (iblk2 V c 2 t) (iblk2 V c 3 t) :=
  o6At2_at_congr V c _ _ _ ((hcond2_0 t).mpr h0) (tA2_of t h0)
theorem o6At2_pred (c : Dev nD) (t : Fin cfg2.N) (h : ¬ t.val % 14 = 0) : o6At2 V c ⟨t.val - 1, Nat.lt_of_le_of_lt (Nat.sub_le _ _) t.isLt⟩ = o6At2 V c t :=
  o6At2_at_congr V c _ _ _ _ (tA2_pred t h)
/-- The same for the scratch codes. -/
def s0At2_at (c : Dev nD) (t : Fin cfg2.N) (hA : cond2_0 (grid2.coords t)) : Vec F S1024x2560 .bf16 := out2_A_s0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hA (iblk2 V c 1 t) (iblk2 V c 2 t)
def s0At2 (c : Dev nD) (t : Fin cfg2.N) : Vec F S1024x2560 .bf16 := s0At2_at V c (tA2 t) (hA2 t)
theorem s0At2_at_congr (c : Dev nD) (t u : Fin cfg2.N) (hA hB) (h : t = u) : s0At2_at V c t hA = s0At2_at V c u hB := by subst h; rfl
theorem s0At2_first (c : Dev nD) (t : Fin cfg2.N) (h0 : t.val % 14 = 0) : s0At2 V c t = out2_A_s0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (iblk2 V c 1 t) (iblk2 V c 2 t) :=
  s0At2_at_congr V c _ _ _ ((hcond2_0 t).mpr h0) (tA2_of t h0)
theorem s0At2_pred (c : Dev nD) (t : Fin cfg2.N) (h : ¬ t.val % 14 = 0) : s0At2 V c ⟨t.val - 1, Nat.lt_of_le_of_lt (Nat.sub_le _ _) t.isLt⟩ = s0At2 V c t :=
  s0At2_at_congr V c _ _ _ _ (tA2_pred t h)
/-- The same for the scratch scales. -/
def s1At2_at (c : Dev nD) (t : Fin cfg2.N) (hA : cond2_0 (grid2.coords t)) : Vec F S1024x128 .f32 := out2_A_s1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hA (iblk2 V c 1 t) (iblk2 V c 2 t)
def s1At2 (c : Dev nD) (t : Fin cfg2.N) : Vec F S1024x128 .f32 := s1At2_at V c (tA2 t) (hA2 t)
theorem s1At2_at_congr (c : Dev nD) (t u : Fin cfg2.N) (hA hB) (h : t = u) : s1At2_at V c t hA = s1At2_at V c u hB := by subst h; rfl
theorem s1At2_first (c : Dev nD) (t : Fin cfg2.N) (h0 : t.val % 14 = 0) : s1At2 V c t = out2_A_s1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (iblk2 V c 1 t) (iblk2 V c 2 t) :=
  s1At2_at_congr V c _ _ _ ((hcond2_0 t).mpr h0) (tA2_of t h0)
theorem s1At2_pred (c : Dev nD) (t : Fin cfg2.N) (h : ¬ t.val % 14 = 0) : s1At2 V c ⟨t.val - 1, Nat.lt_of_le_of_lt (Nat.sub_le _ _) t.isLt⟩ = s1At2 V c t :=
  s1At2_at_congr V c _ _ _ _ (tA2_pred t h)
/-- The first output's block after point `t`. -/
def o4At2 (c : Dev nD) (t : Fin cfg2.N) : Vec F S1024x512 .bf16 :=
  if h0 : t.val % 14 = 0 then out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (iblk2 V c 0 t) (iblk2 V c 1 t) (iblk2 V c 2 t) (iblk2 V c 3 t)
  else out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (iblk2 V c 0 t) (iblk2 V c 1 t) (iblk2 V c 2 t) (iblk2 V c 3 t) (s0At2 V c t) (s1At2 V c t)

/-- The region's invariant before position `n`: the scratch at what the row tile's first point left. -/
def PhiS2 (c : Dev nD) : (n : ℕ) → n ≤ cfg2.N → sProp 𝕄
  | 0, _ => Pipeline.ΦA spec2 c
  | n + 1, hn => iprop(iprop(owns (c : Thread nD τ) scM2_0 fullShare (s0At2 V c ⟨n, hn⟩) ∗ owns (c : Thread nD τ) scM2_1 fullShare (s1At2 V c ⟨n, hn⟩)) ∗ iprop(Rest2 c ∗ (∃ r, prngReg c r)))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (s0At2 V c ⟨n, hn⟩) ∗ owns (c : Thread nD τ) scM2_1 fullShare (s1At2 V c ⟨n, hn⟩)) ∗ iprop(Rest2 c ∗ (∃ r, prngReg c r))) := rfl

theorem PhiS2_pos (c : Dev nD) (n : ℕ) (h : n ≤ cfg2.N) (hz : n ≠ 0) :
    PhiS2 V c n h = iprop(iprop(owns (c : Thread nD τ) scM2_0 fullShare (s0At2 V c ⟨n - 1, by omega⟩) ∗ owns (c : Thread nD τ) scM2_1 fullShare (s1At2 V c ⟨n - 1, by omega⟩)) ∗ iprop(Rest2 c ∗ (∃ r, prngReg c r))) := by
  cases n with
  | zero => exact absurd rfl hz
  | succ n => rfl

/-- Before any point the invariant holds the scratch at some contents. -/
theorem PhiS2_any (c : Dev nD) (n : ℕ) (h : n ≤ cfg2.N) :
    PhiS2 V c n h ⊢ iprop(iprop((∃ d, owns (c : Thread nD τ) scM2_0 fullShare d) ∗ (∃ d, owns (c : Thread nD τ) scM2_1 fullShare d)) ∗ iprop(Rest2 c ∗ (∃ r, prngReg c r))) := by
  cases n with
  | zero => exact PhiA2_split c
  | succ n =>
    rw [PhiS2_succ]
    iintro ⟨⟨HS0, HS1⟩, Hg⟩
    isplitl [HS0 HS1]
    · isplitl [HS0]
      · iexists _; iexact HS0
      iexists _; iexact HS1
    iexact Hg

/-- The region's proof data, at the contents `V` the region is entered from. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => o4At2 V c t
    | ⟨5, _⟩ => o5At2 V c t
    | ⟨6, _⟩ => o6At2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; exact Pipeline.Dat.Φ_castSucc (PhiS2 V c) t

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = o4At2 V c t := by dsimp only [dat2]
theorem after2_5 (c : Dev nD) (t : Fin cfg2.N) : (dat2 V c).after 5 t = o5At2 V c t := by dsimp only [dat2]
theorem after2_6 (c : Dev nD) (t : Fin cfg2.N) : (dat2 V c).after 6 t = o6At2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem fresh2_5 : ∀ t : Fin cfg2.N, ¬ t.val % 14 = 0 → cfg2.fresh 5 t.val = false := by decide +kernel
/-- At a later column tile the window still holds what the row tile's first point left in it. -/
theorem before2_5_B (c : Dev nD) (t : Fin cfg2.N) (h0 : ¬ t.val % 14 = 0) (d) : (dat2 V c).before 5 t d = o5At2 V c t := by
  rw [Dat.before_out_traj (dat2 V c) 5 rfl (fun _ _ => rfl)
    (fun t ht hi _ => by
      rw [after2_5, after2_5]
      have hn : ¬ t.val % 14 = 0 := fun h => by
        have := liveAt2_5_A t ((hcond2_0 t).mpr h); rw [hi] at this; cases this
      exact (o5At2_pred V c t hn).symm) t.val t rfl d]
  rw [fresh2_5 t h0, if_neg Bool.false_ne_true, after2_5]
  exact o5At2_pred V c t h0
theorem fresh2_6 : ∀ t : Fin cfg2.N, ¬ t.val % 14 = 0 → cfg2.fresh 6 t.val = false := by decide +kernel
/-- At a later column tile the window still holds what the row tile's first point left in it. -/
theorem before2_6_B (c : Dev nD) (t : Fin cfg2.N) (h0 : ¬ t.val % 14 = 0) (d) : (dat2 V c).before 6 t d = o6At2 V c t := by
  rw [Dat.before_out_traj (dat2 V c) 6 rfl (fun _ _ => rfl)
    (fun t ht hi _ => by
      rw [after2_6, after2_6]
      have hn : ¬ t.val % 14 = 0 := fun h => by
        have := liveAt2_6_A t ((hcond2_0 t).mpr h); rw [hi] at this; cases this
      exact (o6At2_pred V c t hn).symm) t.val t rfl d]
  rw [fresh2_6 t h0, if_neg Bool.false_ne_true, after2_6]
  exact o6At2_pred V c t h0

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

/-- At a later column tile the body may hand window 5 back as the row tile's first point left it. -/
theorem leaves2_5_B (c : Dev nD) (t : Fin cfg2.N) (h0 : ¬ t.val % 14 = 0) :
    owns (c : Thread nD τ) (ms2_5 t) fullShare (o5At2 V c t) ⊢ ((dat2 V c).leavesExact 5 t : sProp 𝕄) := by
  have hi := idleAt2_5_B t (fun h => h0 ((hcond2_0 t).mp h))
  cases hf : (cfg2.win 5).flush t with
  | false =>
    rw [Dat.leavesExact_idle (dat2 V c) 5 t hi hf]
    iintro H
    iexists (o5At2 V c t)
    rw [before2_5_B V c t h0]
    iexact H
  | true =>
    unfold Dat.leavesExact; rw [hi, hf, after2_5]

/-- At a later column tile the body may hand window 6 back as the row tile's first point left it. -/
theorem leaves2_6_B (c : Dev nD) (t : Fin cfg2.N) (h0 : ¬ t.val % 14 = 0) :
    owns (c : Thread nD τ) (ms2_6 t) fullShare (o6At2 V c t) ⊢ ((dat2 V c).leavesExact 6 t : sProp 𝕄) := by
  have hi := idleAt2_6_B t (fun h => h0 ((hcond2_0 t).mp h))
  cases hf : (cfg2.win 6).flush t with
  | false =>
    rw [Dat.leavesExact_idle (dat2 V c) 6 t hi hf]
    iintro H
    iexists (o6At2 V c t)
    rw [before2_6_B V c t h0]
    iexact H
  | true =>
    unfold Dat.leavesExact; rw [hi, hf, after2_6]

set_option maxHeartbeats 4800000 in
/-- The body's triple at a first column tile. -/
theorem sound_body2_A (c : Dev nD) (t : Fin cfg2.N) (h0 : t.val % 14 = 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ, PhiS2_castSucc V c t]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5_A t ((hcond2_0 t).mpr h0)], after2_5]
  rw [show (dat2 V c).leavesExact 6 t = owns (c : Thread nD τ) (ms2_6 t) fullShare ((dat2 V c).after 6 t) from by
    unfold Dat.leavesExact; rw [liveAt2_6_A t ((hcond2_0 t).mpr h0)], after2_6]
  rw [show (⟨t.val, t.isLt⟩ : Fin cfg2.N) = t from rfl, o5At2_first V c t h0, o6At2_first V c t h0, s0At2_first V c t h0, s1At2_first V c t h0]
  unfold o4At2; rw [dif_pos h0]
  unfold out2_A_4 out2_A_6
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ := (PhiS2_any V c _ _) $$ HΦ
  icases HΦ with ⟨⟨HS0, HS1⟩, Hg⟩
  iapply ((kernelRun2_A c (grid2.coords t) _ _ _ _ _ _ _ _ _ _ _ _ _ _ _ _ _ _ ((hcond2_0 t).mpr h0) (iblk2 V c 0 t) (iblk2 V c 1 t) (iblk2 V c 2 t) (iblk2 V c 3 t)).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, ⟨%e4, H4⟩, H5, ⟨%e6, H6⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover2_A_4 c _ _ _ _ _ _ _ _ _ _ _ _ _ _ _ _ _ _ _ _ _ _ _ _)
  isplitl [H5]; · iexact H5
  unfold owns; iexists _; isplitr
  swap; · iexact H6
  ipureintro; exact View.read_writes_of_cover _ _ _ _ _ (cover2_A_6 c _ _ _ _ _ _ _ _ _ _ _ _ _ _ _ _ _ _ _ _ _ _ _ _)

set_option maxHeartbeats 4800000 in
/-- The body's triple at a later column tile. -/
theorem sound_body2_B (c : Dev nD) (t : Fin cfg2.N) (h0 : ¬ t.val % 14 = 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_5_B V c t h0, before2_6_B V c t h0]
  rw [show (dat2 V c).owesAt () t.succ = (dat2 V c).owesAt () t.castSucc from rfl]
  rw [show (dat2 V c).Φ t.succ = PhiS2 V c (t.val + 1) t.isLt from rfl, PhiS2_succ, PhiS2_castSucc V c t,
    PhiS2_pos V c _ _ (fun h => h0 (by rw [h])), s0At2_pred V c t h0, s1At2_pred V c t h0]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  unfold o4At2; rw [dif_neg h0]
  unfold out2_B_4
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun2_B c (grid2.coords t) _ _ _ _ _ _ _ _ _ _ _ _ _ _ _ _ _ _ (fun h => h0 ((hcond2_0 t).mp h)) (iblk2 V c 0 t) (iblk2 V c 1 t) (iblk2 V c 2 t) (iblk2 V c 3 t) (s0At2 V c t) (s1At2 V c t)).2 _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [HS0]; · iexact HS0
  isplitl [HS1]; · iexact HS1
  iintro ⟨H0, H1, H2, H3, ⟨%e4, H4⟩, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover2_B_4 c _ _ _ _ _ _ _ _ _ _ _ _ _ _ _ _ _ _ _ _ _ _ _ _ _ _)
  isplitl [H5]
  · iapply (leaves2_5_B V c t h0); iexact H5
  iapply (leaves2_6_B V c t h0); iexact H6

theorem sound_body2 (c : Dev nD) (t : Fin cfg2.N) :
    bodyPre2 V c t ⊢ wp frame (wpE (defs₀ (F := F)) Variants.none c none) Set.univ (bodyAt2 t) (fun _ => bodyPost2 V c t) :=
  if h0 : t.val % 14 = 0 then sound_body2_A V c t h0 else sound_body2_B V c t h0

theorem defs₀_row2 (t : Fin cfg2.N) :
    defs₀ (F := F) .tc cfg2.body (cfg2.bodyArgs t (cfg2.slots t)) = bodyAt2 t := by
  unfold defs₀; rw [Defs.onTc_tc]

/-- The body obligation of the region, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- The launch's invariant gives the region's before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- The region's invariant after the last point gives the launch's back. -/
theorem hout2 (c : Dev nD) : (dat2 V c).Φ (Fin.last cfg2.N) ⊢ Pipeline.ΦA spec2 c := by
  rw [show (dat2 V c).Φ (Fin.last cfg2.N) = PhiS2 V c cfg2.N (Nat.le_refl _) from rfl, PhiA2_eq]
  exact PhiS2_any V c _ _

end Cert.Kernel.Gen

end
-- ==== Proof.Kernel.Run.lean ====
/- The run of the whole program: the three pallas_calls and the host operations between them, from the launch to the
   return, and the frame claim. -/
module

public import proofs.«01_k».proof.Proof.Kernel.Region0
public import proofs.«01_k».proof.Proof.Kernel.Region1
public import proofs.«01_k».proof.Proof.Kernel.Region2
public import proofs.«01_k».proof.Proof.Gen.Kernel.Regions
public import Idealize.ShloMosaic.Lib.Pipeline.Frame
public import Idealize.ShloMosaic.Lib.Pipeline.RegionsLoop
public import Idealize.ShloMosaic.Lib.Pipeline.FrameSuffix
public import Idealize.ShloMosaic.Lib.Pipeline.Regions

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Main

variable (m : (ℓ : Loc nD τ sig) → Buf (Elt F) ℓ) (ρ : Dev nD → PrngReg)

/-- The argument arrays. -/
abbrev argRefs : List (Ref sig .tc) := [main_arg0, main_arg1, main_arg2]

/-! ## The buffers' contents at each boundary -/

/-- Core `c`'s buffers at launch. -/
abbrev W0 : Dev nD → Valuation τ sig (Elt F) := fun c b => m (c, b)
theorem W0_args (c : Dev nD) : ∀ a ∈ argRefs, W0 m c (Proc.devRef .tc a) = m ((c : Thread nD τ).loc a) := fun _ _ => rfl
abbrev V0 : (c : Dev nD) → (b : Ref sig .tc) → Buf (Elt F) ((c : Thread nD τ).loc b) := fun c b => W0 m c b

/-- Core `c`'s buffers after the pallas_call 0: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- A buffer that is no output array of this pallas_call keeps its contents across it. -/
theorem W1_of (c : Dev nD) (r : Ref sig .tc) (h : ∀ w : Fin cfg0.W, Pipeline.arrRef spec0 w = r → (cfg0.win w).isOut = false) :
    W1 m c (Proc.devRef .tc r) = W0 m c (Proc.devRef .tc r) := by
  by_cases hw : ∃ w : Fin cfg0.W, Pipeline.arrRef spec0 w = r
  · obtain ⟨w, rfl⟩ := hw
    exact (W1_arr m c w).trans (((dat0 (V0 m) c).arrAt_in w (h w rfl) _).trans (A_eq0 (V0 m) c w))
  · exact W1_of_ne m c r fun w e => hw ⟨w, e⟩
/-- The arguments among its arrays are read only. -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m c (Proc.devRef .tc a) = m ((c : Thread nD τ).loc a) :=
  fun a ha => (W1_of m c a (argsIn0 a ha)).trans (W0_args m c a ha)
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- Core `c`'s buffers after the pallas_call 1: its arrays at what the pipeline leaves, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- A buffer that is no output array of this pallas_call keeps its contents across it. -/
theorem W2_of (c : Dev nD) (r : Ref sig .tc) (h : ∀ w : Fin cfg1.W, Pipeline.arrRef spec1 w = r → (cfg1.win w).isOut = false) :
    W2 m c (Proc.devRef .tc r) = W1 m c (Proc.devRef .tc r) := by
  by_cases hw : ∃ w : Fin cfg1.W, Pipeline.arrRef spec1 w = r
  · obtain ⟨w, rfl⟩ := hw
    exact (W2_arr m c w).trans (((dat1 (V1 m) c).arrAt_in w (h w rfl) _).trans (A_eq1 (V1 m) c w))
  · exact W2_of_ne m c r fun w e => hw ⟨w, e⟩
/-- The arguments among its arrays are read only. -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m c (Proc.devRef .tc a) = m ((c : Thread nD τ).loc a) :=
  fun a ha => (W2_of m c a (argsIn1 a ha)).trans (W1_args m c a ha)
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- Core `c`'s buffers after the host operations between them. -/
abbrev W3 (c : Dev nD) : Valuation τ sig (Elt F) := StableHlo.after hostOps2 (W2 m c)
theorem W3_of (c : Dev nD) (r : Ref sig .tc) (h : r ∉ hostOps2_W) : W3 m c (Proc.devRef .tc r) = W2 m c (Proc.devRef .tc r) :=
  StableHlo.after_of_writes_sub hostOps2 _ hostOps2_writes h
theorem hostOps2_args : ∀ a ∈ argRefs, a ∉ hostOps2_W := ListAll.forall_mem_of_all_decide (by decide +kernel)
theorem W3_args (c : Dev nD) : ∀ a ∈ argRefs, W3 m c (Proc.devRef .tc a) = m ((c : Thread nD τ).loc a) :=
  fun a ha => (W3_of m c a (hostOps2_args a ha)).trans (W2_args m c a ha)
abbrev V3 : (c : Dev nD) → (b : Ref sig .tc) → Buf (Elt F) ((c : Thread nD τ).loc b) := fun c b => W3 m c b

/-- Core `c`'s buffers after the pallas_call 2: its arrays at what the pipeline leaves, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- A buffer that is no output array of this pallas_call keeps its contents across it. -/
theorem W4_of (c : Dev nD) (r : Ref sig .tc) (h : ∀ w : Fin cfg2.W, Pipeline.arrRef spec2 w = r → (cfg2.win w).isOut = false) :
    W4 m c (Proc.devRef .tc r) = W3 m c (Proc.devRef .tc r) := by
  by_cases hw : ∃ w : Fin cfg2.W, Pipeline.arrRef spec2 w = r
  · obtain ⟨w, rfl⟩ := hw
    exact (W4_arr m c w).trans (((dat2 (V3 m) c).arrAt_in w (h w rfl) _).trans (A_eq2 (V3 m) c w))
  · exact W4_of_ne m c r fun w e => hw ⟨w, e⟩
/-- The arguments among its arrays are read only. -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m c (Proc.devRef .tc a) = m ((c : Thread nD τ).loc a) :=
  fun a ha => (W4_of m c a (argsIn2 a ha)).trans (W3_args m c a ha)
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- Core `c`'s buffers after the host operations between them. -/
abbrev W5 (c : Dev nD) : Valuation τ sig (Elt F) := StableHlo.after hostOps3 (W4 m c)
theorem W5_of (c : Dev nD) (r : Ref sig .tc) (h : r ∉ hostOps3_W) : W5 m c (Proc.devRef .tc r) = W4 m c (Proc.devRef .tc r) :=
  StableHlo.after_of_writes_sub hostOps3 _ hostOps3_writes h
theorem hostOps3_args : ∀ a ∈ argRefs, a ∉ hostOps3_W := ListAll.forall_mem_of_all_decide (by decide +kernel)
theorem W5_args (c : Dev nD) : ∀ a ∈ argRefs, W5 m c (Proc.devRef .tc a) = m ((c : Thread nD τ).loc a) :=
  fun a ha => (W5_of m c a (hostOps3_args a ha)).trans (W4_args m c a ha)
abbrev V5 : (c : Dev nD) → (b : Ref sig .tc) → Buf (Elt F) ((c : Thread nD τ).loc b) := fun c b => W5 m c b

/-! ## The proof data and the thread state -/

/-- Every pallas_call's proof data, each at the contents it is entered with. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers: the core's generator register, and that it owes nothing. -/
abbrev R (c : Dev nD) : sProp 𝕄 := iprop((∃ r, prngReg c r) ∗ ∃ W, owes (c : Thread nD τ) (0 : CellTallies nD τ sig Unit) W)
/-- Host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped buffer is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev Tₙ (c : Dev nD) : sProp 𝕄 := iprop(StableHlo.held (c : Thread nD τ) (Pipeline.ucRefs τ sig) (W5 m c) ∗ ∃ r, prngReg c r)
theorem last_state (c : Dev nD) :
    iprop(StableHlo.held (c : Thread nD τ) (Pipeline.ucRefs τ sig) (W5 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The pallas_calls as segments -/

set_option backward.isDefEq.respectTransparency.types false in
/-- The pallas_call 0 over the thread state: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) (A_eq0 (V0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdats m 0 c).Φ 0 := hin0 (V0 m) c
    unfold Pipeline.ΦA at h
    iintro ⟨Hp, -, Hr⟩
    iapply h
    isplitl [Hr]; · iexact Hr
    iexact Hp
  hout c := by
    have h : (pdats m 0 c).Φ (Fin.last _) ⊢ Pipeline.ΦA spec0 c := hout0 (V0 m) c
    rw [Pipeline.ownSems0_none]; unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call 1 over the thread state: entered from every unscoped buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) (A_eq1 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call 2 over the thread state: entered from every unscoped buffer at `W3`, left at `W4`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) (A_eq2 (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec2 c ⊢ (pdats m 2 c).Φ 0 := hin2 (V3 m) c
    unfold Pipeline.ΦA at h
    iintro ⟨Hp, -, Hr⟩
    iapply h
    isplitl [Hr]; · iexact Hr
    iexact Hp
  hout c := by
    have h : (pdats m 2 c).Φ (Fin.last _) ⊢ Pipeline.ΦA spec2 c := hout2 (V3 m) c
    rw [Pipeline.ownSems0_none]; unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The whole program -/

/-- The program's five segments in order. -/
abbrev segs : List (Pipeline.Seg (pcfgs (F := F)) adm (pdats m) () defs₀ 𝒱₀ L lv) :=
  [ .region (reg0 m), .region (reg1 m),
    .host (hseg hostOps2 hostOps2_sub hostOps2_fresh (W2 m)),
    .region (reg2 m),
    .host (hseg hostOps3 hostOps3_sub hostOps3_fresh (W4 m)) ]
theorem main_run (c : Dev nD) : main (F := F) c = Pipeline.Seg.run (segs m) := (main_chain c).trans (by chain_rfl)
theorem no_unscoped : ∀ sm : SemLoc sig, sm.isScoped .tc = true := by decide

set_option backward.isDefEq.respectTransparency.types false in
/-- Every weakly fair execution ends, without a fault, with every unscoped buffer at the last boundary's contents and every
    semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m c b)
      ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h hz => ⟨h, funext fun g => hz g (.inr (no_unscoped g.2))⟩)

/-- The frame claim: the arguments end as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c _ (mem_uc main_arg0 (by decide))).trans (W5_args m c main_arg0 (by decide)),
     (h.1 c _ (mem_uc main_arg1 (by decide))).trans (W5_args m c main_arg1 (by decide)),
     (h.1 c _ (mem_uc main_arg2 (by decide))).trans (W5_args m c main_arg2 (by decide))⟩, h.2⟩) (run m ρ)

end Main

end Cert.Kernel.Gen

end
-- ==== Proof.KernelIdeal.Region0.lean ====
/- The first `pallas_call` (the mean of |w|): the triple of its body at every grid point, with the carried accumulator's
   contents point by point, and its proof data. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 0).val) 0#32)) 0#32) = 1#1
/-- The first branch of the body is taken at the first point only. -/
theorem hcond0_0 : ∀ t : Fin cfg0.N, cond0_0 (grid0.coords t) ↔ t.val % 27 = 0 :=
  (fun t => by
    have ht : t.val < 27 := Nat.lt_of_lt_of_eq t.isLt N_0
    have e0 : (grid0.coords t 0).val = t.val / 1 % 27 := Pipeline.Grid.coords_val t 0 (by decide) rfl
    simp only [cond0_0, e0]
    word_cmp
   : ∀ t : Fin grid0.N, cond0_0 (grid0.coords t) ↔ t.val % 27 = 0)

abbrev cond0_1 (i : grid0.Coords) : Prop := k0_cond2 i = 1#1
/-- The last branch of the body is taken at the last point only. -/
theorem hcond0_1 : ∀ t : Fin cfg0.N, cond0_1 (grid0.coords t) ↔ t.val % 27 = 26 :=
  (fun t => by
    have ht : t.val < 27 := Nat.lt_of_lt_of_eq t.isLt N_0
    have e0 : (grid0.coords t 0).val = t.val / 1 % 27 := Pipeline.Grid.coords_val t 0 (by decide) rfl
    simp only [cond0_1, k0_cond2, e0]
    word_cmp
   : ∀ t : Fin grid0.N, cond0_1 (grid0.coords t) ↔ t.val % 27 = 26)

theorem liveAt0_0 : ∀ t : Fin cfg0.N, cfg0.idle 0 (grid0.coords t) = false := fun _ => rfl
theorem idleAt0_1_A : ∀ t : Fin cfg0.N, cond0_0 (grid0.coords t) → ¬cond0_1 (grid0.coords t) → cfg0.idle 1 (grid0.coords t) = true := by decide +kernel
theorem noFlush0_1_A : ∀ t : Fin cfg0.N, cond0_0 (grid0.coords t) → ¬cond0_1 (grid0.coords t) → (cfg0.win 1).flush t = false := by decide +kernel
theorem idleAt0_1_B : ∀ t : Fin cfg0.N, ¬cond0_0 (grid0.coords t) → ¬cond0_1 (grid0.coords t) → cfg0.idle 1 (grid0.coords t) = true := by decide +kernel
theorem noFlush0_1_B : ∀ t : Fin cfg0.N, ¬cond0_0 (grid0.coords t) → ¬cond0_1 (grid0.coords t) → (cfg0.win 1).flush t = false := by decide +kernel
theorem liveAt0_1_C : ∀ t : Fin cfg0.N, ¬cond0_0 (grid0.coords t) → cond0_1 (grid0.coords t) → cfg0.idle 1 (grid0.coords t) = false := by decide +kernel

abbrev VO0_1 : View sig .tc .smem S1x1 .f32 := (Memref.whole cc0_stg1_0 : Memref sig .tc .smem S1x1 .f32).view
abbrev ms0_0 (t : Fin cfg0.N) : Memref sig .tc .vmem S256x2560 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S1x1 .f32 := win0_1.stage (cfg0.slots t 1)
abbrev hs0_1 (t : Fin cfg0.N) : (ms0_1 t).IsWhole := hstage0_1 ((cfg0.slots t 1).cast nbuf0_1)
abbrev scM0_0 : Memref sig .tc .vmem S8x2560 .f32 := Memref.whole cc0_scratch0
abbrev VS0_0 : View sig .tc .vmem S8x2560 .f32 := scM0_0.view

/-- The scoped buffers the region neither stages through nor carries, each at some contents. -/
def Rest0 (c : Dev nD) : sProp 𝕄 :=
  iprop((∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg4_1), ((c : Thread nD τ).loc cc2_stg4_1) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f) ∗ (∃ f : Buf (Elt F) ((c : Thread nD τ).loc cc2_scratch0), ((c : Thread nD τ).loc cc2_scratch0) ↦{fullShare} f) ∗ (∃ f : Buf (Elt F) ((c : Thread nD τ).loc cc2_scratch1), ((c : Thread nD τ).loc cc2_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc2_stg0_0), ((c : Thread nD τ).loc cc2_stg0_0) ↦{fullShare} f))

/-- The class invariant `ΦA` of the region splits into the carried scratch, as owned memrefs, and the rest; -/
theorem PhiA0_split (c : Dev nD) :
    (Pipeline.ΦA spec0 c : sProp 𝕄)
      ⊢ iprop(iprop((∃ d, owns (c : Thread nD τ) scM0_0 fullShare d)) ∗ iprop(Rest0 c ∗ (∃ r, prngReg c r))) := by
  unfold Pipeline.ΦA Rest0; rw [scopedRest0_eq]; simp only [scM0_0, owns_whole]
  · iintro ⟨⟨H0, H1, H2, H3, H4, H5, H6, H7, H8, H9, H10, H11, H12, H13, H14, H15, H16, H17, H18, H19, H20⟩, Hg⟩
    isplitl [H0]
    · iexact H0
    isplitl [H1 H2 H3 H4 H5 H6 H7 H8 H9 H10 H11 H12 H13 H14 H15 H16 H17 H18 H19 H20]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    iexact Hg

/-- and is made of them again. -/
theorem PhiA0_merge (c : Dev nD) :
    iprop(iprop((∃ d, owns (c : Thread nD τ) scM0_0 fullShare d)) ∗ iprop(Rest0 c ∗ (∃ r, prngReg c r)))
      ⊢ (Pipeline.ΦA spec0 c : sProp 𝕄) := by
  unfold Pipeline.ΦA Rest0; rw [scopedRest0_eq]; simp only [scM0_0, owns_whole]
  · iintro ⟨H0, ⟨H1, H2, H3, H4, H5, H6, H7, H8, H9, H10, H11, H12, H13, H14, H15, H16, H17, H18, H19, H20⟩, Hg⟩
    isplitl [H0 H1 H2 H3 H4 H5 H6 H7 H8 H9 H10 H11 H12 H13 H14 H15 H16 H17 H18 H19 H20]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    iexact Hg

theorem PhiA0_eq (c : Dev nD) :
    (Pipeline.ΦA spec0 c : sProp 𝕄)
      = iprop(iprop((∃ d, owns (c : Thread nD τ) scM0_0 fullShare d)) ∗ iprop(Rest0 c ∗ (∃ r, prngReg c r))) :=
  Entails.antisymm (PhiA0_split c) (PhiA0_merge c)

set_option maxHeartbeats 1000000 in
noncomputable def kernelRun0_A (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : cond0_0 i) (hc1 : ¬cond0_1 i)
    (x0 : Vec F S256x2560 .bf16) :
    Σ' (L1 : List (View.Piece (Elt F) S1x1 .f32)), { LS0 : List (View.Piece (Elt F) S8x2560 .f32) //
      ∀ (xi1 : Vec F S1x1 .f32) (E : Set ℕ) (K : PUnit → sProp 𝕄),
        iprop(owns (c : Thread nD τ) arg1 fullShare x0 ∗ owns (c : Thread nD τ) arg2 fullShare xi1 ∗ (∃ d, owns (c : Thread nD τ) arg3 fullShare d)
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_gamma i arg1 harg1 arg2 harg2 arg3 harg3) K } := by
  refine ⟨[], ?_, fun xi1 E K => ?run⟩
  case run =>
    simp only [cc0_gamma_eq_skeleton]; unfold cc0_gamma_skel
    unfold owns
    iintro ⟨⟨%f0, %hf0, H0⟩, ⟨%f1, %hf1, H1⟩, ⟨%ds0, %fs0, -, HS0⟩, Hk⟩
    obtain rfl := harg1.eq_unread hf0; obtain rfl := harg2.eq_unread hf1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
noncomputable def kernelRun0_B (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : ¬cond0_0 i) (hc1 : ¬cond0_1 i)
    (x0 : Vec F S256x2560 .bf16) (xs0 : Vec F S8x2560 .f32) :
    Σ' (L1 : List (View.Piece (Elt F) S1x1 .f32)), { LS0 : List (View.Piece (Elt F) S8x2560 .f32) //
      ∀ (xi1 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xs0
            ∗ (iprop(owns (c : Thread nD τ) arg1 fullShare x0 ∗ owns (c : Thread nD τ) arg2 fullShare xi1 ∗ (∃ f, arg3.view.loc (c : Thread nD τ) ↦[arg3.view.set]{fullShare} arg3.view.writes (Elt F) f LS0)) -∗ K ⟨⟩))
          ⊢ wp frame (wpE (defs₀ (F := F)) Variants.none c none) E (cc0_gamma i arg1 harg1 arg2 harg2 arg3 harg3) K } := by
  refine ⟨[], ?_, fun xi1 E K => ?run⟩
  case run =>
    simp only [cc0_gamma_eq_skeleton]; unfold cc0_gamma_skel
    unfold owns
    iintro ⟨⟨%f0, %hf0, H0⟩, ⟨%f1, %hf1, H1⟩, ⟨%fs0, %hfs0, HS0⟩, Hk⟩
    obtain rfl := harg1.eq_unread hf0; obtain rfl := harg2.eq_unread hf1; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    iexists _; iexact HS0

set_option maxHeartbeats 1000000 in
noncomputable def kernelRun0_C (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : ¬cond0_0 i) (hc1 : cond0_1 i)
    (x0 : Vec F S256x2560 .bf16) (xs0 : Vec F S8x2560 .f32) :
    Σ' (L1 : List (View.Piece (Elt F) S1x1 .f32)), { LS0 : List (View.Piece (Elt F) S8x2560 .f32) //
      ∀ (E : Set ℕ) (K : PUnit → sProp 𝕄),
        iprop(owns (c : Thread nD τ) arg1 fullShare x0 ∗ (∃ d, owns (c : Thread nD τ) arg2 fullShare d) ∗ owns (c : Thread nD τ) arg3 fullShare xs0
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f LS0)) -∗ K ⟨⟩))
          ⊢ wp frame (wpE (defs₀ (F := F)) Variants.none c none) E (cc0_gamma i arg1 harg1 arg2 harg2 arg3 harg3) K } := by
  refine ⟨?_, ?_, fun E K => ?run⟩
  case run =>
    simp only [cc0_gamma_eq_skeleton]; unfold cc0_gamma_skel
    unfold owns
    iintro ⟨⟨%f0, %hf0, H0⟩, ⟨%d1, %f1, -, H1⟩, ⟨%fs0, %hfs0, HS0⟩, Hk⟩
    obtain rfl := harg1.eq_unread hf0; obtain rfl := harg3.eq_unread hfs0
    sl_exec (disch := first | sl_exact hc0 | sl_exact hc1)
    sl_step
    iapply Hk
    isplitl [H0]
    · iexists _; isplitr; · ipureintro; exact harg1.read_unread _
      iexact H0
    isplitl [H1]; · iexists _; iexact H1
    iexists _; iexact HS0

def out0_A_1 (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : cond0_0 i) (hc1 : ¬cond0_1 i)
    (x0 : Vec F S256x2560 .bf16) : Vec F S1x1 .f32 :=
  VO0_1.read (Elt F) (VO0_1.writes (Elt F) VO0_1.junk (kernelRun0_A c i arg1 harg1 arg2 harg2 arg3 harg3 hc0 hc1 x0).1)

theorem scover0_A_0 (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : cond0_0 i) (hc1 : ¬cond0_1 i)
    (x0 : Vec F S256x2560 .bf16) (y : S8x2560.Idx) :
    ∃ pc ∈ (kernelRun0_A c i arg1 harg1 arg2 harg2 arg3 harg3 hc0 hc1 x0).2.1, y ∈ pc.1.set :=
  View.cover_of_tiledL (kernelRun0_A c i arg1 harg1 arg2 harg2 arg3 harg3 hc0 hc1 x0).2.1 S8x2560.size (by sl_kernel_rfl) y

def sout0_A_0 (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : cond0_0 i) (hc1 : ¬cond0_1 i)
    (x0 : Vec F S256x2560 .bf16) : Vec F S8x2560 .f32 :=
  VS0_0.read (Elt F) (VS0_0.writes (Elt F) VS0_0.junk (kernelRun0_A c i arg1 harg1 arg2 harg2 arg3 harg3 hc0 hc1 x0).2.1)

def out0_B_1 (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : ¬cond0_0 i) (hc1 : ¬cond0_1 i)
    (x0 : Vec F S256x2560 .bf16) (xs0 : Vec F S8x2560 .f32) : Vec F S1x1 .f32 :=
  VO0_1.read (Elt F) (VO0_1.writes (Elt F) VO0_1.junk (kernelRun0_B c i arg1 harg1 arg2 harg2 arg3 harg3 hc0 hc1 x0 xs0).1)

theorem scover0_B_0 (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : ¬cond0_0 i) (hc1 : ¬cond0_1 i)
    (x0 : Vec F S256x2560 .bf16) (xs0 : Vec F S8x2560 .f32) (y : S8x2560.Idx) :
    ∃ pc ∈ (kernelRun0_B c i arg1 harg1 arg2 harg2 arg3 harg3 hc0 hc1 x0 xs0).2.1, y ∈ pc.1.set :=
  View.cover_of_tiledL (kernelRun0_B c i arg1 harg1 arg2 harg2 arg3 harg3 hc0 hc1 x0 xs0).2.1 S8x2560.size (by sl_kernel_rfl) y

def sout0_B_0 (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : ¬cond0_0 i) (hc1 : ¬cond0_1 i)
    (x0 : Vec F S256x2560 .bf16) (xs0 : Vec F S8x2560 .f32) : Vec F S8x2560 .f32 :=
  VS0_0.read (Elt F) (VS0_0.writes (Elt F) VS0_0.junk (kernelRun0_B c i arg1 harg1 arg2 harg2 arg3 harg3 hc0 hc1 x0 xs0).2.1)

/-- The last point's pieces cover the output's block. -/
theorem cover0_C_1 (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : ¬cond0_0 i) (hc1 : cond0_1 i)
    (x0 : Vec F S256x2560 .bf16) (xs0 : Vec F S8x2560 .f32) (y : S1x1.Idx) :
    ∃ pc ∈ (kernelRun0_C c i arg1 harg1 arg2 harg2 arg3 harg3 hc0 hc1 x0 xs0).1, y ∈ pc.1.set :=
  View.cover_of_tiledL (kernelRun0_C c i arg1 harg1 arg2 harg2 arg3 harg3 hc0 hc1 x0 xs0).1 S1x1.size (by sl_kernel_rfl) y

/-- What the last point leaves in the output's block. -/
def out0_C_1 (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : ¬cond0_0 i) (hc1 : cond0_1 i)
    (x0 : Vec F S256x2560 .bf16) (xs0 : Vec F S8x2560 .f32) : Vec F S1x1 .f32 :=
  VO0_1.read (Elt F) (VO0_1.writes (Elt F) VO0_1.junk (kernelRun0_C c i arg1 harg1 arg2 harg2 arg3 harg3 hc0 hc1 x0 xs0).1)

theorem scover0_C_0 (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : ¬cond0_0 i) (hc1 : cond0_1 i)
    (x0 : Vec F S256x2560 .bf16) (xs0 : Vec F S8x2560 .f32) (y : S8x2560.Idx) :
    ∃ pc ∈ (kernelRun0_C c i arg1 harg1 arg2 harg2 arg3 harg3 hc0 hc1 x0 xs0).2.1, y ∈ pc.1.set :=
  View.cover_of_tiledL (kernelRun0_C c i arg1 harg1 arg2 harg2 arg3 harg3 hc0 hc1 x0 xs0).2.1 S8x2560.size (by sl_kernel_rfl) y

def sout0_C_0 (c : Dev nD) (i : grid0.Coords) (arg1 : Memref sig .tc .vmem S256x2560 .bf16) (harg1 : arg1.IsWhole) (arg2 : Memref sig .tc .smem S1x1 .f32) (harg2 : arg2.IsWhole) (arg3 : Memref sig .tc .vmem S8x2560 .f32) (harg3 : arg3.IsWhole) (hc0 : ¬cond0_0 i) (hc1 : cond0_1 i)
    (x0 : Vec F S256x2560 .bf16) (xs0 : Vec F S8x2560 .f32) : Vec F S8x2560 .f32 :=
  VS0_0.read (Elt F) (VS0_0.writes (Elt F) VS0_0.junk (kernelRun0_C c i arg1 harg1 arg2 harg2 arg3 harg3 hc0 hc1 x0 xs0).2.1)

/-- What the output's staging buffer and the carried scratch hold after point `n`. -/
def outsAt0 (c : Dev nD) : (n : ℕ) → n < cfg0.N → Vec F S1x1 .f32 × Vec F S8x2560 .f32
  | 0, hn => (out0_A_1 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩), sout0_A_0 c (grid0.coords ⟨0, hn⟩) (ms0_0 ⟨0, hn⟩) (hs0_0 ⟨0, hn⟩) (ms0_1 ⟨0, hn⟩) (hs0_1 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩))
  | n + 1, hn =>
    if h0 : (n + 1) % 27 = 0 then
      if h1 : (n + 1) % 27 = 26 then
        False.elim (by have hN : n + 1 < 27 := lt_of_lt_of_eq hn (show cfg0.N = 27 from N_0); omega)
      else
        (out0_A_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩))
    else
      if h1 : (n + 1) % 27 = 26 then
        (out0_C_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (outsAt0 c n (Nat.lt_of_succ_lt hn)).2)
      else
        (out0_B_1 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (outsAt0 c n (Nat.lt_of_succ_lt hn)).2)

theorem outsAt0_A (c : Dev nD) (t : Fin cfg0.N) (h0 : t.val % 27 = 0) (h1 : ¬t.val % 27 = 26) :
    outsAt0 V c t.val t.isLt = (out0_A_1 c (grid0.coords t) (ms0_0 t) (hs0_0 t) (ms0_1 t) (hs0_1 t) scM0_0 (Memref.isWhole_whole _) ((hcond0_0 t).mpr h0) (fun h => h1 ((hcond0_1 t).mp h)) (iblk0 V c 0 t), sout0_A_0 c (grid0.coords t) (ms0_0 t) (hs0_0 t) (ms0_1 t) (hs0_1 t) scM0_0 (Memref.isWhole_whole _) ((hcond0_0 t).mpr h0) (fun h => h1 ((hcond0_1 t).mp h)) (iblk0 V c 0 t)) := by
  obtain ⟨n, hn⟩ := t
  cases n with
  | zero => exact rfl
  | succ n => exact (dif_pos h0).trans ((dif_neg h1).trans rfl)

theorem outsAt0_B (c : Dev nD) (t : Fin cfg0.N) (h0 : ¬t.val % 27 = 0) (h1 : ¬t.val % 27 = 26) :
    outsAt0 V c t.val t.isLt = (out0_B_1 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2, sout0_B_0 c (grid0.coords t) (ms0_0 t) (hs0_0 t) (ms0_1 t) (hs0_1 t) scM0_0 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 27 = 0) (h1 : t.val % 27 = 26) :
    outsAt0 V c t.val t.isLt = (out0_C_1 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2, sout0_C_0 c (grid0.coords t) (ms0_0 t) (hs0_0 t) (ms0_1 t) (hs0_1 t) scM0_0 (Memref.isWhole_whole _) (fun h => h0 ((hcond0_0 t).mp h)) ((hcond0_1 t).mpr h1) (iblk0 V c 0 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: the carried scratch at what the point before left. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2)) ∗ iprop(Rest0 c ∗ (∃ r, prngReg c r)))

theorem PhiS_zero0 (c : Dev nD) (n : ℕ) (h : n ≤ cfg0.N) (hz : n = 0) : PhiS0 V c n h = Pipeline.ΦA spec0 c := by
  subst hz; rfl

theorem PhiS_succ0 (c : Dev nD) (n : ℕ) (hn : n < cfg0.N) :
    PhiS0 V c (n + 1) hn = iprop(iprop(owns (c : Thread nD τ) scM0_0 fullShare ((outsAt0 V c n hn).2)) ∗ iprop(Rest0 c ∗ (∃ r, prngReg c r))) := rfl

theorem PhiS_pos0 (c : Dev nD) (n : ℕ) (h : n ≤ cfg0.N) (hz : n ≠ 0) :
    PhiS0 V c n h = iprop(iprop(owns (c : Thread nD τ) scM0_0 fullShare ((outsAt0 V c (n - 1) (by omega)).2)) ∗ iprop(Rest0 c ∗ (∃ r, prngReg c r))) := by
  cases n with
  | zero => exact absurd rfl hz
  | succ n => rfl

/-- The region's proof data, at the contents `V` the region is entered from. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc0 (c : Dev nD) (t : Fin cfg0.N) :
    (dat0 V c).Φ t.castSucc = PhiS0 V c t.val (Nat.le_of_lt t.isLt) := by
  dsimp only [dat0]; exact Pipeline.Dat.Φ_castSucc (PhiS0 V c) t

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS_succ0]
  have hN : t.val < 27 := lt_of_lt_of_eq t.isLt (show cfg0.N = 27 from N_0)
  by_cases h0 : t.val % 27 = 0
  · by_cases h1 : t.val % 27 = 26
    · exfalso; omega
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1_A t ((hcond0_0 t).mpr h0) (fun h => h1 ((hcond0_1 t).mp h))) (noFlush0_1_A t ((hcond0_0 t).mpr h0) (fun h => h1 ((hcond0_1 t).mp h)))]
      by_cases hz : t.val = 0
      · rw [PhiS_castSucc0 V c t, PhiS_zero0 V c _ _ hz, PhiA0_eq]
        rw [outsAt0_A V c t h0 h1]
        unfold sout0_A_0; (try dsimp only)
        iintro ⟨⟨HS0, Hg⟩, Ho, ⟨%d0, H0⟩, ⟨%d1, H1⟩⟩
        iapply ((kernelRun0_A c (grid0.coords t) _ _ _ _ _ _ ((hcond0_0 t).mpr h0) (fun h => h1 ((hcond0_1 t).mp h)) (iblk0 V c 0 t)).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _)
          iexact Hg
        isplitl [Ho]; · iexact Ho
        isplitl [H0]; · iexact H0
        iexists _; iexact H1
      · exfalso; have hN : t.val < 27 := lt_of_lt_of_eq t.isLt (show cfg0.N = 27 from N_0); omega
  · by_cases h1 : t.val % 27 = 26
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1_C t (fun h => h0 ((hcond0_0 t).mp h)) ((hcond0_1 t).mpr h1)], after0_1]
      by_cases hz : t.val = 0
      · exfalso; have hN : t.val < 27 := lt_of_lt_of_eq t.isLt (show cfg0.N = 27 from N_0); omega
      · rw [PhiS_castSucc0 V c t, PhiS_pos0 V c _ _ hz]
        rw [outsAt0_C V c t h0 h1]
        unfold out0_C_1 sout0_C_0; (try dsimp only)
        iintro ⟨⟨HS0, Hg⟩, Ho, ⟨%d0, H0⟩, ⟨%d1, H1⟩⟩
        iapply ((kernelRun0_C c (grid0.coords t) _ _ _ _ _ _ (fun h => h0 ((hcond0_0 t).mp h)) ((hcond0_1 t).mpr h1) (iblk0 V c 0 t) _).2.2 Set.univ _)
        isplitl [H0]; · iexact H0
        isplitl [H1]; · iexists _; iexact H1
        isplitl [HS0]; · iexact HS0
        iintro ⟨H0, ⟨%e1, H1⟩, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _)
          iexact Hg
        isplitl [Ho]; · iexact Ho
        isplitl [H0]; · iexact H0
        unfold owns; iexists _; isplitr
        swap; · iexact H1
        ipureintro; exact View.read_writes_of_cover _ _ _ _ _ (cover0_C_1 c _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [Dat.leavesExact_idle (dat0 V c) 1 t (idleAt0_1_B t (fun h => h0 ((hcond0_0 t).mp h)) (fun h => h1 ((hcond0_1 t).mp h))) (noFlush0_1_B t (fun h => h0 ((hcond0_0 t).mp h)) (fun h => h1 ((hcond0_1 t).mp h)))]
      by_cases hz : t.val = 0
      · exfalso; have hN : t.val < 27 := lt_of_lt_of_eq t.isLt (show cfg0.N = 27 from N_0); omega
      · rw [PhiS_castSucc0 V c t, PhiS_pos0 V c _ _ hz]
        rw [outsAt0_B V c t h0 h1]
        unfold sout0_B_0; (try dsimp only)
        iintro ⟨⟨HS0, Hg⟩, Ho, ⟨%d0, H0⟩, ⟨%d1, H1⟩⟩
        iapply ((kernelRun0_B c (grid0.coords t) _ _ _ _ _ _ (fun h => h0 ((hcond0_0 t).mp h)) (fun h => h1 ((hcond0_1 t).mp h)) (iblk0 V c 0 t) _).2.2 _ Set.univ _)
        isplitl [H0]; · iexact H0
        isplitl [H1]; · iexact H1
        isplitl [HS0]; · iexact HS0
        iintro ⟨H0, H1, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _)
          iexact Hg
        isplitl [Ho]; · iexact Ho
        isplitl [H0]; · iexact H0
        iexists _; iexact H1

theorem defs₀_row0 (t : Fin cfg0.N) :
    defs₀ (F := F) .tc cfg0.body (cfg0.bodyArgs t (cfg0.slots t)) = bodyAt0 t := by
  unfold defs₀; rw [Defs.onTc_tc]

/-- The body obligation of the region, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The launch's invariant gives the region's before the first point. -/
theorem hin0 (c : Dev nD) : Pipeline.ΦA spec0 c ⊢ (dat0 V c).Φ 0 := by
  rw [show (dat0 V c).Φ 0 = PhiS0 V c 0 (Nat.zero_le _) from rfl, PhiS_zero0 V c 0 _ rfl]
  try exact Idealize.SL.BI.Entails.refl _

theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS_pos0 V c _ _ ht, PhiA0_eq]
  iintro ⟨HS0, Hg⟩
  isplitl [HS0]
  · iexists _; iexact HS0
  iexact Hg

/-- The region's invariant after the last point gives the launch's back. -/
theorem hout0 (c : Dev nD) : (dat0 V c).Φ (Fin.last cfg0.N) ⊢ Pipeline.ΦA spec0 c :=
  Phi_out0 V c _ (by rw [Fin.val_last]; have : cfg0.N = 27 := N_0; omega)

/-- What point `n` leaves in the carried scratch over what the point before left (`acc`). -/
def scAt0_0 (c : Dev nD) (n : ℕ) (hb : n < cfg0.N) (acc : Vec F S8x2560 .f32) : Vec F S8x2560 .f32 :=
  if h0 : n % 27 = 0 then
    if h1 : n % 27 = 26 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk0 V c 0 (⟨n, hb⟩ : Fin cfg0.N))
  else
    if h1 : n % 27 = 26 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk0 V c 0 (⟨n, hb⟩ : Fin cfg0.N)) acc
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk0 V c 0 (⟨n, hb⟩ : Fin cfg0.N)) acc

theorem soutsAt0_0_eq (c : Dev nD) (t : Fin cfg0.N) :
    (outsAt0 V c t.val t.isLt).2 = Pipeline.accAt (fun n h => scAt0_0 V c n h (VS0_0.read (Elt F) VS0_0.junk)) (scAt0_0 V c) (27 * (t.val / 27)) (t.val % 27)
      (by have h1 := t.isLt; have h2 := Nat.div_add_mod t.val 27; omega) :=
  Pipeline.eq_accAt_of_mod (fun n h => (outsAt0 V c n h).2) 27 (fun n h => scAt0_0 V c n h (VS0_0.read (Elt F) VS0_0.junk)) (scAt0_0 V c)
    (fun n h hn => by
      have hN := lt_of_lt_of_eq h (show cfg0.N = 27 from N_0)
      by_cases h0 : n % 27 = 0 <;> by_cases h1 : n % 27 = 26
      all_goals first | (exfalso; omega) | (rw [outsAt0_A V c ⟨n, h⟩ h0 h1]; dsimp only; unfold scAt0_0; rw [dif_pos h0, dif_neg h1] <;> try rfl) | (rw [outsAt0_B V c ⟨n, h⟩ h0 h1]; dsimp only; unfold scAt0_0; rw [dif_neg h0, dif_neg h1] <;> try rfl) | (rw [outsAt0_C V c ⟨n, h⟩ h0 h1]; dsimp only; unfold scAt0_0; rw [dif_neg h0, dif_pos h1] <;> try rfl))
    (fun n h hn => by
      have hN := lt_of_lt_of_eq h (show cfg0.N = 27 from N_0)
      by_cases h0 : (n + 1) % 27 = 0 <;> by_cases h1 : (n + 1) % 27 = 26
      all_goals first | (exfalso; omega) | (rw [outsAt0_A V c ⟨n + 1, h⟩ h0 h1]; dsimp only; unfold scAt0_0; rw [dif_pos h0, dif_neg h1] <;> try rfl) | (rw [outsAt0_B V c ⟨n + 1, h⟩ h0 h1]; dsimp only; unfold scAt0_0; rw [dif_neg h0, dif_neg h1] <;> try rfl) | (rw [outsAt0_C V c ⟨n + 1, h⟩ h0 h1]; dsimp only; unfold scAt0_0; rw [dif_neg h0, dif_pos h1] <;> try rfl))
    (by decide) t.val t.isLt _

/-- After point `n` the carried scratch is the fold of the points from 0 to `n`. -/
theorem soutsAt0_0_sweep (c : Dev nD) (n : ℕ) (hn : n < cfg0.N) :
    (outsAt0 V c n hn).2 = Pipeline.accAt (fun n h => scAt0_0 V c n h (VS0_0.read (Elt F) VS0_0.junk)) (scAt0_0 V c) 0 n (by omega) := by
  have e := soutsAt0_0_eq V c ⟨n, hn⟩
  have hN := lt_of_lt_of_eq hn (show cfg0.N = 27 from N_0)
  have hd : n / 27 = 0 := Nat.div_eq_of_lt hN
  have hm : n % 27 = n := Nat.mod_eq_of_lt hN
  simpa only [hd, hm, Nat.mul_zero] using e

end Cert.KernelIdeal.Gen

end
-- ==== Proof.KernelIdeal.Region1.lean ====
/- The second `pallas_call` (ternary weights and their packing): the triple of its body at every grid point and its proof data. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev VO1_2 : View sig .tc .vmem S256x2560 .bf16 := (Memref.whole cc1_stg2_0 : Memref sig .tc .vmem S256x2560 .bf16).view
abbrev VO1_3 : View sig .tc .vmem S256x640 .i8 := (Memref.whole cc1_stg3_0 : Memref sig .tc .vmem S256x640 .i8).view
abbrev ms1_0 (t : Fin cfg1.N) : Memref sig .tc .smem S1x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x2560 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x2560 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x640 .i8 := win1_3.stage (cfg1.slots t 3)
abbrev hs1_3 (t : Fin cfg1.N) : (ms1_3 t).IsWhole := hstage1_3 ((cfg1.slots t 3).cast nbuf1_3)

set_option maxHeartbeats 1000000 in
noncomputable def kernelRun1_A (c : Dev nD) (i : grid1.Coords) (arg1 : Memref sig .tc .smem S1x1 .f32) (harg1 : arg1.IsWhole) (arg2 : Memref sig .tc .vmem S256x2560 .bf16) (harg2 : arg2.IsWhole) (arg3 : Memref sig .tc .vmem S256x2560 .bf16) (harg3 : arg3.IsWhole) (arg4 : Memref sig .tc .vmem S256x640 .i8) (harg4 : arg4.IsWhole)
    (x0 : Vec F S1x1 .f32) (x1 : Vec F S256x2560 .bf16) :
    Σ' (L2 : List (View.Piece (Elt F) S256x2560 .bf16)), { L3 : List (View.Piece (Elt F) S256x640 .i8) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3)) -∗ K ⟨⟩))
          ⊢ wp frame (wpE (defs₀ (F := F)) Variants.none c none) E (cc1_ternary i arg1 harg1 arg2 harg2 arg3 harg3 arg4 harg4) K } := by
  refine ⟨?_, ?_, fun E K => ?run⟩
  case run =>
    simp only [cc1_ternary_eq_skeleton]; unfold cc1_ternary_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton]
    unfold owns
    iintro ⟨⟨%f0, %hf0, H0⟩, ⟨%f1, %hf1, H1⟩, ⟨%d2, %f2, -, H2⟩, ⟨%d3, %f3, -, H3⟩, Hk⟩
    obtain rfl := harg1.eq_unread hf0; obtain rfl := harg2.eq_unread hf1
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact H3

theorem cover1_A_2 (c : Dev nD) (i : grid1.Coords) (arg1 : Memref sig .tc .smem S1x1 .f32) (harg1 : arg1.IsWhole) (arg2 : Memref sig .tc .vmem S256x2560 .bf16) (harg2 : arg2.IsWhole) (arg3 : Memref sig .tc .vmem S256x2560 .bf16) (harg3 : arg3.IsWhole) (arg4 : Memref sig .tc .vmem S256x640 .i8) (harg4 : arg4.IsWhole)
    (x0 : Vec F S1x1 .f32) (x1 : Vec F S256x2560 .bf16) (y : S256x2560.Idx) :
    ∃ pc ∈ (kernelRun1_A c i arg1 harg1 arg2 harg2 arg3 harg3 arg4 harg4 x0 x1).1, y ∈ pc.1.set :=
  View.cover_of_tiledL (kernelRun1_A c i arg1 harg1 arg2 harg2 arg3 harg3 arg4 harg4 x0 x1).1 S256x512.size (by sl_kernel_rfl) y

def out1_A_2 (c : Dev nD) (i : grid1.Coords) (arg1 : Memref sig .tc .smem S1x1 .f32) (harg1 : arg1.IsWhole) (arg2 : Memref sig .tc .vmem S256x2560 .bf16) (harg2 : arg2.IsWhole) (arg3 : Memref sig .tc .vmem S256x2560 .bf16) (harg3 : arg3.IsWhole) (arg4 : Memref sig .tc .vmem S256x640 .i8) (harg4 : arg4.IsWhole)
    (x0 : Vec F S1x1 .f32) (x1 : Vec F S256x2560 .bf16) : Vec F S256x2560 .bf16 :=
  VO1_2.read (Elt F) (VO1_2.writes (Elt F) VO1_2.junk (kernelRun1_A c i arg1 harg1 arg2 harg2 arg3 harg3 arg4 harg4 x0 x1).1)

theorem cover1_A_3 (c : Dev nD) (i : grid1.Coords) (arg1 : Memref sig .tc .smem S1x1 .f32) (harg1 : arg1.IsWhole) (arg2 : Memref sig .tc .vmem S256x2560 .bf16) (harg2 : arg2.IsWhole) (arg3 : Memref sig .tc .vmem S256x2560 .bf16) (harg3 : arg3.IsWhole) (arg4 : Memref sig .tc .vmem S256x640 .i8) (harg4 : arg4.IsWhole)
    (x0 : Vec F S1x1 .f32) (x1 : Vec F S256x2560 .bf16) (y : S256x640.Idx) :
    ∃ pc ∈ (kernelRun1_A c i arg1 harg1 arg2 harg2 arg3 harg3 arg4 harg4 x0 x1).2.1, y ∈ pc.1.set :=
  View.cover_of_tiledL (kernelRun1_A c i arg1 harg1 arg2 harg2 arg3 harg3 arg4 harg4 x0 x1).2.1 S256x128.size (by sl_kernel_rfl) y

def out1_A_3 (c : Dev nD) (i : grid1.Coords) (arg1 : Memref sig .tc .smem S1x1 .f32) (harg1 : arg1.IsWhole) (arg2 : Memref sig .tc .vmem S256x2560 .bf16) (harg2 : arg2.IsWhole) (arg3 : Memref sig .tc .vmem S256x2560 .bf16) (harg3 : arg3.IsWhole) (arg4 : Memref sig .tc .vmem S256x640 .i8) (harg4 : arg4.IsWhole)
    (x0 : Vec F S1x1 .f32) (x1 : Vec F S256x2560 .bf16) : Vec F S256x640 .i8 :=
  VO1_3.read (Elt F) (VO1_3.writes (Elt F) VO1_3.junk (kernelRun1_A c i arg1 harg1 arg2 harg2 arg3 harg3 arg4 harg4 x0 x1).2.1)

/-- What the two outputs' staging buffers hold after point `t`. -/
def outsAt1 (c : Dev nD) (t : Fin cfg1.N) : Vec F S256x2560 .bf16 × Vec F S256x640 .i8 :=
  (out1_A_2 c (grid1.coords t) (ms1_0 t) (hs1_0 t) (ms1_1 t) (hs1_1 t) (ms1_2 t) (hs1_2 t) (ms1_3 t) (hs1_3 t) (iblk1 V c 0 t) (iblk1 V c 1 t), out1_A_3 c (grid1.coords t) (ms1_0 t) (hs1_0 t) (ms1_1 t) (hs1_1 t) (ms1_2 t) (hs1_2 t) (ms1_3 t) (hs1_3 t) (iblk1 V c 0 t) (iblk1 V c 1 t))

/-- The region's proof data, at the contents `V` the region is entered from. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t).1
    | ⟨3, _⟩ => (outsAt1 V c t).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t).1 := by dsimp only [dat1]
theorem after1_3 (c : Dev nD) (t : Fin cfg1.N) : (dat1 V c).after 3 t = (outsAt1 V c t).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2, after1_3]
  unfold outsAt1
  unfold out1_A_2 out1_A_3; (try dsimp only)
  iintro ⟨HΦ, Ho, ⟨%d0, H0⟩, ⟨%d1, H1⟩, ⟨%d2, H2⟩, ⟨%d3, H3⟩⟩
  iapply ((kernelRun1_A c (grid1.coords t) _ _ _ _ _ _ _ _ (iblk1 V c 0 t) (iblk1 V c 1 t)).2.2 Set.univ _)
  isplitl [H0]; · iexact H0
  isplitl [H1]; · iexact H1
  isplitl [H2]; · iexists _; iexact H2
  isplitl [H3]; · iexists _; iexact H3
  iintro ⟨H0, H1, ⟨%e2, H2⟩, ⟨%e3, H3⟩⟩
  isplitl [HΦ]; · iexact HΦ
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover1_A_2 c _ _ _ _ _ _ _ _ _ _ _)
  unfold owns; iexists _; isplitr
  swap; · iexact H3
  ipureintro; exact View.read_writes_of_cover _ _ _ _ _ (cover1_A_3 c _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

/-- The body obligation of the region, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Gen

end
-- ==== Proof.KernelIdeal.Region2Run.lean ====
/- The third `pallas_call` (quantised activations times ternary weights): the runs of its body in its two cases. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.TableIdle
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := k2_cond1 i = 1#1
/-- The branch of the body is taken at the first column tile of each row tile. -/
theorem hcond2_0 : ∀ t : Fin cfg2.N, cond2_0 (grid2.coords t) ↔ t.val % 14 = 0 :=
  (fun t => by
    have ht : t.val < 224 := Nat.lt_of_lt_of_eq t.isLt N_2
    have e0 : (grid2.coords t 0).val = t.val / 14 % 16 := Pipeline.Grid.coords_val t 0 (by decide) rfl
    have e1 : (grid2.coords t 1).val = t.val / 1 % 14 := Pipeline.Grid.coords_val t 1 (by decide) rfl
    simp only [cond2_0, k2_cond1, e0, e1]
    word_cmp
   : ∀ t : Fin grid2.N, cond2_0 (grid2.coords t) ↔ t.val % 14 = 0)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl

abbrev ms2_0 (t : Fin cfg2.N) : Memref sig .tc .smem S1x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x2560 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2560 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S7168x2560 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x512 .bf16 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1024x2560 .i8 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1x1024 .f32 := win2_6.stage (cfg2.slots t 6)
abbrev hs2_6 (t : Fin cfg2.N) : (ms2_6 t).IsWhole := hstage2_6 ((cfg2.slots t 6).cast nbuf2_6)
abbrev scM2_0 : Memref sig .tc .vmem S1024x2560 .bf16 := Memref.whole cc2_scratch0
abbrev scM2_1 : Memref sig .tc .vmem S1024x128 .f32 := Memref.whole cc2_scratch1

theorem liveAt2_5_A : ∀ t : Fin cfg2.N, cond2_0 (grid2.coords t) → cfg2.idle 5 (grid2.coords t) = false := by decide +kernel
theorem idleAt2_5_B : ∀ t : Fin cfg2.N, ¬cond2_0 (grid2.coords t) → cfg2.idle 5 (grid2.coords t) = true := by decide +kernel
theorem liveAt2_6_A : ∀ t : Fin cfg2.N, cond2_0 (grid2.coords t) → cfg2.idle 6 (grid2.coords t) = false := by decide +kernel
theorem idleAt2_6_B : ∀ t : Fin cfg2.N, ¬cond2_0 (grid2.coords t) → cfg2.idle 6 (grid2.coords t) = true := by decide +kernel
theorem liveAt2_4 : ∀ t : Fin cfg2.N, cfg2.idle 4 (grid2.coords t) = false := fun _ => rfl
abbrev VO2_4 : View sig .tc .vmem S1024x512 .bf16 := (Memref.whole cc2_stg4_0 : Memref sig .tc .vmem S1024x512 .bf16).view
abbrev VO2_5 : View sig .tc .vmem S1024x2560 .i8 := (Memref.whole cc2_stg5_0 : Memref sig .tc .vmem S1024x2560 .i8).view
abbrev VO2_6 : View sig .tc .vmem S1x1x1024 .f32 := (Memref.whole cc2_stg6_0 : Memref sig .tc .vmem S1x1x1024 .f32).view
abbrev VS2_0 : View sig .tc .vmem S1024x2560 .bf16 := scM2_0.view
abbrev VS2_1 : View sig .tc .vmem S1024x128 .f32 := scM2_1.view

/-- The scoped buffers the region neither stages through nor carries, each at some contents. -/
def Rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc1_stg0_0), ((c : Thread nD τ).loc cc1_stg0_0) ↦{fullShare} f))

/-- The class invariant `ΦA` of the region splits into the carried scratch, as owned memrefs, and the rest; -/
theorem PhiA2_split (c : Dev nD) :
    (Pipeline.ΦA spec2 c : sProp 𝕄)
      ⊢ iprop(iprop((∃ d, owns (c : Thread nD τ) scM2_0 fullShare d) ∗ (∃ d, owns (c : Thread nD τ) scM2_1 fullShare d)) ∗ iprop(Rest2 c ∗ (∃ r, prngReg c r))) := by
  unfold Pipeline.ΦA Rest2; rw [scopedRest2_eq]; simp only [scM2_0, scM2_1, owns_whole]
  · iintro ⟨⟨H0, H1, H2, H3, H4, H5, H6, H7, H8, H9, H10, H11, H12⟩, Hg⟩
    isplitl [H9 H10]
    · isplitl [H9]; · iexact H9
      iexact H10
    isplitl [H0 H1 H2 H3 H4 H5 H6 H7 H8 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H11]; · iexact H11
      iexact H12
    iexact Hg

/-- and is made of them again. -/
theorem PhiA2_merge (c : Dev nD) :
    iprop(iprop((∃ d, owns (c : Thread nD τ) scM2_0 fullShare d) ∗ (∃ d, owns (c : Thread nD τ) scM2_1 fullShare d)) ∗ iprop(Rest2 c ∗ (∃ r, prngReg c r)))
      ⊢ (Pipeline.ΦA spec2 c : sProp 𝕄) := by
  unfold Pipeline.ΦA Rest2; rw [scopedRest2_eq]; simp only [scM2_0, scM2_1, owns_whole]
  · iintro ⟨⟨H9, H10⟩, ⟨H0, H1, H2, H3, H4, H5, H6, H7, H8, H11, H12⟩, Hg⟩
    isplitl [H0 H1 H2 H3 H4 H5 H6 H7 H8 H9 H10 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    iexact Hg

theorem PhiA2_eq (c : Dev nD) :
    (Pipeline.ΦA spec2 c : sProp 𝕄)
      = iprop(iprop((∃ d, owns (c : Thread nD τ) scM2_0 fullShare d) ∗ (∃ d, owns (c : Thread nD τ) scM2_1 fullShare d)) ∗ iprop(Rest2 c ∗ (∃ r, prngReg c r))) :=
  Entails.antisymm (PhiA2_split c) (PhiA2_merge c)

/-- The pieces all trips of the body's loop write: the codes, the scratch codes, the scratch scales. -/
def pieces2 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i) (x1 : Vec F S1024x2560 .bf16) (x2 : Vec F S1x2560 .f32) :
    List (View.Piece (Elt F) S1024x2560 .i8) × List (View.Piece (Elt F) S1024x2560 .bf16) × List (View.Piece (Elt F) S1024x128 .f32) :=
  (pb_k2_t1 Variants.none c none i arg2 harg2 arg3 harg3 arg4 harg4 arg5 harg5 arg6 harg6 arg7 harg7 arg8 harg8 arg9 harg9 arg10 harg10 hc0 (View.readAt (Elt F) arg4.view (Rect.unit ![0, 0] S1x2560.size inb_S1x2560_S1x2560_0_0).toLoadRect (harg4.unread x2)) (harg3.unread x1) (Scf.trips k2_t1_loop.lb k2_t1_loop.ub k2_t1_loop.st))

/-- They cover this buffer, -/
theorem cover2_A_5 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i) (x1 : Vec F S1024x2560 .bf16) (x2 : Vec F S1x2560 .f32) (y : S1024x2560.Idx) :
    ∃ pc ∈ (pb_k2_t1 Variants.none c none i arg2 harg2 arg3 harg3 arg4 harg4 arg5 harg5 arg6 harg6 arg7 harg7 arg8 harg8 arg9 harg9 arg10 harg10 hc0 (View.readAt (Elt F) arg4.view (Rect.unit ![0, 0] S1x2560.size inb_S1x2560_S1x2560_0_0).toLoadRect (harg4.unread x2)) (harg3.unread x1) (Scf.trips k2_t1_loop.lb k2_t1_loop.ub k2_t1_loop.st)).1, y ∈ pc.1.set :=
  View.cover_of_tiledL (pb_k2_t1 Variants.none c none i arg2 harg2 arg3 harg3 arg4 harg4 arg5 harg5 arg6 harg6 arg7 harg7 arg8 harg8 arg9 harg9 arg10 harg10 hc0 (View.readAt (Elt F) arg4.view (Rect.unit ![0, 0] S1x2560.size inb_S1x2560_S1x2560_0_0).toLoadRect (harg4.unread x2)) (harg3.unread x1) (Scf.trips k2_t1_loop.lb k2_t1_loop.ub k2_t1_loop.st)).1 S32x2560.size (by sl_kernel_rfl) y
/-- leave this in it, -/
def out2_A_5 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i) (x1 : Vec F S1024x2560 .bf16) (x2 : Vec F S1x2560 .f32) : Vec F S1024x2560 .i8 :=
  VO2_5.read (Elt F) (VO2_5.writes (Elt F) VO2_5.junk (pieces2 c i arg2 harg2 arg3 harg3 arg4 harg4 arg5 harg5 arg6 harg6 arg7 harg7 arg8 harg8 arg9 harg9 arg10 harg10 hc0 x1 x2).1)
/-- and so, whatever it held, the whole buffer ends at that. -/
theorem writes2_A_5 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i) (x1 : Vec F S1024x2560 .bf16) (x2 : Vec F S1x2560 .f32) (f) :
    arg7.view.writes (Elt F) f (pb_k2_t1 Variants.none c none i arg2 harg2 arg3 harg3 arg4 harg4 arg5 harg5 arg6 harg6 arg7 harg7 arg8 harg8 arg9 harg9 arg10 harg10 hc0 (View.readAt (Elt F) arg4.view (Rect.unit ![0, 0] S1x2560.size inb_S1x2560_S1x2560_0_0).toLoadRect (harg4.unread x2)) (harg3.unread x1) (Scf.trips k2_t1_loop.lb k2_t1_loop.ub k2_t1_loop.st)).1 = harg7.unread (out2_A_5 c i arg2 harg2 arg3 harg3 arg4 harg4 arg5 harg5 arg6 harg6 arg7 harg7 arg8 harg8 arg9 harg9 arg10 harg10 hc0 x1 x2) :=
  harg7.eq_unread (View.read_writes_of_cover _ _ _ _ _ (cover2_A_5 c i arg2 harg2 arg3 harg3 arg4 harg4 arg5 harg5 arg6 harg6 arg7 harg7 arg8 harg8 arg9 harg9 arg10 harg10 hc0 x1 x2))

/-- They cover this buffer, -/
theorem cover2_A_s0 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i) (x1 : Vec F S1024x2560 .bf16) (x2 : Vec F S1x2560 .f32) (y : S1024x2560.Idx) :
    ∃ pc ∈ (pb_k2_t1 Variants.none c none i arg2 harg2 arg3 harg3 arg4 harg4 arg5 harg5 arg6 harg6 arg7 harg7 arg8 harg8 arg9 harg9 arg10 harg10 hc0 (View.readAt (Elt F) arg4.view (Rect.unit ![0, 0] S1x2560.size inb_S1x2560_S1x2560_0_0).toLoadRect (harg4.unread x2)) (harg3.unread x1) (Scf.trips k2_t1_loop.lb k2_t1_loop.ub k2_t1_loop.st)).2.1, y ∈ pc.1.set :=
  View.cover_of_tiledL (pb_k2_t1 Variants.none c none i arg2 harg2 arg3 harg3 arg4 harg4 arg5 harg5 arg6 harg6 arg7 harg7 arg8 harg8 arg9 harg9 arg10 harg10 hc0 (View.readAt (Elt F) arg4.view (Rect.unit ![0, 0] S1x2560.size inb_S1x2560_S1x2560_0_0).toLoadRect (harg4.unread x2)) (harg3.unread x1) (Scf.trips k2_t1_loop.lb k2_t1_loop.ub k2_t1_loop.st)).2.1 S32x2560.size (by sl_kernel_rfl) y
/-- leave this in it, -/
def out2_A_s0 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i) (x1 : Vec F S1024x2560 .bf16) (x2 : Vec F S1x2560 .f32) : Vec F S1024x2560 .bf16 :=
  VS2_0.read (Elt F) (VS2_0.writes (Elt F) VS2_0.junk (pieces2 c i arg2 harg2 arg3 harg3 arg4 harg4 arg5 harg5 arg6 harg6 arg7 harg7 arg8 harg8 arg9 harg9 arg10 harg10 hc0 x1 x2).2.1)
/-- and so, whatever it held, the whole buffer ends at that. -/
theorem writes2_A_s0 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i) (x1 : Vec F S1024x2560 .bf16) (x2 : Vec F S1x2560 .f32) (f) :
    arg9.view.writes (Elt F) f (pb_k2_t1 Variants.none c none i arg2 harg2 arg3 harg3 arg4 harg4 arg5 harg5 arg6 harg6 arg7 harg7 arg8 harg8 arg9 harg9 arg10 harg10 hc0 (View.readAt (Elt F) arg4.view (Rect.unit ![0, 0] S1x2560.size inb_S1x2560_S1x2560_0_0).toLoadRect (harg4.unread x2)) (harg3.unread x1) (Scf.trips k2_t1_loop.lb k2_t1_loop.ub k2_t1_loop.st)).2.1 = harg9.unread (out2_A_s0 c i arg2 harg2 arg3 harg3 arg4 harg4 arg5 harg5 arg6 harg6 arg7 harg7 arg8 harg8 arg9 harg9 arg10 harg10 hc0 x1 x2) :=
  harg9.eq_unread (View.read_writes_of_cover _ _ _ _ _ (cover2_A_s0 c i arg2 harg2 arg3 harg3 arg4 harg4 arg5 harg5 arg6 harg6 arg7 harg7 arg8 harg8 arg9 harg9 arg10 harg10 hc0 x1 x2))

/-- They cover this buffer, -/
theorem cover2_A_s1 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i) (x1 : Vec F S1024x2560 .bf16) (x2 : Vec F S1x2560 .f32) (y : S1024x128.Idx) :
    ∃ pc ∈ (pb_k2_t1 Variants.none c none i arg2 harg2 arg3 harg3 arg4 harg4 arg5 harg5 arg6 harg6 arg7 harg7 arg8 harg8 arg9 harg9 arg10 harg10 hc0 (View.readAt (Elt F) arg4.view (Rect.unit ![0, 0] S1x2560.size inb_S1x2560_S1x2560_0_0).toLoadRect (harg4.unread x2)) (harg3.unread x1) (Scf.trips k2_t1_loop.lb k2_t1_loop.ub k2_t1_loop.st)).2.2, y ∈ pc.1.set :=
  View.cover_of_tiledL (pb_k2_t1 Variants.none c none i arg2 harg2 arg3 harg3 arg4 harg4 arg5 harg5 arg6 harg6 arg7 harg7 arg8 harg8 arg9 harg9 arg10 harg10 hc0 (View.readAt (Elt F) arg4.view (Rect.unit ![0, 0] S1x2560.size inb_S1x2560_S1x2560_0_0).toLoadRect (harg4.unread x2)) (harg3.unread x1) (Scf.trips k2_t1_loop.lb k2_t1_loop.ub k2_t1_loop.st)).2.2 S32x128.size (by sl_kernel_rfl) y
/-- leave this in it, -/
def out2_A_s1 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i) (x1 : Vec F S1024x2560 .bf16) (x2 : Vec F S1x2560 .f32) : Vec F S1024x128 .f32 :=
  VS2_1.read (Elt F) (VS2_1.writes (Elt F) VS2_1.junk (pieces2 c i arg2 harg2 arg3 harg3 arg4 harg4 arg5 harg5 arg6 harg6 arg7 harg7 arg8 harg8 arg9 harg9 arg10 harg10 hc0 x1 x2).2.2)
/-- and so, whatever it held, the whole buffer ends at that. -/
theorem writes2_A_s1 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i) (x1 : Vec F S1024x2560 .bf16) (x2 : Vec F S1x2560 .f32) (f) :
    arg10.view.writes (Elt F) f (pb_k2_t1 Variants.none c none i arg2 harg2 arg3 harg3 arg4 harg4 arg5 harg5 arg6 harg6 arg7 harg7 arg8 harg8 arg9 harg9 arg10 harg10 hc0 (View.readAt (Elt F) arg4.view (Rect.unit ![0, 0] S1x2560.size inb_S1x2560_S1x2560_0_0).toLoadRect (harg4.unread x2)) (harg3.unread x1) (Scf.trips k2_t1_loop.lb k2_t1_loop.ub k2_t1_loop.st)).2.2 = harg10.unread (out2_A_s1 c i arg2 harg2 arg3 harg3 arg4 harg4 arg5 harg5 arg6 harg6 arg7 harg7 arg8 harg8 arg9 harg9 arg10 harg10 hc0 x1 x2) :=
  harg10.eq_unread (View.read_writes_of_cover _ _ _ _ _ (cover2_A_s1 c i arg2 harg2 arg3 harg3 arg4 harg4 arg5 harg5 arg6 harg6 arg7 harg7 arg8 harg8 arg9 harg9 arg10 harg10 hc0 x1 x2))

-- (the run's proof term is large: the definition's epilogue walks it past the default budget)
set_option maxHeartbeats 2000000 in
/-- The run of the body at a first column tile: the pieces it writes into the first and the third output, with its
    triple; the second output and the scratch end at what the loop leaves in them. -/
noncomputable def kernelRun2_A (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i)
    (x0 : Vec F S1x1 .f32) (x1 : Vec F S1024x2560 .bf16) (x2 : Vec F S1x2560 .f32) (x3 : Vec F S7168x2560 .bf16) :
    Σ' (L4 : List (View.Piece (Elt F) S1024x512 .bf16)), { L6 : List (View.Piece (Elt F) S1x1x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare (out2_A_5 c i arg2 harg2 arg3 harg3 arg4 harg4 arg5 harg5 arg6 harg6 arg7 harg7 arg8 harg8 arg9 harg9 arg10 harg10 hc0 x1 x2) ∗ (∃ f, arg8.view.loc (c : Thread nD τ) ↦[arg8.view.set]{fullShare} arg8.view.writes (Elt F) f L6) ∗ owns (c : Thread nD τ) arg9 fullShare (out2_A_s0 c i arg2 harg2 arg3 harg3 arg4 harg4 arg5 harg5 arg6 harg6 arg7 harg7 arg8 harg8 arg9 harg9 arg10 harg10 hc0 x1 x2) ∗ owns (c : Thread nD τ) arg10 fullShare (out2_A_s1 c i arg2 harg2 arg3 harg3 arg4 harg4 arg5 harg5 arg6 harg6 arg7 harg7 arg8 harg8 arg9 harg9 arg10 harg10 hc0 x1 x2)) -∗ K ⟨⟩))
          ⊢ wp frame (wpE (defs₀ (F := F)) Variants.none c none) E (cc2_bitlinear i arg2 harg2 arg3 harg3 arg4 harg4 arg5 harg5 arg6 harg6 arg7 harg7 arg8 harg8 arg9 harg9 arg10 harg10) K } := by
  refine ⟨?_, ?_, fun E K => ?run⟩
  case run =>
    simp only [cc2_bitlinear_eq_skeleton]; unfold cc2_bitlinear_skel
    simp only [k2_part2_eq_skeleton, k2_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | sl_exact hc0)
    sl_step
    sl_unfold_run_names
    rw [writes2_A_5 c i arg2 harg2 arg3 harg3 arg4 harg4 arg5 harg5 arg6 harg6 arg7 harg7 arg8 harg8 arg9 harg9 arg10 harg10 hc0 x1 x2, writes2_A_s0 c i arg2 harg2 arg3 harg3 arg4 harg4 arg5 harg5 arg6 harg6 arg7 harg7 arg8 harg8 arg9 harg9 arg10 harg10 hc0 x1 x2, writes2_A_s1 c i arg2 harg2 arg3 harg3 arg4 harg4 arg5 harg5 arg6 harg6 arg7 harg7 arg8 harg8 arg9 harg9 arg10 harg10 hc0 x1 x2]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    iexists _; isplitr; · ipureintro; exact harg10.read_unread _
    iexact HS1

-- (as above)
set_option maxHeartbeats 2000000 in
/-- The run of the body at a later column tile, over the scratch contents `xs0`, `xs1`: the pieces it writes into the
    first output, with its triple; the two other outputs and the scratch are handed back untouched. -/
noncomputable def kernelRun2_B (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : ¬cond2_0 i)
    (x0 : Vec F S1x1 .f32) (x1 : Vec F S1024x2560 .bf16) (x2 : Vec F S1x2560 .f32) (x3 : Vec F S7168x2560 .bf16) (xs0 : Vec F S1024x2560 .bf16) (xs1 : Vec F S1024x128 .f32) :
    { L4 : List (View.Piece (Elt F) S1024x512 .bf16) //
      ∀ (xi5 : Vec F S1024x2560 .i8) (xi6 : Vec F S1x1x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xi5 ∗ owns (c : Thread nD τ) arg8 fullShare xi6 ∗ owns (c : Thread nD τ) arg9 fullShare xs0 ∗ owns (c : Thread nD τ) arg10 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ owns (c : Thread nD τ) arg7 fullShare xi5 ∗ owns (c : Thread nD τ) arg8 fullShare xi6 ∗ owns (c : Thread nD τ) arg9 fullShare xs0 ∗ owns (c : Thread nD τ) arg10 fullShare xs1) -∗ K ⟨⟩))
          ⊢ wp frame (wpE (defs₀ (F := F)) Variants.none c none) E (cc2_bitlinear i arg2 harg2 arg3 harg3 arg4 harg4 arg5 harg5 arg6 harg6 arg7 harg7 arg8 harg8 arg9 harg9 arg10 harg10) K } := by
  refine ⟨?_, fun xi5 xi6 E K => ?run⟩
  case run =>
    simp only [cc2_bitlinear_eq_skeleton]; unfold cc2_bitlinear_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg7.eq_unread hf5; obtain rfl := harg8.eq_unread hf6; obtain rfl := harg9.eq_unread hfs0; obtain rfl := harg10.eq_unread hfs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    iexists _; isplitr; · ipureintro; exact harg10.read_unread _
    iexact HS1

end Cert.KernelIdeal.Gen

end
-- ==== Proof.KernelIdeal.Region2.lean ====
/- The third `pallas_call`: what its buffers hold point by point, its body's triple at every grid point, its proof data. -/
module

public import proofs.«01_k».proof.Proof.KernelIdeal.Region2Run

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The pieces of the run at a first column tile cover this buffer, -/
theorem cover2_A_4 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i)
    (x0 : Vec F S1x1 .f32) (x1 : Vec F S1024x2560 .bf16) (x2 : Vec F S1x2560 .f32) (x3 : Vec F S7168x2560 .bf16) (y : S1024x512.Idx) :
    ∃ pc ∈ (kernelRun2_A c i arg2 harg2 arg3 harg3 arg4 harg4 arg5 harg5 arg6 harg6 arg7 harg7 arg8 harg8 arg9 harg9 arg10 harg10 hc0 x0 x1 x2 x3).1, y ∈ pc.1.set :=
  View.cover_of_tiledL (kernelRun2_A c i arg2 harg2 arg3 harg3 arg4 harg4 arg5 harg5 arg6 harg6 arg7 harg7 arg8 harg8 arg9 harg9 arg10 harg10 hc0 x0 x1 x2 x3).1 S1024x512.size (by sl_kernel_rfl) y
/-- and leave this in it. -/
def out2_A_4 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i)
    (x0 : Vec F S1x1 .f32) (x1 : Vec F S1024x2560 .bf16) (x2 : Vec F S1x2560 .f32) (x3 : Vec F S7168x2560 .bf16) : Vec F S1024x512 .bf16 :=
  VO2_4.read (Elt F) (VO2_4.writes (Elt F) VO2_4.junk (kernelRun2_A c i arg2 harg2 arg3 harg3 arg4 harg4 arg5 harg5 arg6 harg6 arg7 harg7 arg8 harg8 arg9 harg9 arg10 harg10 hc0 x0 x1 x2 x3).1)

/-- The pieces of the run at a first column tile cover this buffer, -/
theorem cover2_A_6 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i)
    (x0 : Vec F S1x1 .f32) (x1 : Vec F S1024x2560 .bf16) (x2 : Vec F S1x2560 .f32) (x3 : Vec F S7168x2560 .bf16) (y : S1x1x1024.Idx) :
    ∃ pc ∈ (kernelRun2_A c i arg2 harg2 arg3 harg3 arg4 harg4 arg5 harg5 arg6 harg6 arg7 harg7 arg8 harg8 arg9 harg9 arg10 harg10 hc0 x0 x1 x2 x3).2.1, y ∈ pc.1.set :=
  View.cover_of_tiledL (kernelRun2_A c i arg2 harg2 arg3 harg3 arg4 harg4 arg5 harg5 arg6 harg6 arg7 harg7 arg8 harg8 arg9 harg9 arg10 harg10 hc0 x0 x1 x2 x3).2.1 S1x1x128.size (by sl_kernel_rfl) y
/-- and leave this in it. -/
def out2_A_6 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : cond2_0 i)
    (x0 : Vec F S1x1 .f32) (x1 : Vec F S1024x2560 .bf16) (x2 : Vec F S1x2560 .f32) (x3 : Vec F S7168x2560 .bf16) : Vec F S1x1x1024 .f32 :=
  VO2_6.read (Elt F) (VO2_6.writes (Elt F) VO2_6.junk (kernelRun2_A c i arg2 harg2 arg3 harg3 arg4 harg4 arg5 harg5 arg6 harg6 arg7 harg7 arg8 harg8 arg9 harg9 arg10 harg10 hc0 x0 x1 x2 x3).2.1)

/-- The pieces of the run at a later column tile cover the first output's block, -/
theorem cover2_B_4 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : ¬cond2_0 i)
    (x0 : Vec F S1x1 .f32) (x1 : Vec F S1024x2560 .bf16) (x2 : Vec F S1x2560 .f32) (x3 : Vec F S7168x2560 .bf16) (xs0 : Vec F S1024x2560 .bf16) (xs1 : Vec F S1024x128 .f32) (y : S1024x512.Idx) :
    ∃ pc ∈ (kernelRun2_B c i arg2 harg2 arg3 harg3 arg4 harg4 arg5 harg5 arg6 harg6 arg7 harg7 arg8 harg8 arg9 harg9 arg10 harg10 hc0 x0 x1 x2 x3 xs0 xs1).1, y ∈ pc.1.set :=
  View.cover_of_tiledL (kernelRun2_B c i arg2 harg2 arg3 harg3 arg4 harg4 arg5 harg5 arg6 harg6 arg7 harg7 arg8 harg8 arg9 harg9 arg10 harg10 hc0 x0 x1 x2 x3 xs0 xs1).1 S1024x512.size (by sl_kernel_rfl) y
/-- and leave this in it. -/
def out2_B_4 (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc0 : ¬cond2_0 i)
    (x0 : Vec F S1x1 .f32) (x1 : Vec F S1024x2560 .bf16) (x2 : Vec F S1x2560 .f32) (x3 : Vec F S7168x2560 .bf16) (xs0 : Vec F S1024x2560 .bf16) (xs1 : Vec F S1024x128 .f32) : Vec F S1024x512 .bf16 :=
  VO2_4.read (Elt F) (VO2_4.writes (Elt F) VO2_4.junk (kernelRun2_B c i arg2 harg2 arg3 harg3 arg4 harg4 arg5 harg5 arg6 harg6 arg7 harg7 arg8 harg8 arg9 harg9 arg10 harg10 hc0 x0 x1 x2 x3 xs0 xs1).1)

/-- The first point of `t`'s row tile. -/
def tA2 (t : Fin cfg2.N) : Fin cfg2.N := ⟨14 * (t.val / 14), Nat.lt_of_le_of_lt (Nat.mul_div_le _ _) t.isLt⟩
theorem hA2 (t : Fin cfg2.N) : cond2_0 (grid2.coords (tA2 t)) := (hcond2_0 _).mpr (Nat.mul_mod_right 14 _)
theorem tA2_of (t : Fin cfg2.N) (h : t.val % 14 = 0) : tA2 t = t := Fin.ext (by unfold tA2; dsimp only; omega)
theorem tA2_pred (t : Fin cfg2.N) (h : ¬ t.val % 14 = 0) : tA2 ⟨t.val - 1, Nat.lt_of_le_of_lt (Nat.sub_le _ _) t.isLt⟩ = tA2 t :=
  Fin.ext (by unfold tA2; dsimp only; omega)
/-- The codes a first point of a row tile leaves in its buffer, and below those of the row tile of any point. -/
def o5At2_at (c : Dev nD) (t : Fin cfg2.N) (hA : cond2_0 (grid2.coords t)) : Vec F S1024x2560 .i8 := out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hA (iblk2 V c 1 t) (iblk2 V c 2 t)
def o5At2 (c : Dev nD) (t : Fin cfg2.N) : Vec F S1024x2560 .i8 := o5At2_at V c (tA2 t) (hA2 t)
theorem o5At2_at_congr (c : Dev nD) (t u : Fin cfg2.N) (hA hB) (h : t = u) : o5At2_at V c t hA = o5At2_at V c u hB := by subst h; rfl
theorem o5At2_first (c : Dev nD) (t : Fin cfg2.N) (h0 : t.val % 14 = 0) : o5At2 V c t = out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (iblk2 V c 1 t) (iblk2 V c 2 t) :=
  o5At2_at_congr V c _ _ _ ((hcond2_0 t).mpr h0) (tA2_of t h0)
theorem o5At2_pred (c : Dev nD) (t : Fin cfg2.N) (h : ¬ t.val % 14 = 0) : o5At2 V c ⟨t.val - 1, Nat.lt_of_le_of_lt (Nat.sub_le _ _) t.isLt⟩ = o5At2 V c t :=
  o5At2_at_congr V c _ _ _ _ (tA2_pred t h)
/-- The same for the scales. -/
def o6At2_at (c : Dev nD) (t : Fin cfg2.N) (hA : cond2_0 (grid2.coords t)) : Vec F S1x1x1024 .f32 := out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hA (iblk2 V c 0 t) (iblk2 V c 1 t) (iblk2 V c 2 t) (iblk2 V c 3 t)
def o6At2 (c : Dev nD) (t : Fin cfg2.N) : Vec F S1x1x1024 .f32 := o6At2_at V c (tA2 t) (hA2 t)
theorem o6At2_at_congr (c : Dev nD) (t u : Fin cfg2.N) (hA hB) (h : t = u) : o6At2_at V c t hA = o6At2_at V c u hB := by subst h; rfl
theorem o6At2_first (c : Dev nD) (t : Fin cfg2.N) (h0 : t.val % 14 = 0) : o6At2 V c t = out2_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (iblk2 V c 0 t) (iblk2 V c 1 t) (iblk2 V c 2 t) (iblk2 V c 3 t) :=
  o6At2_at_congr V c _ _ _ ((hcond2_0 t).mpr h0) (tA2_of t h0)
theorem o6At2_pred (c : Dev nD) (t : Fin cfg2.N) (h : ¬ t.val % 14 = 0) : o6At2 V c ⟨t.val - 1, Nat.lt_of_le_of_lt (Nat.sub_le _ _) t.isLt⟩ = o6At2 V c t :=
  o6At2_at_congr V c _ _ _ _ (tA2_pred t h)
/-- The same for the scratch codes. -/
def s0At2_at (c : Dev nD) (t : Fin cfg2.N) (hA : cond2_0 (grid2.coords t)) : Vec F S1024x2560 .bf16 := out2_A_s0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hA (iblk2 V c 1 t) (iblk2 V c 2 t)
def s0At2 (c : Dev nD) (t : Fin cfg2.N) : Vec F S1024x2560 .bf16 := s0At2_at V c (tA2 t) (hA2 t)
theorem s0At2_at_congr (c : Dev nD) (t u : Fin cfg2.N) (hA hB) (h : t = u) : s0At2_at V c t hA = s0At2_at V c u hB := by subst h; rfl
theorem s0At2_first (c : Dev nD) (t : Fin cfg2.N) (h0 : t.val % 14 = 0) : s0At2 V c t = out2_A_s0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (iblk2 V c 1 t) (iblk2 V c 2 t) :=
  s0At2_at_congr V c _ _ _ ((hcond2_0 t).mpr h0) (tA2_of t h0)
theorem s0At2_pred (c : Dev nD) (t : Fin cfg2.N) (h : ¬ t.val % 14 = 0) : s0At2 V c ⟨t.val - 1, Nat.lt_of_le_of_lt (Nat.sub_le _ _) t.isLt⟩ = s0At2 V c t :=
  s0At2_at_congr V c _ _ _ _ (tA2_pred t h)
/-- The same for the scratch scales. -/
def s1At2_at (c : Dev nD) (t : Fin cfg2.N) (hA : cond2_0 (grid2.coords t)) : Vec F S1024x128 .f32 := out2_A_s1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) hA (iblk2 V c 1 t) (iblk2 V c 2 t)
def s1At2 (c : Dev nD) (t : Fin cfg2.N) : Vec F S1024x128 .f32 := s1At2_at V c (tA2 t) (hA2 t)
theorem s1At2_at_congr (c : Dev nD) (t u : Fin cfg2.N) (hA hB) (h : t = u) : s1At2_at V c t hA = s1At2_at V c u hB := by subst h; rfl
theorem s1At2_first (c : Dev nD) (t : Fin cfg2.N) (h0 : t.val % 14 = 0) : s1At2 V c t = out2_A_s1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (iblk2 V c 1 t) (iblk2 V c 2 t) :=
  s1At2_at_congr V c _ _ _ ((hcond2_0 t).mpr h0) (tA2_of t h0)
theorem s1At2_pred (c : Dev nD) (t : Fin cfg2.N) (h : ¬ t.val % 14 = 0) : s1At2 V c ⟨t.val - 1, Nat.lt_of_le_of_lt (Nat.sub_le _ _) t.isLt⟩ = s1At2 V c t :=
  s1At2_at_congr V c _ _ _ _ (tA2_pred t h)
/-- The first output's block after point `t`. -/
def o4At2 (c : Dev nD) (t : Fin cfg2.N) : Vec F S1024x512 .bf16 :=
  if h0 : t.val % 14 = 0 then out2_A_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) ((hcond2_0 t).mpr h0) (iblk2 V c 0 t) (iblk2 V c 1 t) (iblk2 V c 2 t) (iblk2 V c 3 t)
  else out2_B_4 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2_0 (Memref.isWhole_whole _) scM2_1 (Memref.isWhole_whole _) (fun h => h0 ((hcond2_0 t).mp h)) (iblk2 V c 0 t) (iblk2 V c 1 t) (iblk2 V c 2 t) (iblk2 V c 3 t) (s0At2 V c t) (s1At2 V c t)

/-- The region's invariant before position `n`: the scratch at what the row tile's first point left. -/
def PhiS2 (c : Dev nD) : (n : ℕ) → n ≤ cfg2.N → sProp 𝕄
  | 0, _ => Pipeline.ΦA spec2 c
  | n + 1, hn => iprop(iprop(owns (c : Thread nD τ) scM2_0 fullShare (s0At2 V c ⟨n, hn⟩) ∗ owns (c : Thread nD τ) scM2_1 fullShare (s1At2 V c ⟨n, hn⟩)) ∗ iprop(Rest2 c ∗ (∃ r, prngReg c r)))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare (s0At2 V c ⟨n, hn⟩) ∗ owns (c : Thread nD τ) scM2_1 fullShare (s1At2 V c ⟨n, hn⟩)) ∗ iprop(Rest2 c ∗ (∃ r, prngReg c r))) := rfl

theorem PhiS2_pos (c : Dev nD) (n : ℕ) (h : n ≤ cfg2.N) (hz : n ≠ 0) :
    PhiS2 V c n h = iprop(iprop(owns (c : Thread nD τ) scM2_0 fullShare (s0At2 V c ⟨n - 1, by omega⟩) ∗ owns (c : Thread nD τ) scM2_1 fullShare (s1At2 V c ⟨n - 1, by omega⟩)) ∗ iprop(Rest2 c ∗ (∃ r, prngReg c r))) := by
  cases n with
  | zero => exact absurd rfl hz
  | succ n => rfl

/-- Before any point the invariant holds the scratch at some contents. -/
theorem PhiS2_any (c : Dev nD) (n : ℕ) (h : n ≤ cfg2.N) :
    PhiS2 V c n h ⊢ iprop(iprop((∃ d, owns (c : Thread nD τ) scM2_0 fullShare d) ∗ (∃ d, owns (c : Thread nD τ) scM2_1 fullShare d)) ∗ iprop(Rest2 c ∗ (∃ r, prngReg c r))) := by
  cases n with
  | zero => exact PhiA2_split c
  | succ n =>
    rw [PhiS2_succ]
    iintro ⟨⟨HS0, HS1⟩, Hg⟩
    isplitl [HS0 HS1]
    · isplitl [HS0]
      · iexists _; iexact HS0
      iexists _; iexact HS1
    iexact Hg

/-- The region's proof data, at the contents `V` the region is entered from. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => o4At2 V c t
    | ⟨5, _⟩ => o5At2 V c t
    | ⟨6, _⟩ => o6At2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; exact Pipeline.Dat.Φ_castSucc (PhiS2 V c) t

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = o4At2 V c t := by dsimp only [dat2]
theorem after2_5 (c : Dev nD) (t : Fin cfg2.N) : (dat2 V c).after 5 t = o5At2 V c t := by dsimp only [dat2]
theorem after2_6 (c : Dev nD) (t : Fin cfg2.N) : (dat2 V c).after 6 t = o6At2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem fresh2_5 : ∀ t : Fin cfg2.N, ¬ t.val % 14 = 0 → cfg2.fresh 5 t.val = false := by decide +kernel
/-- At a later column tile the window still holds what the row tile's first point left in it. -/
theorem before2_5_B (c : Dev nD) (t : Fin cfg2.N) (h0 : ¬ t.val % 14 = 0) (d) : (dat2 V c).before 5 t d = o5At2 V c t := by
  rw [Dat.before_out_traj (dat2 V c) 5 rfl (fun _ _ => rfl)
    (fun t ht hi _ => by
      rw [after2_5, after2_5]
      have hn : ¬ t.val % 14 = 0 := fun h => by
        have := liveAt2_5_A t ((hcond2_0 t).mpr h); rw [hi] at this; cases this
      exact (o5At2_pred V c t hn).symm) t.val t rfl d]
  rw [fresh2_5 t h0, if_neg Bool.false_ne_true, after2_5]
  exact o5At2_pred V c t h0
theorem fresh2_6 : ∀ t : Fin cfg2.N, ¬ t.val % 14 = 0 → cfg2.fresh 6 t.val = false := by decide +kernel
/-- At a later column tile the window still holds what the row tile's first point left in it. -/
theorem before2_6_B (c : Dev nD) (t : Fin cfg2.N) (h0 : ¬ t.val % 14 = 0) (d) : (dat2 V c).before 6 t d = o6At2 V c t := by
  rw [Dat.before_out_traj (dat2 V c) 6 rfl (fun _ _ => rfl)
    (fun t ht hi _ => by
      rw [after2_6, after2_6]
      have hn : ¬ t.val % 14 = 0 := fun h => by
        have := liveAt2_6_A t ((hcond2_0 t).mpr h); rw [hi] at this; cases this
      exact (o6At2_pred V c t hn).symm) t.val t rfl d]
  rw [fresh2_6 t h0, if_neg Bool.false_ne_true, after2_6]
  exact o6At2_pred V c t h0

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

/-- At a later column tile the body may hand window 5 back as the row tile's first point left it. -/
theorem leaves2_5_B (c : Dev nD) (t : Fin cfg2.N) (h0 : ¬ t.val % 14 = 0) :
    owns (c : Thread nD τ) (ms2_5 t) fullShare (o5At2 V c t) ⊢ ((dat2 V c).leavesExact 5 t : sProp 𝕄) := by
  have hi := idleAt2_5_B t (fun h => h0 ((hcond2_0 t).mp h))
  cases hf : (cfg2.win 5).flush t with
  | false =>
    rw [Dat.leavesExact_idle (dat2 V c) 5 t hi hf]
    iintro H
    iexists (o5At2 V c t)
    rw [before2_5_B V c t h0]
    iexact H
  | true =>
    unfold Dat.leavesExact; rw [hi, hf, after2_5]

/-- At a later column tile the body may hand window 6 back as the row tile's first point left it. -/
theorem leaves2_6_B (c : Dev nD) (t : Fin cfg2.N) (h0 : ¬ t.val % 14 = 0) :
    owns (c : Thread nD τ) (ms2_6 t) fullShare (o6At2 V c t) ⊢ ((dat2 V c).leavesExact 6 t : sProp 𝕄) := by
  have hi := idleAt2_6_B t (fun h => h0 ((hcond2_0 t).mp h))
  cases hf : (cfg2.win 6).flush t with
  | false =>
    rw [Dat.leavesExact_idle (dat2 V c) 6 t hi hf]
    iintro H
    iexists (o6At2 V c t)
    rw [before2_6_B V c t h0]
    iexact H
  | true =>
    unfold Dat.leavesExact; rw [hi, hf, after2_6]

set_option maxHeartbeats 4800000 in
/-- The body's triple at a first column tile. -/
theorem sound_body2_A (c : Dev nD) (t : Fin cfg2.N) (h0 : t.val % 14 = 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ, PhiS2_castSucc V c t]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5_A t ((hcond2_0 t).mpr h0)], after2_5]
  rw [show (dat2 V c).leavesExact 6 t = owns (c : Thread nD τ) (ms2_6 t) fullShare ((dat2 V c).after 6 t) from by
    unfold Dat.leavesExact; rw [liveAt2_6_A t ((hcond2_0 t).mpr h0)], after2_6]
  rw [show (⟨t.val, t.isLt⟩ : Fin cfg2.N) = t from rfl, o5At2_first V c t h0, o6At2_first V c t h0, s0At2_first V c t h0, s1At2_first V c t h0]
  unfold o4At2; rw [dif_pos h0]
  unfold out2_A_4 out2_A_6
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ := (PhiS2_any V c _ _) $$ HΦ
  icases HΦ with ⟨⟨HS0, HS1⟩, Hg⟩
  iapply ((kernelRun2_A c (grid2.coords t) _ _ _ _ _ _ _ _ _ _ _ _ _ _ _ _ _ _ ((hcond2_0 t).mpr h0) (iblk2 V c 0 t) (iblk2 V c 1 t) (iblk2 V c 2 t) (iblk2 V c 3 t)).2.2 Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, ⟨%e4, H4⟩, H5, ⟨%e6, H6⟩, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover2_A_4 c _ _ _ _ _ _ _ _ _ _ _ _ _ _ _ _ _ _ _ _ _ _ _ _)
  isplitl [H5]; · iexact H5
  unfold owns; iexists _; isplitr
  swap; · iexact H6
  ipureintro; exact View.read_writes_of_cover _ _ _ _ _ (cover2_A_6 c _ _ _ _ _ _ _ _ _ _ _ _ _ _ _ _ _ _ _ _ _ _ _ _)

set_option maxHeartbeats 4800000 in
/-- The body's triple at a later column tile. -/
theorem sound_body2_B (c : Dev nD) (t : Fin cfg2.N) (h0 : ¬ t.val % 14 = 0) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_5_B V c t h0, before2_6_B V c t h0]
  rw [show (dat2 V c).owesAt () t.succ = (dat2 V c).owesAt () t.castSucc from rfl]
  rw [show (dat2 V c).Φ t.succ = PhiS2 V c (t.val + 1) t.isLt from rfl, PhiS2_succ, PhiS2_castSucc V c t,
    PhiS2_pos V c _ _ (fun h => h0 (by rw [h])), s0At2_pred V c t h0, s1At2_pred V c t h0]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  unfold o4At2; rw [dif_neg h0]
  unfold out2_B_4
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun2_B c (grid2.coords t) _ _ _ _ _ _ _ _ _ _ _ _ _ _ _ _ _ _ (fun h => h0 ((hcond2_0 t).mp h)) (iblk2 V c 0 t) (iblk2 V c 1 t) (iblk2 V c 2 t) (iblk2 V c 3 t) (s0At2 V c t) (s1At2 V c t)).2 _ _ Set.univ _)
  isplitl [H0]; · iexact H0
  isplitl [H1]; · iexact H1
  isplitl [H2]; · iexact H2
  isplitl [H3]; · iexact H3
  isplitl [H4]; · iexists _; iexact H4
  isplitl [H5]; · iexact H5
  isplitl [H6]; · iexact H6
  isplitl [HS0]; · iexact HS0
  isplitl [HS1]; · iexact HS1
  iintro ⟨H0, H1, H2, H3, ⟨%e4, H4⟩, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (cover2_B_4 c _ _ _ _ _ _ _ _ _ _ _ _ _ _ _ _ _ _ _ _ _ _ _ _ _ _)
  isplitl [H5]
  · iapply (leaves2_5_B V c t h0); iexact H5
  iapply (leaves2_6_B V c t h0); iexact H6

theorem sound_body2 (c : Dev nD) (t : Fin cfg2.N) :
    bodyPre2 V c t ⊢ wp frame (wpE (defs₀ (F := F)) Variants.none c none) Set.univ (bodyAt2 t) (fun _ => bodyPost2 V c t) :=
  if h0 : t.val % 14 = 0 then sound_body2_A V c t h0 else sound_body2_B V c t h0

theorem defs₀_row2 (t : Fin cfg2.N) :
    defs₀ (F := F) .tc cfg2.body (cfg2.bodyArgs t (cfg2.slots t)) = bodyAt2 t := by
  unfold defs₀; rw [Defs.onTc_tc]

/-- The body obligation of the region, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- The launch's invariant gives the region's before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- The region's invariant after the last point gives the launch's back. -/
theorem hout2 (c : Dev nD) : (dat2 V c).Φ (Fin.last cfg2.N) ⊢ Pipeline.ΦA spec2 c := by
  rw [show (dat2 V c).Φ (Fin.last cfg2.N) = PhiS2 V c cfg2.N (Nat.le_refl _) from rfl, PhiA2_eq]
  exact PhiS2_any V c _ _

end Cert.KernelIdeal.Gen

end
-- ==== Proof.KernelIdeal.Run.lean ====
/- The run of the whole program: the three pallas_calls and the host operations between them, from the launch to the
   return, and the frame claim. -/
module

public import proofs.«01_k».proof.Proof.KernelIdeal.Region0
public import proofs.«01_k».proof.Proof.KernelIdeal.Region1
public import proofs.«01_k».proof.Proof.KernelIdeal.Region2
public import proofs.«01_k».proof.Proof.Gen.KernelIdeal.Regions
public import Idealize.ShloMosaic.Lib.Pipeline.Frame
public import Idealize.ShloMosaic.Lib.Pipeline.RegionsLoop
public import Idealize.ShloMosaic.Lib.Pipeline.FrameSuffix
public import Idealize.ShloMosaic.Lib.Pipeline.Regions

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

namespace Main

variable (m : (ℓ : Loc nD τ sig) → Buf (Elt F) ℓ) (ρ : Dev nD → PrngReg)

/-- The argument arrays. -/
abbrev argRefs : List (Ref sig .tc) := [main_arg0, main_arg1, main_arg2]

/-! ## The buffers' contents at each boundary -/

/-- Core `c`'s buffers at launch. -/
abbrev W0 : Dev nD → Valuation τ sig (Elt F) := fun c b => m (c, b)
theorem W0_args (c : Dev nD) : ∀ a ∈ argRefs, W0 m c (Proc.devRef .tc a) = m ((c : Thread nD τ).loc a) := fun _ _ => rfl
abbrev V0 : (c : Dev nD) → (b : Ref sig .tc) → Buf (Elt F) ((c : Thread nD τ).loc b) := fun c b => W0 m c b

/-- Core `c`'s buffers after the pallas_call 0: its arrays at what the pipeline leaves, every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- A buffer that is no output array of this pallas_call keeps its contents across it. -/
theorem W1_of (c : Dev nD) (r : Ref sig .tc) (h : ∀ w : Fin cfg0.W, Pipeline.arrRef spec0 w = r → (cfg0.win w).isOut = false) :
    W1 m c (Proc.devRef .tc r) = W0 m c (Proc.devRef .tc r) := by
  by_cases hw : ∃ w : Fin cfg0.W, Pipeline.arrRef spec0 w = r
  · obtain ⟨w, rfl⟩ := hw
    exact (W1_arr m c w).trans (((dat0 (V0 m) c).arrAt_in w (h w rfl) _).trans (A_eq0 (V0 m) c w))
  · exact W1_of_ne m c r fun w e => hw ⟨w, e⟩
/-- The arguments among its arrays are read only. -/
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m c (Proc.devRef .tc a) = m ((c : Thread nD τ).loc a) :=
  fun a ha => (W1_of m c a (argsIn0 a ha)).trans (W0_args m c a ha)
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- Core `c`'s buffers after the pallas_call 1: its arrays at what the pipeline leaves, every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
/-- A buffer that is no output array of this pallas_call keeps its contents across it. -/
theorem W2_of (c : Dev nD) (r : Ref sig .tc) (h : ∀ w : Fin cfg1.W, Pipeline.arrRef spec1 w = r → (cfg1.win w).isOut = false) :
    W2 m c (Proc.devRef .tc r) = W1 m c (Proc.devRef .tc r) := by
  by_cases hw : ∃ w : Fin cfg1.W, Pipeline.arrRef spec1 w = r
  · obtain ⟨w, rfl⟩ := hw
    exact (W2_arr m c w).trans (((dat1 (V1 m) c).arrAt_in w (h w rfl) _).trans (A_eq1 (V1 m) c w))
  · exact W2_of_ne m c r fun w e => hw ⟨w, e⟩
/-- The arguments among its arrays are read only. -/
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m c (Proc.devRef .tc a) = m ((c : Thread nD τ).loc a) :=
  fun a ha => (W2_of m c a (argsIn1 a ha)).trans (W1_args m c a ha)
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- Core `c`'s buffers after the host operations between them. -/
abbrev W3 (c : Dev nD) : Valuation τ sig (Elt F) := StableHlo.after hostOps2 (W2 m c)
theorem W3_of (c : Dev nD) (r : Ref sig .tc) (h : r ∉ hostOps2_W) : W3 m c (Proc.devRef .tc r) = W2 m c (Proc.devRef .tc r) :=
  StableHlo.after_of_writes_sub hostOps2 _ hostOps2_writes h
theorem hostOps2_args : ∀ a ∈ argRefs, a ∉ hostOps2_W := ListAll.forall_mem_of_all_decide (by decide +kernel)
theorem W3_args (c : Dev nD) : ∀ a ∈ argRefs, W3 m c (Proc.devRef .tc a) = m ((c : Thread nD τ).loc a) :=
  fun a ha => (W3_of m c a (hostOps2_args a ha)).trans (W2_args m c a ha)
abbrev V3 : (c : Dev nD) → (b : Ref sig .tc) → Buf (Elt F) ((c : Thread nD τ).loc b) := fun c b => W3 m c b

/-- Core `c`'s buffers after the pallas_call 2: its arrays at what the pipeline leaves, every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- A buffer that is no output array of this pallas_call keeps its contents across it. -/
theorem W4_of (c : Dev nD) (r : Ref sig .tc) (h : ∀ w : Fin cfg2.W, Pipeline.arrRef spec2 w = r → (cfg2.win w).isOut = false) :
    W4 m c (Proc.devRef .tc r) = W3 m c (Proc.devRef .tc r) := by
  by_cases hw : ∃ w : Fin cfg2.W, Pipeline.arrRef spec2 w = r
  · obtain ⟨w, rfl⟩ := hw
    exact (W4_arr m c w).trans (((dat2 (V3 m) c).arrAt_in w (h w rfl) _).trans (A_eq2 (V3 m) c w))
  · exact W4_of_ne m c r fun w e => hw ⟨w, e⟩
/-- The arguments among its arrays are read only. -/
theorem argsIn2 : ∀ a ∈ argRefs, ∀ w : Fin cfg2.W, Pipeline.arrRef spec2 w = a → (cfg2.win w).isOut = false :=
  ListAll.forall_mem_of_all_decide (by decide +kernel)
theorem W4_args (c : Dev nD) : ∀ a ∈ argRefs, W4 m c (Proc.devRef .tc a) = m ((c : Thread nD τ).loc a) :=
  fun a ha => (W4_of m c a (argsIn2 a ha)).trans (W3_args m c a ha)
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- Core `c`'s buffers after the host operations between them. -/
abbrev W5 (c : Dev nD) : Valuation τ sig (Elt F) := StableHlo.after hostOps3 (W4 m c)
theorem W5_of (c : Dev nD) (r : Ref sig .tc) (h : r ∉ hostOps3_W) : W5 m c (Proc.devRef .tc r) = W4 m c (Proc.devRef .tc r) :=
  StableHlo.after_of_writes_sub hostOps3 _ hostOps3_writes h
theorem hostOps3_args : ∀ a ∈ argRefs, a ∉ hostOps3_W := ListAll.forall_mem_of_all_decide (by decide +kernel)
theorem W5_args (c : Dev nD) : ∀ a ∈ argRefs, W5 m c (Proc.devRef .tc a) = m ((c : Thread nD τ).loc a) :=
  fun a ha => (W5_of m c a (hostOps3_args a ha)).trans (W4_args m c a ha)
abbrev V5 : (c : Dev nD) → (b : Ref sig .tc) → Buf (Elt F) ((c : Thread nD τ).loc b) := fun c b => W5 m c b

/-! ## The proof data and the thread state -/

/-- Every pallas_call's proof data, each at the contents it is entered with. -/
def pdats : (p : Fin 3) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
  | ⟨2, _⟩ => fun c => dat2 (V3 m) c
abbrev 𝒱₀ : Variants := Variants.none
/-- No core owes another anything. -/
abbrev L : GSem nD τ sig → Finset Unit := fun _ => ∅
abbrev lv : GSem nD τ sig → Unit → ℕ := fun _ _ => 0
/-- What rides beside the buffers: the core's generator register, and that it owes nothing. -/
abbrev R (c : Dev nD) : sProp 𝕄 := iprop((∃ r, prngReg c r) ∗ ∃ W, owes (c : Thread nD τ) (0 : CellTallies nD τ sig Unit) W)
/-- Host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped buffer is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state. -/
abbrev Tₙ (c : Dev nD) : sProp 𝕄 := iprop(StableHlo.held (c : Thread nD τ) (Pipeline.ucRefs τ sig) (W5 m c) ∗ ∃ r, prngReg c r)
theorem last_state (c : Dev nD) :
    iprop(StableHlo.held (c : Thread nD τ) (Pipeline.ucRefs τ sig) (W5 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The pallas_calls as segments -/

set_option backward.isDefEq.respectTransparency.types false in
/-- The pallas_call 0 over the thread state: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) (A_eq0 (V0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec0 c ⊢ (pdats m 0 c).Φ 0 := hin0 (V0 m) c
    unfold Pipeline.ΦA at h
    iintro ⟨Hp, -, Hr⟩
    iapply h
    isplitl [Hr]; · iexact Hr
    iexact Hp
  hout c := by
    have h : (pdats m 0 c).Φ (Fin.last _) ⊢ Pipeline.ΦA spec0 c := hout0 (V0 m) c
    rw [Pipeline.ownSems0_none]; unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call 1 over the thread state: entered from every unscoped buffer at `W1`, left at `W2`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) (A_eq1 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The pallas_call 2 over the thread state: entered from every unscoped buffer at `W3`, left at `W4`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V3 m c) (A_eq2 (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : Pipeline.ΦA spec2 c ⊢ (pdats m 2 c).Φ 0 := hin2 (V3 m) c
    unfold Pipeline.ΦA at h
    iintro ⟨Hp, -, Hr⟩
    iapply h
    isplitl [Hr]; · iexact Hr
    iexact Hp
  hout c := by
    have h : (pdats m 2 c).Φ (Fin.last _) ⊢ Pipeline.ΦA spec2 c := hout2 (V3 m) c
    rw [Pipeline.ownSems0_none]; unfold Pipeline.ΦA at h
    iintro H
    ihave H := h $$ H
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The whole program -/

/-- The program's five segments in order. -/
abbrev segs : List (Pipeline.Seg (pcfgs (F := F)) adm (pdats m) () defs₀ 𝒱₀ L lv) :=
  [ .region (reg0 m), .region (reg1 m),
    .host (hseg hostOps2 hostOps2_sub hostOps2_fresh (W2 m)),
    .region (reg2 m),
    .host (hseg hostOps3 hostOps3_sub hostOps3_fresh (W4 m)) ]
theorem main_run (c : Dev nD) : main (F := F) c = Pipeline.Seg.run (segs m) := (main_chain c).trans (by chain_rfl)
theorem no_unscoped : ∀ sm : SemLoc sig, sm.isScoped .tc = true := by decide

set_option backward.isDefEq.respectTransparency.types false in
/-- Every weakly fair execution ends, without a fault, with every unscoped buffer at the last boundary's contents and every
    semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W5 m c b)
      ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h hz => ⟨h, funext fun g => hz g (.inr (no_unscoped g.2))⟩)

/-- The frame claim: the arguments end as launched, every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c _ (mem_uc main_arg0 (by decide))).trans (W5_args m c main_arg0 (by decide)),
     (h.1 c _ (mem_uc main_arg1 (by decide))).trans (W5_args m c main_arg1 (by decide)),
     (h.1 c _ (mem_uc main_arg2 (by decide))).trans (W5_args m c main_arg2 (by decide))⟩, h.2⟩) (run m ρ)

end Main

end Cert.KernelIdeal.Gen

end
-- ==== Proof.Value.Gamma.lean ====
/- The first result of the kernel (gamma), read as a value over the extended reals: the sum of all |w| times the named
   reciprocal of the number of weights. -/
module

public import proofs.«01_k».proof.Proof.KernelIdeal.Region0
public import Idealize.ShloMosaic.Lib.ValueIdx
public import Idealize.ShloMosaic.Lib.Pipeline.ValueKit.Acc
public import Idealize.ShloMosaic.PureOps.Ideal.Laws

@[expose] public section

set_option maxRecDepth 16384

noncomputable section

namespace Cert.KernelIdeal.Val

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

/-- The offsets of an access at the origin of a rank-2 buffer. -/
theorem hz : (![0, 0] : Fin 2 → Nat) = fun _ => 0 := funext fun a => by fin_cases a <;> rfl

section AnyValues

variable {F : FTy → Type} [FloatOps F] [Named F]

/-- The first point leaves, in the carried scratch, its block's partial sums added to zero. -/
theorem sout_A (c : Dev nD) (i : grid0.Coords) (a1 : Memref sig .tc .vmem S256x2560 .bf16) (h1 : a1.IsWhole)
    (a2 : Memref sig .tc .smem S1x1 .f32) (h2 : a2.IsWhole) (a3 : Memref sig .tc .vmem S8x2560 .f32) (h3 : a3.IsWhole)
    (hc0 : cond0_0 i) (hc1 : ¬cond0_1 i) (x : Vec F S256x2560 .bf16) :
    sout0_A_0 c i a1 h1 a2 h2 a3 h3 hc0 hc1 x = k0_pay2 x (k0_pay1 (F := F)) := by
  unfold sout0_A_0
  rw [View.read_writes_eq_canon _ _ _ (scover0_A_0 c i a1 h1 a2 h2 a3 h3 hc0 hc1 x)]
  unfold kernelRun0_A
  dsimp only
  sl_unfold_words
  rw [View.canon_cons_unit_zero (S := S8x2560) hz, View.readCov_unit_zero (S := S8x2560) _ hz]
  simp only [View.readAt_eq_ld, h1.read_unread, View.ld_unit_zero (S := S256x2560) hz]

/-- A middle point adds its block's partial sums to the scratch. -/
theorem sout_B (c : Dev nD) (i : grid0.Coords) (a1 : Memref sig .tc .vmem S256x2560 .bf16) (h1 : a1.IsWhole)
    (a2 : Memref sig .tc .smem S1x1 .f32) (h2 : a2.IsWhole) (a3 : Memref sig .tc .vmem S8x2560 .f32) (h3 : a3.IsWhole)
    (hc0 : ¬cond0_0 i) (hc1 : ¬cond0_1 i) (x : Vec F S256x2560 .bf16) (acc : Vec F S8x2560 .f32) :
    sout0_B_0 c i a1 h1 a2 h2 a3 h3 hc0 hc1 x acc = k0_pay2 x acc := by
  unfold sout0_B_0
  rw [View.read_writes_eq_canon _ _ _ (scover0_B_0 c i a1 h1 a2 h2 a3 h3 hc0 hc1 x acc)]
  unfold kernelRun0_B
  dsimp only
  sl_unfold_words
  rw [View.canon_unit_zero (S := S8x2560) hz]
  simp only [View.readAt_eq_ld, h1.read_unread, h3.read_unread, View.ld_unit_zero (S := S256x2560) hz, View.ld_unit_zero (S := S8x2560) hz]

/-- The last point adds its block's partial sums to the scratch … -/
theorem sout_C (c : Dev nD) (i : grid0.Coords) (a1 : Memref sig .tc .vmem S256x2560 .bf16) (h1 : a1.IsWhole)
    (a2 : Memref sig .tc .smem S1x1 .f32) (h2 : a2.IsWhole) (a3 : Memref sig .tc .vmem S8x2560 .f32) (h3 : a3.IsWhole)
    (hc0 : ¬cond0_0 i) (hc1 : cond0_1 i) (x : Vec F S256x2560 .bf16) (acc : Vec F S8x2560 .f32) :
    sout0_C_0 c i a1 h1 a2 h2 a3 h3 hc0 hc1 x acc = k0_pay2 x acc := by
  unfold sout0_C_0
  rw [View.read_writes_eq_canon _ _ _ (scover0_C_0 c i a1 h1 a2 h2 a3 h3 hc0 hc1 x acc)]
  unfold kernelRun0_C
  dsimp only
  sl_unfold_words
  rw [View.canon_unit_zero (S := S8x2560) hz]
  simp only [View.readAt_eq_ld, h1.read_unread, h3.read_unread, View.ld_unit_zero (S := S256x2560) hz, View.ld_unit_zero (S := S8x2560) hz]

/-- … and leaves the whole sum times the reciprocal in the result. -/
theorem out_C (c : Dev nD) (i : grid0.Coords) (a1 : Memref sig .tc .vmem S256x2560 .bf16) (h1 : a1.IsWhole)
    (a2 : Memref sig .tc .smem S1x1 .f32) (h2 : a2.IsWhole) (a3 : Memref sig .tc .vmem S8x2560 .f32) (h3 : a3.IsWhole)
    (hc0 : ¬cond0_0 i) (hc1 : cond0_1 i) (x : Vec F S256x2560 .bf16) (acc : Vec F S8x2560 .f32) :
    out0_C_1 c i a1 h1 a2 h2 a3 h3 hc0 hc1 x acc = fun _ => k0_pay3 (k0_pay2 x acc) := by
  unfold out0_C_1
  rw [View.read_writes_eq_canon _ _ _ (cover0_C_1 c i a1 h1 a2 h2 a3 h3 hc0 hc1 x acc)]
  unfold kernelRun0_C
  dsimp only
  sl_unfold_words
  rw [View.canon_unit_zero (S := S1x1) hz, View.readCov_unit_zero (S := S8x2560) _ hz]
  simp only [View.readAt_eq_ld, h1.read_unread, h3.read_unread, View.ld_unit_zero (S := S256x2560) hz, View.ld_unit_zero (S := S8x2560) hz]
  rfl

end AnyValues

/-! ## The payloads over the extended reals -/

/-- The magnitude of one weight. -/
abbrev mag (x : EReal) : EReal := max x (-x)

/-- Row `8k + a`, lane `l`, of a block of 256 rows. -/
abbrev blkRow (k : Fin 32) (j : S8x2560.Idx) : S256x2560.Idx :=
  ix2 (n0 := 256) (n1 := 2560) ⟨k.val * 8 + (j 0).val, by have := idx2_lt0 j; have := k.isLt; omega⟩ (j 1)

/-- One point's accumulation: the scratch plus the sum over the block's 32 groups of eight rows. -/
theorem pay2_apply (x : Vec Ideal S256x2560 .bf16) (acc : Vec Ideal S8x2560 .f32) (j : S8x2560.Idx) :
    k0_pay2 x acc j = acc j + ∑ k : Fin 32, mag (x (blkRow k j)) := by
  unfold k0_pay2
  rw [shapeCast_self, addf_apply]
  congr 1
  refine (Ideal.multiReduction_add_single _ _ _ _ _ _).trans ?_
  refine Finset.sum_congr rfl fun k _ => ?_
  rw [shapeCast_apply _ _ _ (blkRow k j)]
  · rfl
  · rw [Shape.rowMajor_val_two, Shape.rowMajor_val_three]
    show (k.val * 8 + (j 0).val) * 2560 + (j 1).val = (k.val * 8 + (j 0).val) * 2560 + (j 1).val
    rfl

theorem pay1_apply (j : S8x2560.Idx) : k0_pay1 (F := Ideal) j = 0 := by
  unfold k0_pay1
  rw [shapeCast_self]
  exact Ideal.ofBits_zero_f32

/-- The named reciprocal of the number of weights is the exact rational. -/
theorem inv_w : Named.named (F := Ideal) κ "inv_w" (φ := .f32) 0x3372B9D6#32 = ((1 / 17694720 : ℝ) : EReal) :=
  IdealRules.named_const.ideal_named_scalar _ _ _ _ rfl

/-- The only element of a one-element vector, taken through its rank-3 form. -/
theorem extract_one (v : S1.Idx → EReal) : extractAt ![0, 0, 0] (shapeCast S1x1x1 v shapeCasts_S1_S1x1x1) inpos_S1x1x1_p0_0_0 = v (ix1 (n := 1) 0) := by
  unfold extractAt shapeCast
  refine congrArg v ?_
  funext a
  match a with
  | ⟨0, _⟩ => exact Subsingleton.elim (α := Fin 1) _ _

/-- A sum over the scratch is the sum over its rank-3 form. -/
theorem sum_cast (a : S8x2560.Idx → EReal) : ∑ i : S1x8x2560.Idx, shapeCast S1x8x2560 a shapeCasts_S8x2560_S1x8x2560 i = ∑ q : S8x2560.Idx, a q := by
  unfold shapeCast
  generalize shapeCasts_S8x2560_S1x8x2560 = h
  exact Fintype.sum_equiv (Shape.reshapeEquiv h) _ _ fun _ => rfl

/-- The last step: the sum of the whole scratch times the reciprocal. -/
theorem pay3_eq (a : Vec Ideal S8x2560 .f32) : k0_pay3 a = (∑ q : S8x2560.Idx, a q) * ((1 / 17694720 : ℝ) : EReal) := by
  unfold k0_pay3
  dsimp only
  rw [extract_one, inv_w]
  refine congrArg (· * ((1 / 17694720 : ℝ) : EReal)) ?_
  rw [← sum_cast]
  exact Ideal.multiReduction_add_total _ _ _ (by decide) _ _ _

/-! ## The fold over the grid, and the result -/

variable (V : (c : Dev nD) → (b : Ref sig .tc) → Buf (Elt Ideal) ((c : Thread nD τ).loc b))

/-- The weights as the region finds them. -/
abbrev wArr (c : Dev nD) : S6912x2560.Idx → EReal := V c main_arg1

theorem index0_0 : ∀ t : Fin cfg0.N, win0_0.index t 0 = t.val ∧ win0_0.index t 1 = 0 := by decide +kernel

/-- Row `r`, lane `l` of point `n`'s block of weights. -/
theorem iblk0_apply (c : Dev nD) (t : Fin cfg0.N) (j : S256x2560.Idx) (i : S6912x2560.Idx)
    (h0 : (i 0).val = t.val * 256 + (j 0).val) (h1 : (i 1).val = (j 1).val) :
    (iblk0 V c 0 t : Vec Ideal S256x2560 .bf16) j = wArr V c i := by
  unfold iblk0
  rw [View.read_apply]
  show V c main_arg1 _ = V c main_arg1 _
  congr 1
  funext a
  apply Fin.ext
  match a with
  | ⟨0, _⟩ => show win0_0.index t 0 * 256 + 1 * (j 0).val = (i 0).val; rw [(index0_0 t).1]; omega
  | ⟨1, _⟩ => show win0_0.index t 1 * 2560 + 1 * (j 1).val = (i 1).val; rw [(index0_0 t).2]; omega

/-- The magnitude of the weight at row `r` (zero past the last row), lane `l`. -/
def magAt (c : Dev nD) (l : Fin 2560) (r : ℕ) : EReal :=
  if h : r < 6912 then mag (wArr V c (ix2 (n0 := 6912) (n1 := 2560) ⟨r, h⟩ l)) else 0

/-- What point `n` adds to the scratch at `j`. -/
def addAt (c : Dev nD) (n : ℕ) (j : S8x2560.Idx) : EReal :=
  ∑ k : Fin 32, magAt V c (j 1) ((n * 32 + k.val) * 8 + (j 0).val)

theorem pay2_at (c : Dev nD) (n : ℕ) (h : n < cfg0.N) (acc : Vec Ideal S8x2560 .f32) (j : S8x2560.Idx) :
    k0_pay2 (iblk0 V c 0 ⟨n, h⟩) acc j = acc j + addAt V c n j := by
  rw [pay2_apply]
  refine congrArg (acc j + ·) (Finset.sum_congr rfl fun k _ => ?_)
  have hn : n < 27 := Nat.lt_of_lt_of_eq h N_0
  have hj := idx2_lt0 j
  have hk := k.isLt
  unfold magAt
  rw [dif_pos (by omega)]
  refine congrArg mag (iblk0_apply V c ⟨n, h⟩ _ _ ?_ rfl)
  show (n * 32 + k.val) * 8 + (j 0).val = n * 256 + (k.val * 8 + (j 0).val)
  omega

/-- After point `n` the scratch holds the sums of the points' additions so far. -/
theorem scratch_apply (c : Dev nD) : ∀ (n : ℕ) (h : n < cfg0.N) (j : S8x2560.Idx),
    (outsAt0 V c n h).2 j = ∑ s ∈ Finset.range (n + 1), addAt V c s j
  | 0, h, j => by
    rw [outsAt0_A V c ⟨0, h⟩ rfl (by dsimp only; omega)]
    dsimp only
    rw [sout_A, pay2_at, pay1_apply, zero_add, Finset.sum_range_one]
  | n + 1, h, j => by
    have hN : n + 1 < 27 := Nat.lt_of_lt_of_eq h N_0
    have h0 : ¬(⟨n + 1, h⟩ : Fin cfg0.N).val % 27 = 0 := by dsimp only; omega
    rw [Finset.sum_range_succ, ← scratch_apply c n (Nat.lt_of_succ_lt h) j]
    by_cases h1 : (⟨n + 1, h⟩ : Fin cfg0.N).val % 27 = 26
    · rw [outsAt0_C V c ⟨n + 1, h⟩ h0 h1]
      dsimp only
      rw [sout_C, pay2_at]
      rfl
    · rw [outsAt0_B V c ⟨n + 1, h⟩ h0 h1]
      dsimp only
      rw [sout_B, pay2_at]
      rfl

/-- The sum of all the points' additions over the scratch is the sum of all |w|. -/
theorem sum_all (c : Dev nD) : ∑ q : S8x2560.Idx, ∑ s ∈ Finset.range 27, addAt V c s q = ∑ i : S6912x2560.Idx, mag (wArr V c i) := by
  have hl : ∀ l : Fin 2560, ∑ a : Fin 8, ∑ s ∈ Finset.range 27, ∑ k : Fin 32, magAt V c l ((s * 32 + k.val) * 8 + a.val)
      = ∑ r : Fin 6912, mag (wArr V c (ix2 (n0 := 6912) (n1 := 2560) r l)) := by
    intro l
    rw [Finset.sum_comm]
    have e1 : ∀ s ∈ Finset.range 27, ∑ a : Fin 8, ∑ k : Fin 32, magAt V c l ((s * 32 + k.val) * 8 + a.val)
        = ∑ k ∈ Finset.range 32, ∑ a ∈ Finset.range 8, magAt V c l ((s * 32 + k) * 8 + a) := by
      intro s _
      rw [Finset.sum_comm, ← Fin.sum_univ_eq_sum_range (fun k => ∑ a ∈ Finset.range 8, magAt V c l ((s * 32 + k) * 8 + a))]
      exact Finset.sum_congr rfl fun k _ => Fin.sum_univ_eq_sum_range (fun a => magAt V c l ((s * 32 + k.val) * 8 + a)) 8
    rw [Finset.sum_congr rfl e1, Finset.sum_range_range_mul_add 27 32 (fun k => ∑ a ∈ Finset.range 8, magAt V c l (k * 8 + a)),
      Finset.sum_range_range_mul_add (27 * 32) 8 (magAt V c l), ← Fin.sum_univ_eq_sum_range]
    refine Finset.sum_congr rfl fun r _ => ?_
    unfold magAt
    rw [dif_pos r.isLt]
  rw [sum_idx2 (n0 := 8) (n1 := 2560), sum_idx2 (n0 := 6912) (n1 := 2560), Finset.sum_comm, Finset.sum_comm (s := (Finset.univ : Finset (Fin 6912)))]
  exact Finset.sum_congr rfl fun l _ => hl l

/-- Gamma: the mean of |w|. -/
def gam (c : Dev nD) : EReal := (∑ i : S6912x2560.Idx, mag (wArr V c i)) * ((1 / 17694720 : ℝ) : EReal)

theorem out_last (c : Dev nD) (t : Fin cfg0.N) (h : t.val = 26) : (outsAt0 V c t.val t.isLt).1 = fun _ => gam V c := by
  have h0 : ¬t.val % 27 = 0 := by omega
  have h1 : t.val % 27 = 26 := by omega
  rw [outsAt0_C V c t h0 h1]
  dsimp only
  rw [out_C, pay3_eq]
  funext _
  unfold gam
  rw [← sum_all]
  refine congrArg (· * ((1 / 17694720 : ℝ) : EReal)) (Finset.sum_congr rfl fun q _ => ?_)
  rw [← scratch_apply V c 26 (by rw [show cfg0.N = 27 from N_0]; decide) q]
  obtain ⟨n, hn⟩ := t
  obtain rfl : n = 26 := h
  rw [outsAt0_C V c ⟨26, hn⟩ h0 h1]
  dsimp only
  rw [sout_C]

/-- The first region's last point. -/
def last0 : Fin cfg0.N := ⟨26, by rw [show cfg0.N = 27 from N_0]; decide⟩

/-- The first region leaves gamma in its one-element array. -/
theorem final0 (c : Dev nD) : (dat0 V c).arrAt 1 cfg0.N = (fun _ => gam V c) := by
  refine (dat0 V c).arrAt_eq_of_cover 1 (fun _ => gam V c) (fun t hf => ?_) fun i =>
    ⟨last0, (flush0_1 last0).mpr rfl, ?_⟩
  · have h : t.val = 26 := by have := (flush0_1 t).mp hf; have := t.isLt; have := lt_of_lt_of_eq t.isLt (show cfg0.N = 27 from N_0); omega
    show (cfg0.win 1).cut (grid0.coords t) ((dat0 V c).after 1 t) = _
    rw [after0_1, out_last V c t h]
    rfl
  · show i ∈ ((View.whole main_v0).slice (win0_1.rect last0)).set
    rw [View.set_slice_whole, Rect.mem_set_unit]
    intro a
    have h0 : (i 0 : Nat) < 1 := (i 0).isLt
    have h1 : (i 1 : Nat) < 1 := (i 1).isLt
    match a with
    | ⟨0, _⟩ => show win0_1.index last0 0 * win0_1.size 0 ≤ (i 0 : Nat) ∧ (i 0 : Nat) < win0_1.index last0 0 * win0_1.size 0 + win0_1.xsize (grid0.coords last0) 0
                rw [show win0_1.index last0 0 * win0_1.size 0 = 0 from by decide +kernel, show win0_1.xsize (grid0.coords last0) 0 = 1 from by decide +kernel]; omega
    | ⟨1, _⟩ => show win0_1.index last0 1 * win0_1.size 1 ≤ (i 1 : Nat) ∧ (i 1 : Nat) < win0_1.index last0 1 * win0_1.size 1 + win0_1.xsize (grid0.coords last0) 1
                rw [show win0_1.index last0 1 * win0_1.size 1 = 0 from by decide +kernel, show win0_1.xsize (grid0.coords last0) 1 = 1 from by decide +kernel]; omega

end Cert.KernelIdeal.Val

end
-- ==== Proof.Value.Rows.lean ====
/- The row arithmetic of the main kernel over the extended reals: what a trip of its quantising loop computes, one row at a
   time — the normalised row, its scale, and its codes. -/
module

public import proofs.«01_k».proof.Proof.Value.Gamma

@[expose] public section

set_option maxRecDepth 16384

noncomputable section

namespace Cert.KernelIdeal.Val

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

/-- The reciprocal square root factor of a row: one over the root of its mean square plus the small constant. -/
def rowRms (X : Fin 2560 → EReal) : EReal :=
  FloatOps.rsqrt (F := Ideal) (φ := .f32) ((∑ l : Fin 2560, X l * X l) * ((1 / 2560 : ℝ) : EReal) + FloatOps.ofBits (F := Ideal) .f32 0x358637BD#32)

/-- Element `l` of the normalised row. -/
def rowNorm (X g : Fin 2560 → EReal) (l : Fin 2560) : EReal := X l * rowRms X * g l

/-- The largest magnitude of the normalised row. -/
def rowMax (X g : Fin 2560 → EReal) : EReal :=
  (Finset.univ : Finset (Fin 2560)).fold max (FloatOps.ofBits (F := Ideal) .f32 0xFF800000#32) fun l => mag (rowNorm X g l)

/-- The scale of the row: its largest magnitude over 127, or one for a row of zeros. -/
def rowScale (X g : Fin 2560 → EReal) : EReal :=
  if Ideal.cmp .oeq (rowMax X g) (FloatOps.ofBits (F := Ideal) .f32 0x00000000#32) = 1#1 then FloatOps.ofBits (F := Ideal) .f32 0x3F800000#32
  else Ideal.div (rowMax X g) (FloatOps.ofBits (F := Ideal) .f32 0x42FE0000#32)

/-- Element `l` of the row over its scale, rounded to an integer and clipped to ±127. -/
def rowQ (X g : Fin 2560 → EReal) (l : Fin 2560) : EReal :=
  min (FloatOps.sitofp (F := Ideal) .f32 127#32)
    (max (FloatOps.sitofp (F := Ideal) .f32 4294967169#32) (FloatOps.roundeven (F := Ideal) (φ := .f32) (Ideal.div (rowNorm X g l) (rowScale X g))))

/-- The named reciprocal of the row length is the exact rational. -/
theorem inv_d : Named.named (F := Ideal) κ "inv_d" (φ := .f32) 0x39CCCCCD#32 = ((1 / 2560 : ℝ) : EReal) :=
  IdealRules.named_const.ideal_named_scalar _ _ _ _ rfl

/-- A vector of 32 as a column. -/
theorem col_apply (v : S32.Idx → EReal) (i : Fin 32) : shapeCast S32x1 v shapeCasts_S32_S32x1 (ix2 (n0 := 32) (n1 := 1) i 0) = v (ix1 (n := 32) i) := by
  refine shapeCast_apply _ _ _ _ ?_
  rw [Shape.rowMajor_val_one, Shape.rowMajor_val_two]
  show i.val = i.val * 1 + 0
  omega

/-- A column of 32 spread over a row's lanes. -/
theorem spread_apply (v : S32x1.Idx → EReal) (i : Fin 32) (l : Fin 2560) :
    broadcastTo S32x2560 v broadcasts_S32x1_S32x2560 (ix2 (n0 := 32) (n1 := 2560) i l) = v (ix2 (n0 := 32) (n1 := 1) i 0) := by
  refine broadcastTo_apply _ _ _ _ fun a => ?_
  match a with
  | ⟨0, _⟩ => rfl
  | ⟨1, _⟩ => rfl

/-- The row `g` spread over 32 rows. -/
theorem spreadG_apply (v : S1x2560.Idx → EReal) (i : Fin 32) (l : Fin 2560) :
    broadcastTo S32x2560 v broadcasts_S1x2560_S32x2560 (ix2 (n0 := 32) (n1 := 2560) i l) = v (ix2 (n0 := 1) (n1 := 2560) 0 l) := by
  refine broadcastTo_apply _ _ _ _ fun a => ?_
  match a with
  | ⟨0, _⟩ => rfl
  | ⟨1, _⟩ => rfl

/-- Row `i` of a block of 32 rows. -/
abbrev row32 (x : S32x2560.Idx → EReal) (i : Fin 32) (l : Fin 2560) : EReal := x (ix2 (n0 := 32) (n1 := 2560) i l)

/-- The one row of `g`. -/
abbrev rowG (g : S1x2560.Idx → EReal) (l : Fin 2560) : EReal := g (ix2 (n0 := 1) (n1 := 2560) 0 l)

theorem lift32 (i : Fin 32) (l : Fin 2560) (h : S32x2560.Reduces [1] S32) : h.lift (a := 1) (ix1 (n := 32) i) l = ix2 (n0 := 32) (n1 := 2560) i l := by
  funext a
  match a with
  | ⟨0, _⟩ => rfl
  | ⟨1, _⟩ => rfl

theorem pay4_apply (g : FVec Ideal S1x2560 .f32) (x : Vec Ideal S32x2560 .bf16) (i : Fin 32) (l : Fin 2560) :
    k2_pay4 g x (ix2 (n0 := 32) (n1 := 2560) i l) = rowNorm (row32 x i) (rowG g) l := by
  unfold k2_pay4
  dsimp only
  rw [shapeCast_self, mulf_apply, mulf_apply, spread_apply, spreadG_apply, extf_apply]
  unfold rowNorm
  refine congrArg (· * _) (congrArg (_ * ·) ?_)
  unfold rowRms
  show FloatOps.rsqrt (F := Ideal) (φ := .f32) _ = _
  refine congrArg _ ?_
  rw [addf_apply, mulf_apply, col_apply, broadcast_apply, broadcast_apply, inv_d]
  refine congrArg (· + _) (congrArg (· * _) ?_)
  refine (Ideal.multiReduction_add_single _ _ _ _ _ _).trans ?_
  refine Finset.sum_congr rfl fun l _ => ?_
  rw [mulf_apply, extf_apply]
  exact congrArg (fun q => x q * x q) (lift32 i l _)

theorem pay5_apply (g : FVec Ideal S1x2560 .f32) (x : Vec Ideal S32x2560 .bf16) (i : Fin 32) :
    k2_pay5 g x (ix2 (n0 := 32) (n1 := 1) i 0) = rowScale (row32 x i) (rowG g) := by
  have hm : multiReduction .maximumf [1] S32 (absf (k2_pay4 g x)) 0xFF800000#32 reduces_S32x2560_S32 (.inl rfl) rfl (ix1 (n := 32) i)
      = rowMax (row32 x i) (rowG g) := by
    refine (Ideal.multiReduction_maximumf_single _ _ _ _ _ _).trans ?_
    unfold rowMax
    refine congrArg (Finset.univ.fold max _) (funext fun l => ?_)
    show mag (k2_pay4 g x _) = _
    exact congrArg mag ((congrArg (k2_pay4 g x) (lift32 i l _)).trans (pay4_apply g x i l))
  unfold k2_pay5
  dsimp only
  rw [select_apply, cmpf_apply, divf_apply, col_apply, broadcast_apply, broadcast_apply, broadcast_apply, hm]
  rfl

theorem pay6_apply (g : FVec Ideal S1x2560 .f32) (x : Vec Ideal S32x2560 .bf16) (i : Fin 32) (l : Fin 2560) :
    k2_pay6 g x (ix2 (n0 := 32) (n1 := 2560) i l) = rowQ (row32 x i) (rowG g) l := by
  unfold k2_pay6
  rw [minimumf_apply, maximumf_apply, broadcast_apply, broadcast_apply]
  unfold rowQ
  refine congrArg (min _) (congrArg (max _) ?_)
  show FloatOps.roundeven (F := Ideal) (φ := .f32) _ = _
  refine congrArg _ ?_
  rw [divf_apply, spread_apply, pay4_apply, pay5_apply]

theorem pay9_eq {F : FTy → Type} [FloatOps F] [Named F] (g : Vec F S1x2560 .f32) : k2_pay9 g = g := by
  unfold k2_pay9
  exact shapeCast_self _ _

theorem pay7_apply (g : FVec Ideal S1x2560 .f32) (x : Vec Ideal S32x2560 .bf16) (i : Fin 32) (l : Fin 2560) :
    k2_pay7 g x (ix2 (n0 := 32) (n1 := 2560) i l) = Ideal.fptosi 8 (rowQ (row32 x i) (rowG g) l) := by
  unfold k2_pay7
  exact congrArg (Ideal.fptosi 8) (pay6_apply g x i l)

theorem pay8_apply (g : FVec Ideal S1x2560 .f32) (x : Vec Ideal S32x2560 .bf16) (i : Fin 32) (l : Fin 2560) :
    k2_pay8 g x (ix2 (n0 := 32) (n1 := 2560) i l) = rowQ (row32 x i) (rowG g) l := by
  unfold k2_pay8
  rw [shapeCast_self, truncf_apply, pay6_apply]

theorem pay10_apply (s : FVec Ideal S32x1 .f32) (i : Fin 32) (l : Fin 128) :
    k2_pay10 s (ix2 (n0 := 32) (n1 := 128) i l) = s (ix2 (n0 := 32) (n1 := 1) i 0) := by
  unfold k2_pay10
  rw [shapeCast_self, shapeCast_self]
  refine broadcastTo_apply _ _ _ _ fun a => ?_
  match a with
  | ⟨0, _⟩ => rfl
  | ⟨1, _⟩ => rfl

end Cert.KernelIdeal.Val

end
-- ==== Proof.Value.Trips.lean ====
/- What the quantising loop of the main kernel leaves, over the extended reals: in every row its codes, the codes as the
   product reads them, and its scale. -/
module

public import proofs.«01_k».proof.Proof.Value.Rows
public import proofs.«01_k».proof.Proof.KernelIdeal.Region2

@[expose] public section

set_option maxRecDepth 16384

noncomputable section

namespace Cert.KernelIdeal.Val

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

section AnyValues

variable {F : FTy → Type} [FloatOps F] [Named F]

/-- The pieces one trip of the loop writes: the codes and the scale of 32 rows. -/
theorem trip_eq (𝒱 : Variants) (c : Dev nD) (bd : Option 𝒱.V) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc : k2_cond1 i = 1#1) (v18 : Vec F S1x2560 .f32) (X : BufTy.Contents (Elt F) arg3.view.ty) (k : Fin k2_t1_loop.trips) :
    tripL_k2_t1 𝒱 c bd i arg2 harg2 arg3 harg3 arg4 harg4 arg5 harg5 arg6 harg6 arg7 harg7 arg8 harg8 arg9 harg9 arg10 harg10 hc v18 X k =
      ([⟨(Rect.unit (s := S1024x2560) (k2_off1 k) S32x2560.size (k2_off1_inb i k hc)), k2_pay7 (k2_pay9 v18) (View.readAt (Elt F) arg3.view (Rect.unit (s := S1024x2560) (k2_off1 k) S32x2560.size (k2_off1_inb i k hc)).toLoadRect X)⟩],
       [⟨(Rect.unit (s := S1024x2560) (k2_off1 k) S32x2560.size (k2_off1_inb i k hc)), k2_pay8 (k2_pay9 v18) (View.readAt (Elt F) arg3.view (Rect.unit (s := S1024x2560) (k2_off1 k) S32x2560.size (k2_off1_inb i k hc)).toLoadRect X)⟩],
       [⟨(Rect.unit (s := S1024x128) (k2_off2 k) S32x128.size (k2_off2_inb i k hc)), k2_pay10 (k2_pay5 (k2_pay9 v18) (View.readAt (Elt F) arg3.view (Rect.unit (s := S1024x2560) (k2_off1 k) S32x2560.size (k2_off1_inb i k hc)).toLoadRect X))⟩]) := by
  unfold tripL_k2_t1 trip_k2_t1
  dsimp only
  rfl

/-- If every trip's pieces agree with three functions, so do all the loop's pieces. -/
theorem pieces_all (𝒱 : Variants) (c : Dev nD) (bd : Option 𝒱.V) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc : k2_cond1 i = 1#1) (v18 : Vec F S1x2560 .f32) (X : BufTy.Contents (Elt F) arg3.view.ty)
    (G5 : S1024x2560.Idx → Elt F .i8) (G9 : S1024x2560.Idx → Elt F .bf16) (G10 : S1024x128.Idx → Elt F .f32)
    (h5 : ∀ (k : Fin k2_t1_loop.trips) x, k2_pay7 (k2_pay9 v18) (View.readAt (Elt F) arg3.view (Rect.unit (s := S1024x2560) (k2_off1 k) S32x2560.size (k2_off1_inb i k hc)).toLoadRect X) x = G5 ((Rect.unit (s := S1024x2560) (k2_off1 k) S32x2560.size (k2_off1_inb i k hc)).emb x))
    (h9 : ∀ (k : Fin k2_t1_loop.trips) x, k2_pay8 (k2_pay9 v18) (View.readAt (Elt F) arg3.view (Rect.unit (s := S1024x2560) (k2_off1 k) S32x2560.size (k2_off1_inb i k hc)).toLoadRect X) x = G9 ((Rect.unit (s := S1024x2560) (k2_off1 k) S32x2560.size (k2_off1_inb i k hc)).emb x))
    (h10 : ∀ (k : Fin k2_t1_loop.trips) x, k2_pay10 (k2_pay5 (k2_pay9 v18) (View.readAt (Elt F) arg3.view (Rect.unit (s := S1024x2560) (k2_off1 k) S32x2560.size (k2_off1_inb i k hc)).toLoadRect X)) x = G10 ((Rect.unit (s := S1024x128) (k2_off2 k) S32x128.size (k2_off2_inb i k hc)).emb x)) :
    ∀ n, n ≤ k2_t1_loop.trips →
      (∀ p ∈ (pb_k2_t1 𝒱 c bd i arg2 harg2 arg3 harg3 arg4 harg4 arg5 harg5 arg6 harg6 arg7 harg7 arg8 harg8 arg9 harg9 arg10 harg10 hc v18 X n).1, ∀ x, p.2 x = G5 (p.1.emb x))
      ∧ (∀ p ∈ (pb_k2_t1 𝒱 c bd i arg2 harg2 arg3 harg3 arg4 harg4 arg5 harg5 arg6 harg6 arg7 harg7 arg8 harg8 arg9 harg9 arg10 harg10 hc v18 X n).2.1, ∀ x, p.2 x = G9 (p.1.emb x))
      ∧ (∀ p ∈ (pb_k2_t1 𝒱 c bd i arg2 harg2 arg3 harg3 arg4 harg4 arg5 harg5 arg6 harg6 arg7 harg7 arg8 harg8 arg9 harg9 arg10 harg10 hc v18 X n).2.2, ∀ x, p.2 x = G10 (p.1.emb x))
  | 0, _ => ⟨fun p hp => absurd hp List.not_mem_nil, fun p hp => absurd hp List.not_mem_nil, fun p hp => absurd hp List.not_mem_nil⟩
  | n + 1, hn => by
    obtain ⟨i5, i9, i10⟩ := pieces_all 𝒱 c bd i arg2 harg2 arg3 harg3 arg4 harg4 arg5 harg5 arg6 harg6 arg7 harg7 arg8 harg8 arg9 harg9 arg10 harg10 hc v18 X G5 G9 G10 h5 h9 h10 n (Nat.le_of_succ_le hn)
    have e := pb_k2_t1_succ 𝒱 c bd i arg2 harg2 arg3 harg3 arg4 harg4 arg5 harg5 arg6 harg6 arg7 harg7 arg8 harg8 arg9 harg9 arg10 harg10 hc v18 X ⟨n, hn⟩
    rw [trip_eq] at e
    dsimp only at e
    rw [e]
    refine ⟨fun p hp => ?_, fun p hp => ?_, fun p hp => ?_⟩
    · rcases List.mem_cons.mp hp with rfl | hp
      · exact h5 ⟨n, hn⟩
      · exact i5 p hp
    · rcases List.mem_cons.mp hp with rfl | hp
      · exact h9 ⟨n, hn⟩
      · exact i9 p hp
    · rcases List.mem_cons.mp hp with rfl | hp
      · exact h10 ⟨n, hn⟩
      · exact i10 p hp

end AnyValues

/-- Row `r` of a row tile. -/
abbrev row1k (x : S1024x2560.Idx → EReal) (r : Fin 1024) (l : Fin 2560) : EReal := x (ix2 (n0 := 1024) (n1 := 2560) r l)

/-- A trip's 32 rows are rows of the row tile. -/
theorem trip_row {i : grid2.Coords} (hc : k2_cond1 i = 1#1) (k : Fin k2_t1_loop.trips) {arg3 : Memref sig .tc .vmem S1024x2560 .bf16} (harg3 : arg3.IsWhole) (x1 : Vec Ideal S1024x2560 .bf16)
    (a : Fin 32) (r : Fin 1024) (hr : r.val = k2_off1 k 0 + a.val) :
    row32 (View.readAt (Elt Ideal) arg3.view (Rect.unit (s := S1024x2560) (k2_off1 k) S32x2560.size (k2_off1_inb i k hc)).toLoadRect (harg3.unread x1)) a = row1k x1 r := by
  funext l
  rw [View.readAt_eq_ld, harg3.read_unread]
  show x1 ((Rect.unit (s := S1024x2560) (k2_off1 k) S32x2560.size (k2_off1_inb i k hc)).emb (ix2 (n0 := 32) (n1 := 2560) a l)) = x1 _
  refine congrArg x1 (funext fun b => Fin.ext ?_)
  match b with
  | ⟨0, _⟩ => show k2_off1 k 0 + 1 * a.val = r.val; omega
  | ⟨1, _⟩ => show 0 + 1 * l.val = l.val; omega

/-- Element `l` of row `r` as the product reads it. -/
abbrev qOf (x1 : S1024x2560.Idx → EReal) (g : S1x2560.Idx → EReal) (r : Fin 1024) (l : Fin 2560) : EReal := rowQ (row1k x1 r) (rowG g) l

/-- All three results of the loop. -/
theorem pieces_val (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc : cond2_0 i) (x1 : Vec Ideal S1024x2560 .bf16) (x2 : Vec Ideal S1x2560 .f32) :
    (∀ p ∈ (pieces2 c i arg2 harg2 arg3 harg3 arg4 harg4 arg5 harg5 arg6 harg6 arg7 harg7 arg8 harg8 arg9 harg9 arg10 harg10 hc x1 x2).1, ∀ x, p.2 x = Ideal.fptosi 8 (qOf x1 x2 (p.1.emb x 0) (p.1.emb x 1)))
      ∧ (∀ p ∈ (pieces2 c i arg2 harg2 arg3 harg3 arg4 harg4 arg5 harg5 arg6 harg6 arg7 harg7 arg8 harg8 arg9 harg9 arg10 harg10 hc x1 x2).2.1, ∀ x, p.2 x = qOf x1 x2 (p.1.emb x 0) (p.1.emb x 1))
      ∧ (∀ p ∈ (pieces2 c i arg2 harg2 arg3 harg3 arg4 harg4 arg5 harg5 arg6 harg6 arg7 harg7 arg8 harg8 arg9 harg9 arg10 harg10 hc x1 x2).2.2, ∀ x, p.2 x = rowScale (row1k x1 (p.1.emb x 0)) (rowG x2)) := by
  have hv : View.readAt (Elt Ideal) arg4.view (Rect.unit ![0, 0] S1x2560.size inb_S1x2560_S1x2560_0_0).toLoadRect (harg4.unread x2) = x2 := by
    rw [View.readAt_eq_ld, harg4.read_unread, View.ld_unit_zero (S := S1x2560) hz]
  unfold pieces2
  rw [hv]
  refine pieces_all Variants.none c none i arg2 harg2 arg3 harg3 arg4 harg4 arg5 harg5 arg6 harg6 arg7 harg7 arg8 harg8 arg9 harg9 arg10 harg10 hc x2 (harg3.unread x1)
    (fun y => Ideal.fptosi 8 (qOf x1 x2 (y 0) (y 1))) (fun y => qOf x1 x2 (y 0) (y 1)) (fun y => rowScale (row1k x1 (y 0)) (rowG x2))
    (fun k x => ?_) (fun k x => ?_) (fun k x => ?_) _ (le_refl _)
  · obtain ⟨a, l, rfl⟩ : ∃ (a : Fin 32) (l : Fin 2560), x = ix2 (n0 := 32) (n1 := 2560) a l := ⟨x 0, x 1, eq_ix2 (n0 := 32) (n1 := 2560) x⟩
    rw [pay9_eq, pay7_apply,
      trip_row hc k harg3 x1 a ((Rect.unit (s := S1024x2560) (k2_off1 k) S32x2560.size (k2_off1_inb i k hc)).emb (ix2 (n0 := 32) (n1 := 2560) a l) 0) (by show k2_off1 k 0 + 1 * a.val = _; omega)]
    refine congrArg (fun l => Ideal.fptosi 8 (rowQ _ _ l)) (Fin.ext ?_)
    show l.val = 0 + 1 * l.val
    omega
  · obtain ⟨a, l, rfl⟩ : ∃ (a : Fin 32) (l : Fin 2560), x = ix2 (n0 := 32) (n1 := 2560) a l := ⟨x 0, x 1, eq_ix2 (n0 := 32) (n1 := 2560) x⟩
    rw [pay9_eq, pay8_apply,
      trip_row hc k harg3 x1 a ((Rect.unit (s := S1024x2560) (k2_off1 k) S32x2560.size (k2_off1_inb i k hc)).emb (ix2 (n0 := 32) (n1 := 2560) a l) 0) (by show k2_off1 k 0 + 1 * a.val = _; omega)]
    refine congrArg (fun l => rowQ _ _ l) (Fin.ext ?_)
    show l.val = 0 + 1 * l.val
    omega
  · obtain ⟨a, l, rfl⟩ : ∃ (a : Fin 32) (l : Fin 128), x = ix2 (n0 := 32) (n1 := 128) a l := ⟨x 0, x 1, eq_ix2 (n0 := 32) (n1 := 128) x⟩
    rw [pay9_eq, pay10_apply, pay5_apply,
      trip_row hc k harg3 x1 a ((Rect.unit (s := S1024x128) (k2_off2 k) S32x128.size (k2_off2_inb i k hc)).emb (ix2 (n0 := 32) (n1 := 128) a l) 0) (by show k2_off1 k 0 + 1 * a.val = _; omega)]

/-- The codes a first column tile leaves. -/
theorem out5_apply (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc : cond2_0 i) (x1 : Vec Ideal S1024x2560 .bf16) (x2 : Vec Ideal S1x2560 .f32) (y : S1024x2560.Idx) :
    out2_A_5 c i arg2 harg2 arg3 harg3 arg4 harg4 arg5 harg5 arg6 harg6 arg7 harg7 arg8 harg8 arg9 harg9 arg10 harg10 hc x1 x2 y = Ideal.fptosi 8 (qOf x1 x2 (y 0) (y 1)) := by
  unfold out2_A_5
  exact View.read_writes_apply_of_pieces _ _ (fun y => Ideal.fptosi 8 (qOf x1 x2 (y 0) (y 1))) _ (pieces_val c i arg2 harg2 arg3 harg3 arg4 harg4 arg5 harg5 arg6 harg6 arg7 harg7 arg8 harg8 arg9 harg9 arg10 harg10 hc x1 x2).1 y
    (cover2_A_5 c i arg2 harg2 arg3 harg3 arg4 harg4 arg5 harg5 arg6 harg6 arg7 harg7 arg8 harg8 arg9 harg9 arg10 harg10 hc x1 x2 y)

/-- The codes as the product reads them. -/
theorem outs0_apply (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc : cond2_0 i) (x1 : Vec Ideal S1024x2560 .bf16) (x2 : Vec Ideal S1x2560 .f32) (y : S1024x2560.Idx) :
    out2_A_s0 c i arg2 harg2 arg3 harg3 arg4 harg4 arg5 harg5 arg6 harg6 arg7 harg7 arg8 harg8 arg9 harg9 arg10 harg10 hc x1 x2 y = qOf x1 x2 (y 0) (y 1) := by
  unfold out2_A_s0
  exact View.read_writes_apply_of_pieces _ _ (fun y => qOf x1 x2 (y 0) (y 1)) _ (pieces_val c i arg2 harg2 arg3 harg3 arg4 harg4 arg5 harg5 arg6 harg6 arg7 harg7 arg8 harg8 arg9 harg9 arg10 harg10 hc x1 x2).2.1 y
    (cover2_A_s0 c i arg2 harg2 arg3 harg3 arg4 harg4 arg5 harg5 arg6 harg6 arg7 harg7 arg8 harg8 arg9 harg9 arg10 harg10 hc x1 x2 y)

/-- The scales, the same in every lane. -/
theorem outs1_apply (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc : cond2_0 i) (x1 : Vec Ideal S1024x2560 .bf16) (x2 : Vec Ideal S1x2560 .f32) (y : S1024x128.Idx) :
    out2_A_s1 c i arg2 harg2 arg3 harg3 arg4 harg4 arg5 harg5 arg6 harg6 arg7 harg7 arg8 harg8 arg9 harg9 arg10 harg10 hc x1 x2 y = rowScale (row1k x1 (y 0)) (rowG x2) := by
  unfold out2_A_s1
  exact View.read_writes_apply_of_pieces _ _ (fun y => rowScale (row1k x1 (y 0)) (rowG x2)) _ (pieces_val c i arg2 harg2 arg3 harg3 arg4 harg4 arg5 harg5 arg6 harg6 arg7 harg7 arg8 harg8 arg9 harg9 arg10 harg10 hc x1 x2).2.2 y
    (cover2_A_s1 c i arg2 harg2 arg3 harg3 arg4 harg4 arg5 harg5 arg6 harg6 arg7 harg7 arg8 harg8 arg9 harg9 arg10 harg10 hc x1 x2 y)

end Cert.KernelIdeal.Val

end
-- ==== Proof.Value.Blocks.lean ====
/- What one point of the main kernel's grid leaves, over the extended reals: its block of the product, and — at a first
   column tile — the row tile's scales laid out along lanes. -/
module

public import proofs.«01_k».proof.Proof.Value.Trips

@[expose] public section

set_option maxRecDepth 16384

noncomputable section

namespace Cert.KernelIdeal.Val

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

/-! ## The diagonal of a block -/

/-- Two lane numbers are the same word exactly when they are the same lane. -/
theorem diag_word : ∀ k l : Fin 128, IntOp.cmpi .eq (BitVec.ofNat 32 k.val) (BitVec.ofNat 32 l.val) = 1#1 ↔ k = l := by decide +kernel

theorem lift128 (l k : Fin 128) (h : S128x128.Reduces [0] S128) : h.lift (a := 0) (ix1 (n := 128) l) k = ix2 (n0 := 128) (n1 := 128) k l := by
  funext a
  match a with
  | ⟨0, _⟩ => rfl
  | ⟨1, _⟩ => rfl

/-- The sum down a column of a block masked to its diagonal is the diagonal's element. -/
theorem pay11_apply (v : Vec Ideal S128x128 .f32) (l : Fin 128) :
    k2_pay11 v (ix3 (n0 := 1) (n1 := 1) (n2 := 128) 0 0 l) = v (ix2 (n0 := 128) (n1 := 128) l l) := by
  unfold k2_pay11
  dsimp only
  rw [shapeCast_apply _ _ _ (ix2 (n0 := 1) (n1 := 128) 0 l) (by rw [Shape.rowMajor_val_two, Shape.rowMajor_val_three]; rfl),
    shapeCast_apply _ _ _ (ix1 (n := 128) l) (by rw [Shape.rowMajor_val_one, Shape.rowMajor_val_two]; show l.val = 0 * 128 + l.val; omega)]
  refine (Ideal.multiReduction_add_single _ _ _ _ _ _).trans ?_
  refine (Finset.sum_congr rfl fun k _ => ?_ : _ = ∑ k : Fin 128, if k = l then v (ix2 (n0 := 128) (n1 := 128) k l) else 0).trans ?_
  · refine (congrArg _ (lift128 l k _)).trans ?_
    rw [select_apply]
    show (if IntOp.cmpi .eq (BitVec.ofNat 32 (0 * 128 + k.val)) (BitVec.ofNat 32 (0 * 128 + l.val)) = 1#1 then _ else Ideal.ofBits .f32 0x00000000#32) = _
    rw [Ideal.ofBits_zero_f32, Nat.zero_mul, Nat.zero_add, Nat.zero_add]
    by_cases h : k = l
    · rw [if_pos h, if_pos ((diag_word k l).mpr h)]
    · rw [if_neg h, if_neg fun e => h ((diag_word k l).mp e)]
  · rw [Finset.sum_ite_eq' Finset.univ l, if_pos (Finset.mem_univ _)]

/-- A block read off a buffer whose rows are constant, taken on its diagonal. -/
theorem diag_piece {arg10 : Memref sig .tc .vmem S1024x128 .f32} (harg10 : arg10.IsWhole) (s : Vec Ideal S1024x128 .f32) (σ : Fin 1024 → EReal)
    (hs : ∀ y : S1024x128.Idx, s y = σ (y 0)) (o : Nat) (inb : ∀ a, (![o, 0] : Fin 2 → Nat) a + S128x128.size a ≤ S1024x128.size a)
    (inb8 : ∀ a, (![0, 0, o] : Fin 3 → Nat) a + S1x1x128.size a ≤ S1x1x1024.size a) (x : S1x1x128.Idx) :
    k2_pay11 (View.readAt (Elt Ideal) arg10.view (Rect.unit (s := S1024x128) ![o, 0] S128x128.size inb).toLoadRect (harg10.unread s)) x
      = σ ((Rect.unit (s := S1x1x1024) ![0, 0, o] S1x1x128.size inb8).emb x 2) := by
  obtain ⟨l, rfl⟩ : ∃ l : Fin 128, x = ix3 (n0 := 1) (n1 := 1) (n2 := 128) 0 0 l := ⟨x 2, funext fun a => by
    match a with
    | ⟨0, _⟩ => exact Subsingleton.elim (α := Fin 1) _ _
    | ⟨1, _⟩ => exact Subsingleton.elim (α := Fin 1) _ _
    | ⟨2, _⟩ => rfl⟩
  rw [pay11_apply, View.readAt_eq_ld, harg10.read_unread]
  exact hs _

theorem out6_apply (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc : cond2_0 i) (x0 : Vec Ideal S1x1 .f32) (x1 : Vec Ideal S1024x2560 .bf16) (x2 : Vec Ideal S1x2560 .f32) (x3 : Vec Ideal S7168x2560 .bf16) (y : S1x1x1024.Idx) :
    out2_A_6 c i arg2 harg2 arg3 harg3 arg4 harg4 arg5 harg5 arg6 harg6 arg7 harg7 arg8 harg8 arg9 harg9 arg10 harg10 hc x0 x1 x2 x3 y = rowScale (row1k x1 (y 2)) (rowG x2) := by
  unfold out2_A_6
  refine View.read_writes_apply_of_pieces _ _ (fun y => rowScale (row1k x1 (y 2)) (rowG x2)) _ ?_ y
    (cover2_A_6 c i arg2 harg2 arg3 harg3 arg4 harg4 arg5 harg5 arg6 harg6 arg7 harg7 arg8 harg8 arg9 harg9 arg10 harg10 hc x0 x1 x2 x3 y)
  have hs := outs1_apply c i arg2 harg2 arg3 harg3 arg4 harg4 arg5 harg5 arg6 harg6 arg7 harg7 arg8 harg8 arg9 harg9 arg10 harg10 hc x1 x2
  unfold kernelRun2_A
  dsimp only
  sl_unfold_words
  generalize out2_A_s1 c i arg2 harg2 arg3 harg3 arg4 harg4 arg5 harg5 arg6 harg6 arg7 harg7 arg8 harg8 arg9 harg9 arg10 harg10 hc x1 x2 = s at hs
  intro p hp
  simp only [List.mem_cons, List.not_mem_nil, or_false] at hp
  have key := diag_piece harg10 s (fun r => rowScale (row1k x1 r) (rowG x2)) hs
  rcases hp with rfl | rfl | rfl | rfl | rfl | rfl | rfl | rfl
  · exact key 896 inb_S1024x128_S128x128_896_0 inb_S1x1x1024_S1x1x128_0_0_896
  · exact key 768 inb_S1024x128_S128x128_768_0 inb_S1x1x1024_S1x1x128_0_0_768
  · exact key 640 inb_S1024x128_S128x128_640_0 inb_S1x1x1024_S1x1x128_0_0_640
  · exact key 512 inb_S1024x128_S128x128_512_0 inb_S1x1x1024_S1x1x128_0_0_512
  · exact key 384 inb_S1024x128_S128x128_384_0 inb_S1x1x1024_S1x1x128_0_0_384
  · exact key 256 inb_S1024x128_S128x128_256_0 inb_S1x1x1024_S1x1x128_0_0_256
  · exact key 128 inb_S1024x128_S128x128_128_0 inb_S1x1x1024_S1x1x128_0_0_128
  · exact key 0 inb_S1024x128_S128x128_0_0 inb_S1x1x1024_S1x1x128_0_0_0

/-! ## The product -/

theorem lhsD0 (i : S1024x512.Idx) (q : dot_S1024x2560_S512x2560_S1024x512_1_1_0_0_n_n.contr.Idx) : (dot_S1024x2560_S512x2560_S1024x512_1_1_0_0_n_n.lhsIdx i q 0).val = (i 0).val := by
  unfold DotDims.lhsIdx
  rw [dif_neg (show ¬(0 : Fin S1024x2560.rank) ∈ dot_S1024x2560_S512x2560_S1024x512_1_1_0_0_n_n.lhsBatch by decide), dif_pos (show (0 : Fin S1024x2560.rank) ∈ dot_S1024x2560_S512x2560_S1024x512_1_1_0_0_n_n.lhsNonContracting by decide)]
  rfl
theorem lhsD1 (i : S1024x512.Idx) (q : dot_S1024x2560_S512x2560_S1024x512_1_1_0_0_n_n.contr.Idx) : (dot_S1024x2560_S512x2560_S1024x512_1_1_0_0_n_n.lhsIdx i q 1).val = (q ⟨0, by decide⟩).val :=
  dot_S1024x2560_S512x2560_S1024x512_1_1_0_0_n_n.lhsIdx_val_of_single rfl i q
theorem rhsD0 (i : S1024x512.Idx) (q : dot_S1024x2560_S512x2560_S1024x512_1_1_0_0_n_n.contr.Idx) : (dot_S1024x2560_S512x2560_S1024x512_1_1_0_0_n_n.rhsIdx i q 0).val = (i 1).val := by
  unfold DotDims.rhsIdx
  rw [dif_neg (show ¬(0 : Fin S512x2560.rank) ∈ dot_S1024x2560_S512x2560_S1024x512_1_1_0_0_n_n.rhsBatch by decide), dif_pos (show (0 : Fin S512x2560.rank) ∈ dot_S1024x2560_S512x2560_S1024x512_1_1_0_0_n_n.rhsNonContracting by decide)]
  rfl
theorem rhsD1 (i : S1024x512.Idx) (q : dot_S1024x2560_S512x2560_S1024x512_1_1_0_0_n_n.contr.Idx) : (dot_S1024x2560_S512x2560_S1024x512_1_1_0_0_n_n.rhsIdx i q 1).val = (q ⟨0, by decide⟩).val :=
  dot_S1024x2560_S512x2560_S1024x512_1_1_0_0_n_n.rhsIdx_val_of_single rfl i q

/-- The block of the product: codes times ternary weights, times the row's scale, times gamma. -/
theorem pay3_apply (v6 : Vec Ideal S512x2560 .bf16) (v8 : Vec Ideal S1024x2560 .bf16) (v10 : Vec Ideal S1024x1 .f32) (v13 : EReal) (r : Fin 1024) (o : Fin 512) :
    k2_pay3 v6 v8 v10 v13 (ix2 (n0 := 1024) (n1 := 512) r o)
      = (∑ l : Fin 2560, v8 (ix2 (n0 := 1024) (n1 := 2560) r l) * v6 (ix2 (n0 := 512) (n1 := 2560) o l)) * v10 (ix2 (n0 := 1024) (n1 := 1) r 0) * v13 := by
  unfold k2_pay3
  rw [shapeCast_self, truncf_apply, mulf_apply, mulf_apply, broadcast_apply]
  refine congrArg (· * v13) (congrArg₂ (· * ·) ?_ ?_)
  · refine (Ideal.matmul_constant_zero_apply (φ₁ := .bf16) (φ₂ := .bf16) _ none _ _ _).trans ?_
    rw [← Equiv.sum_comp (contrEquiv1 dot_S1024x2560_S512x2560_S1024x512_1_1_0_0_n_n 2560 rfl rfl).symm]
    refine Finset.sum_congr rfl fun k _ => ?_
    have hk := contrEquiv1_symm_val dot_S1024x2560_S512x2560_S1024x512_1_1_0_0_n_n 2560 rfl rfl k
    have el : dot_S1024x2560_S512x2560_S1024x512_1_1_0_0_n_n.lhsIdx (ix2 (n0 := 1024) (n1 := 512) r o) ((contrEquiv1 dot_S1024x2560_S512x2560_S1024x512_1_1_0_0_n_n 2560 rfl rfl).symm k) = ix2 (n0 := 1024) (n1 := 2560) r k := funext fun a => Fin.ext (by
      match a with
      | ⟨0, _⟩ => exact lhsD0 _ _
      | ⟨1, _⟩ => exact (lhsD1 _ _).trans hk)
    have er : dot_S1024x2560_S512x2560_S1024x512_1_1_0_0_n_n.rhsIdx (ix2 (n0 := 1024) (n1 := 512) r o) ((contrEquiv1 dot_S1024x2560_S512x2560_S1024x512_1_1_0_0_n_n 2560 rfl rfl).symm k) = ix2 (n0 := 512) (n1 := 2560) o k := funext fun a => Fin.ext (by
      match a with
      | ⟨0, _⟩ => exact rhsD0 _ _
      | ⟨1, _⟩ => exact (rhsD1 _ _).trans hk)
    rw [el, er]
  · refine broadcastTo_apply _ _ _ _ fun a => ?_
    match a with
    | ⟨0, _⟩ => rfl
    | ⟨1, _⟩ => rfl

/-- The column tile's rows of the ternary weights start at 512 times its number. -/
theorem off3_word : ∀ j : Fin 14, (Scalar.indexCast (Scalar.muli (BitVec.ofNat 32 j.val) 512#32) : Index).toNat = 512 * j.val := by decide +kernel
theorem off3_eq (i : grid2.Coords) : k2_off3 i 0 = 512 * (i 1).val := off3_word (i 1)

/-- Row `o` of the column tile's 512 rows of the ternary weights. -/
abbrev tRow (i : grid2.Coords) (o : Fin 512) : Fin 7168 := ⟨512 * (i 1).val + o.val, by have : (i 1).val < 14 := (i 1).isLt; have := o.isLt; omega⟩

/-- A point's block of the product from the codes and scales held in scratch. -/
def yAt (i : grid2.Coords) (x0 : S1x1.Idx → EReal) (x3 : S7168x2560.Idx → EReal) (q : Fin 1024 → Fin 2560 → EReal) (σ : Fin 1024 → EReal) (r : Fin 1024) (o : Fin 512) : EReal :=
  (∑ l : Fin 2560, q r l * x3 (ix2 (n0 := 7168) (n1 := 2560) (tRow i o) l)) * σ r * x0 (ix2 (n0 := 1) (n1 := 1) 0 0)

/-- A one-element buffer has one index. -/
theorem one_idx (j k : S1x1.Idx) : j = k := funext fun a => by
  match a with
  | ⟨0, _⟩ => exact Subsingleton.elim (α := Fin 1) _ _
  | ⟨1, _⟩ => exact Subsingleton.elim (α := Fin 1) _ _

theorem pay3_reads (i : grid2.Coords) {arg2 : Memref sig .tc .smem S1x1 .f32} (harg2 : arg2.IsWhole) {arg5 : Memref sig .tc .vmem S7168x2560 .bf16} (harg5 : arg5.IsWhole)
    {arg9 : Memref sig .tc .vmem S1024x2560 .bf16} (harg9 : arg9.IsWhole) {arg10 : Memref sig .tc .vmem S1024x128 .f32} (harg10 : arg10.IsWhole)
    (x0 : Vec Ideal S1x1 .f32) (x3 : Vec Ideal S7168x2560 .bf16) (s0 : Vec Ideal S1024x2560 .bf16) (s1 : Vec Ideal S1024x128 .f32) (j : S1x1.Idx) (r : Fin 1024) (o : Fin 512) :
    k2_pay3 (View.readAt (Elt Ideal) arg5.view (Rect.unit (s := S7168x2560) (k2_off3 i) S512x2560.size (k2_off3_inb i)).toLoadRect (harg5.unread x3))
        (View.readAt (Elt Ideal) arg9.view (Rect.unit (s := S1024x2560) ![0, 0] S1024x2560.size inb_S1024x2560_S1024x2560_0_0).toLoadRect (harg9.unread s0))
        (View.readAt (Elt Ideal) arg10.view (Rect.unit (s := S1024x128) ![0, 0] S1024x1.size inb_S1024x128_S1024x1_0_0).toLoadRect (harg10.unread s1))
        (View.readAt (Elt Ideal) arg2.view (Rect.unit (s := S1x1) ![0, 0] S1x1.size inb_S1x1_S1x1_0_0).toLoadRect (harg2.unread x0) j) (ix2 (n0 := 1024) (n1 := 512) r o)
      = yAt i x0 x3 (fun r l => s0 (ix2 (n0 := 1024) (n1 := 2560) r l)) (fun r => s1 (ix2 (n0 := 1024) (n1 := 128) r 0)) r o := by
  rw [pay3_apply]
  simp only [View.readAt_eq_ld, harg2.read_unread, harg5.read_unread, harg9.read_unread, harg10.read_unread,
    View.ld_unit_zero (S := S1024x2560) hz, View.ld_unit_zero (S := S1x1) hz]
  unfold yAt
  refine congrArg₂ (· * ·) (congrArg₂ (· * ·) (Finset.sum_congr rfl fun l _ => congrArg₂ (· * ·) ?_ ?_) ?_) (congrArg x0 (one_idx _ _))
  · show s0 ((Rect.unit (s := S1024x2560) ![0, 0] S1024x2560.size inb_S1024x2560_S1024x2560_0_0).emb (ix2 (n0 := 1024) (n1 := 2560) r l)) = _
    refine congrArg s0 (funext fun a => Fin.ext ?_)
    match a with
    | ⟨0, _⟩ => show 0 + 1 * r.val = r.val; omega
    | ⟨1, _⟩ => show 0 + 1 * l.val = l.val; omega
  · show x3 ((Rect.unit (s := S7168x2560) (k2_off3 i) S512x2560.size (k2_off3_inb i)).emb (ix2 (n0 := 512) (n1 := 2560) o l)) = _
    refine congrArg x3 (funext fun a => Fin.ext ?_)
    match a with
    | ⟨0, _⟩ => show k2_off3 i 0 + 1 * o.val = 512 * (i 1).val + o.val; rw [off3_eq]; omega
    | ⟨1, _⟩ => show 0 + 1 * l.val = l.val; omega
  · show s1 ((Rect.unit (s := S1024x128) ![0, 0] S1024x1.size inb_S1024x128_S1024x1_0_0).emb (ix2 (n0 := 1024) (n1 := 1) r 0)) = _
    refine congrArg s1 (funext fun a => Fin.ext ?_)
    match a with
    | ⟨0, _⟩ => show 0 + 1 * r.val = r.val; omega
    | ⟨1, _⟩ => rfl

theorem outA4_apply (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc : cond2_0 i) (x0 : Vec Ideal S1x1 .f32) (x1 : Vec Ideal S1024x2560 .bf16) (x2 : Vec Ideal S1x2560 .f32) (x3 : Vec Ideal S7168x2560 .bf16) (r : Fin 1024) (o : Fin 512) :
    out2_A_4 c i arg2 harg2 arg3 harg3 arg4 harg4 arg5 harg5 arg6 harg6 arg7 harg7 arg8 harg8 arg9 harg9 arg10 harg10 hc x0 x1 x2 x3 (ix2 (n0 := 1024) (n1 := 512) r o)
      = yAt i x0 x3 (qOf x1 x2) (fun r => rowScale (row1k x1 r) (rowG x2)) r o := by
  unfold out2_A_4
  rw [View.read_writes_eq_canon _ _ _ (cover2_A_4 c i arg2 harg2 arg3 harg3 arg4 harg4 arg5 harg5 arg6 harg6 arg7 harg7 arg8 harg8 arg9 harg9 arg10 harg10 hc x0 x1 x2 x3)]
  unfold kernelRun2_A
  dsimp only
  sl_unfold_words
  rw [View.canon_unit_zero (S := S1024x512) hz]
  refine (pay3_reads i harg2 harg5 harg9 harg10 x0 x3 _ _ _ r o).trans ?_
  refine congrArg₂ (fun q σ => yAt i x0 x3 q σ r o) (funext fun r => funext fun l => ?_) (funext fun r => ?_)
  · exact outs0_apply c i arg2 harg2 arg3 harg3 arg4 harg4 arg5 harg5 arg6 harg6 arg7 harg7 arg8 harg8 arg9 harg9 arg10 harg10 hc x1 x2 _
  · exact outs1_apply c i arg2 harg2 arg3 harg3 arg4 harg4 arg5 harg5 arg6 harg6 arg7 harg7 arg8 harg8 arg9 harg9 arg10 harg10 hc x1 x2 _

theorem outB4_apply (c : Dev nD) (i : grid2.Coords) (arg2 : Memref sig .tc .smem S1x1 .f32) (harg2 : arg2.IsWhole) (arg3 : Memref sig .tc .vmem S1024x2560 .bf16) (harg3 : arg3.IsWhole) (arg4 : Memref sig .tc .vmem S1x2560 .f32) (harg4 : arg4.IsWhole) (arg5 : Memref sig .tc .vmem S7168x2560 .bf16) (harg5 : arg5.IsWhole) (arg6 : Memref sig .tc .vmem S1024x512 .bf16) (harg6 : arg6.IsWhole) (arg7 : Memref sig .tc .vmem S1024x2560 .i8) (harg7 : arg7.IsWhole) (arg8 : Memref sig .tc .vmem S1x1x1024 .f32) (harg8 : arg8.IsWhole) (arg9 : Memref sig .tc .vmem S1024x2560 .bf16) (harg9 : arg9.IsWhole) (arg10 : Memref sig .tc .vmem S1024x128 .f32) (harg10 : arg10.IsWhole) (hc : ¬cond2_0 i) (x0 : Vec Ideal S1x1 .f32) (x1 : Vec Ideal S1024x2560 .bf16) (x2 : Vec Ideal S1x2560 .f32) (x3 : Vec Ideal S7168x2560 .bf16) (s0 : Vec Ideal S1024x2560 .bf16) (s1 : Vec Ideal S1024x128 .f32) (r : Fin 1024) (o : Fin 512) :
    out2_B_4 c i arg2 harg2 arg3 harg3 arg4 harg4 arg5 harg5 arg6 harg6 arg7 harg7 arg8 harg8 arg9 harg9 arg10 harg10 hc x0 x1 x2 x3 s0 s1 (ix2 (n0 := 1024) (n1 := 512) r o)
      = yAt i x0 x3 (fun r l => s0 (ix2 (n0 := 1024) (n1 := 2560) r l)) (fun r => s1 (ix2 (n0 := 1024) (n1 := 128) r 0)) r o := by
  unfold out2_B_4
  rw [View.read_writes_eq_canon _ _ _ (cover2_B_4 c i arg2 harg2 arg3 harg3 arg4 harg4 arg5 harg5 arg6 harg6 arg7 harg7 arg8 harg8 arg9 harg9 arg10 harg10 hc x0 x1 x2 x3 s0 s1)]
  unfold kernelRun2_B
  dsimp only
  sl_unfold_words
  rw [View.canon_unit_zero (S := S1024x512) hz]
  exact pay3_reads i harg2 harg5 harg9 harg10 x0 x3 s0 s1 _ r o

end Cert.KernelIdeal.Val

end
-- ==== Proof.Value.Ternary.lean ====
/- The ternary weights the second kernel leaves, over the extended reals: each weight over gamma, rounded and clipped to ±1. -/
module

public import proofs.«01_k».proof.Proof.Value.Blocks
public import proofs.«01_k».proof.Proof.KernelIdeal.Region1

@[expose] public section

set_option maxRecDepth 16384

noncomputable section

namespace Cert.KernelIdeal.Val

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

/-- One ternary weight: the weight over gamma, rounded to an integer and clipped to ±1. -/
def tern (γ w : EReal) : EReal :=
  min (FloatOps.sitofp (F := Ideal) .f32 1#32)
    (max (FloatOps.sitofp (F := Ideal) .f32 4294967295#32) (FloatOps.roundeven (F := Ideal) (φ := .f32) (Ideal.div w γ)))

theorem tpay2_apply (γ : EReal) (w : Vec Ideal S256x512 .bf16) (j : S256x512.Idx) : k1_pay2 γ w j = tern γ (w j) := rfl

theorem tpay3_apply (γ : EReal) (w : Vec Ideal S256x512 .bf16) (j : S256x512.Idx) : k1_pay3 γ w j = tern γ (w j) := rfl

/-- A chunk of 512 columns of a block's weights, as ternary weights. -/
theorem tern_piece {arg1 : Memref sig .tc .smem S1x1 .f32} (harg1 : arg1.IsWhole) {arg2 : Memref sig .tc .vmem S256x2560 .bf16} (harg2 : arg2.IsWhole)
    (x0 : Vec Ideal S1x1 .f32) (x1 : Vec Ideal S256x2560 .bf16) (j : S1x1.Idx) (o : Nat) (inb : ∀ a, (![0, o] : Fin 2 → Nat) a + S256x512.size a ≤ S256x2560.size a) (x : S256x512.Idx) :
    k1_pay3 (View.readAt (Elt Ideal) arg1.view (Rect.unit (s := S1x1) ![0, 0] S1x1.size inb_S1x1_S1x1_0_0).toLoadRect (harg1.unread x0) j)
        (View.readAt (Elt Ideal) arg2.view (Rect.unit (s := S256x2560) ![0, o] S256x512.size inb).toLoadRect (harg2.unread x1)) x
      = tern (x0 (ix2 (n0 := 1) (n1 := 1) 0 0)) (x1 ((Rect.unit (s := S256x2560) ![0, o] S256x512.size inb).emb x)) := by
  rw [tpay3_apply]
  simp only [View.readAt_eq_ld, harg1.read_unread, harg2.read_unread, View.ld_unit_zero (S := S1x1) hz]
  exact congrArg₂ tern (congrArg x0 (one_idx _ _)) rfl

/-- A point's block of ternary weights. -/
theorem tout2_apply (c : Dev nD) (i : grid1.Coords) (arg1 : Memref sig .tc .smem S1x1 .f32) (harg1 : arg1.IsWhole) (arg2 : Memref sig .tc .vmem S256x2560 .bf16) (harg2 : arg2.IsWhole) (arg3 : Memref sig .tc .vmem S256x2560 .bf16) (harg3 : arg3.IsWhole) (arg4 : Memref sig .tc .vmem S256x640 .i8) (harg4 : arg4.IsWhole)
    (x0 : Vec Ideal S1x1 .f32) (x1 : Vec Ideal S256x2560 .bf16) (y : S256x2560.Idx) :
    out1_A_2 c i arg1 harg1 arg2 harg2 arg3 harg3 arg4 harg4 x0 x1 y = tern (x0 (ix2 (n0 := 1) (n1 := 1) 0 0)) (x1 y) := by
  unfold out1_A_2
  refine View.read_writes_apply_of_pieces _ _ (fun y => tern (x0 (ix2 (n0 := 1) (n1 := 1) 0 0)) (x1 y)) _ ?_ y (cover1_A_2 c i arg1 harg1 arg2 harg2 arg3 harg3 arg4 harg4 x0 x1 y)
  unfold kernelRun1_A
  dsimp only
  sl_unfold_words
  intro p hp
  simp only [List.mem_cons, List.not_mem_nil, or_false] at hp
  rcases hp with rfl | rfl | rfl | rfl | rfl
  · exact tern_piece harg1 harg2 x0 x1 _ 2048 inb_S256x2560_S256x512_0_2048
  · exact tern_piece harg1 harg2 x0 x1 _ 1536 inb_S256x2560_S256x512_0_1536
  · exact tern_piece harg1 harg2 x0 x1 _ 1024 inb_S256x2560_S256x512_0_1024
  · exact tern_piece harg1 harg2 x0 x1 _ 512 inb_S256x2560_S256x512_0_512
  · exact tern_piece harg1 harg2 x0 x1 _ 0 inb_S256x2560_S256x512_0_0

end Cert.KernelIdeal.Val

end
-- ==== Proof.Value.TernArr.lean ====
/- The array of ternary weights after the second kernel: on the rows of the weights, each weight over gamma, rounded and
   clipped. -/
module

public import proofs.«01_k».proof.Proof.Value.Ternary

@[expose] public section

set_option maxRecDepth 16384

noncomputable section

namespace Cert.KernelIdeal.Val

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The one-element array of gamma as a kernel finds it. -/
abbrev gArr (c : Dev nD) : S1x1.Idx → EReal := V c main_v0

theorem index1_0 : ∀ t : Fin cfg1.N, win1_0.index t 0 = 0 ∧ win1_0.index t 1 = 0 := by decide +kernel
theorem index1_1 : ∀ t : Fin cfg1.N, win1_1.index t 0 = t.val ∧ win1_1.index t 1 = 0 := by decide +kernel
theorem index1_2 : ∀ t : Fin cfg1.N, win1_2.index t 0 = t.val ∧ win1_2.index t 1 = 0 := by decide +kernel
theorem xsize1_2 : ∀ t : Fin cfg1.N, win1_2.xsize (grid1.coords t) 0 = 256 ∧ win1_2.xsize (grid1.coords t) 1 = 2560 := by decide +kernel

theorem iblk1_0_apply (c : Dev nD) (t : Fin cfg1.N) : (iblk1 V c 0 t : Vec Ideal S1x1 .f32) (ix2 (n0 := 1) (n1 := 1) 0 0) = gArr V c (ix2 (n0 := 1) (n1 := 1) 0 0) := by
  unfold iblk1
  rw [View.read_apply]
  show V c main_v0 _ = V c main_v0 _
  exact congrArg _ (one_idx _ _)

/-- Row `r`, lane `l` of point `t`'s block of weights. -/
theorem iblk1_1_apply (c : Dev nD) (t : Fin cfg1.N) (j : S256x2560.Idx) (i : S6912x2560.Idx)
    (h0 : (i 0).val = t.val * 256 + (j 0).val) (h1 : (i 1).val = (j 1).val) :
    (iblk1 V c 1 t : Vec Ideal S256x2560 .bf16) j = wArr V c i := by
  unfold iblk1
  rw [View.read_apply]
  show V c main_arg1 _ = V c main_arg1 _
  congr 1
  funext a
  apply Fin.ext
  match a with
  | ⟨0, _⟩ => show win1_1.index t 0 * 256 + 1 * (j 0).val = (i 0).val; rw [(index1_1 t).1]; omega
  | ⟨1, _⟩ => show win1_1.index t 1 * 2560 + 1 * (j 1).val = (i 1).val; rw [(index1_1 t).2]; omega

/-- The ternary weights at row `r` (zero past the last row of the weights), lane `l`. -/
def ternAt (c : Dev nD) (r : ℕ) (l : Fin 2560) : EReal :=
  if h : r < 6912 then tern (gArr V c (ix2 (n0 := 1) (n1 := 1) 0 0)) (wArr V c (ix2 (n0 := 6912) (n1 := 2560) ⟨r, h⟩ l)) else 0

/-- The whole array of ternary weights. -/
def ternG (c : Dev nD) : S7168x2560.Idx → EReal := fun i => ternAt V c (i 0).val (i 1)

theorem flushed1_2 (c : Dev nD) (t : Fin cfg1.N) : (dat1 V c).flushed 2 t = ((cfg1.win 2).blk t).view.read (Elt Ideal) (ternG V c) := by
  show (cfg1.win 2).cut (grid1.coords t) ((dat1 V c).after 2 t) = _
  rw [after1_2]
  funext j
  unfold outsAt1
  dsimp only
  have ht : t.val < 27 := Nat.lt_of_lt_of_eq t.isLt N_1
  have hj : (j 0).val < 256 := Nat.lt_of_lt_of_eq (j 0).isLt (xsize1_2 t).1
  have hj1 : (j 1).val < 2560 := Nat.lt_of_lt_of_eq (j 1).isLt (xsize1_2 t).2
  refine (tout2_apply c _ _ _ _ _ _ _ _ _ _ _ _).trans ?_
  rw [iblk1_0_apply, View.read_apply]
  have e0 : ((((cfg1.win 2).blk t).view.emb j) 0).val = t.val * 256 + (j 0).val := by
    show win1_2.index t 0 * 256 + 1 * (j 0).val = _; rw [(index1_2 t).1]; omega
  have e1 : ((((cfg1.win 2).blk t).view.emb j) 1).val = (j 1).val := by
    show win1_2.index t 1 * 2560 + 1 * (j 1).val = _; rw [(index1_2 t).2]; omega
  show _ = ternAt V c ((((cfg1.win 2).blk t).view.emb j) 0).val ((((cfg1.win 2).blk t).view.emb j) 1)
  unfold ternAt
  rw [dif_pos (by rw [e0]; omega)]
  refine congrArg (tern _) (iblk1_1_apply V c t _ _ ?_ ?_)
  · exact e0
  · exact e1

/-- On the rows of the weights the array holds the ternary weights. -/
theorem tArr_apply (c : Dev nD) (r : Fin 7168) (h : r.val < 6912) (l : Fin 2560) :
    (dat1 V c).arrAt 2 cfg1.N (ix2 (n0 := 7168) (n1 := 2560) r l)
      = tern (gArr V c (ix2 (n0 := 1) (n1 := 1) 0 0)) (wArr V c (ix2 (n0 := 6912) (n1 := 2560) ⟨r.val, h⟩ l)) := by
  have hN : cfg1.N = 27 := N_1
  have hq : r.val / 256 < cfg1.N := by rw [hN]; omega
  refine ((dat1 V c).arrAt_apply_of_mem 2 (ternG V c) (fun t _ => flushed1_2 V c t) cfg1.N ⟨r.val / 256, hq⟩ _ hq (flush1_2 _) ?_).trans ?_
  · show ix2 (n0 := 7168) (n1 := 2560) r l ∈ ((View.whole main_v1_0).slice (win1_2.rect ⟨r.val / 256, hq⟩)).set
    rw [View.set_slice_whole, Rect.mem_set_unit]
    intro a
    match a with
    | ⟨0, _⟩ => show win1_2.index ⟨r.val / 256, hq⟩ 0 * 256 ≤ r.val ∧ r.val < win1_2.index ⟨r.val / 256, hq⟩ 0 * 256 + win1_2.xsize (grid1.coords ⟨r.val / 256, hq⟩) 0
                rw [(index1_2 _).1, (xsize1_2 _).1]; dsimp only; omega
    | ⟨1, _⟩ => show win1_2.index ⟨r.val / 256, hq⟩ 1 * 2560 ≤ l.val ∧ l.val < win1_2.index ⟨r.val / 256, hq⟩ 1 * 2560 + win1_2.xsize (grid1.coords ⟨r.val / 256, hq⟩) 1
                rw [(index1_2 _).2, (xsize1_2 _).2]; have := l.isLt; omega
  · show ternAt V c r.val l = _
    unfold ternAt
    rw [dif_pos h]

end Cert.KernelIdeal.Val

end
-- ==== Proof.Value.MainArr.lean ====
/- The main kernel's three result arrays over the extended reals: the codes, the scales and the product, each as a whole
   array. -/
module

public import proofs.«01_k».proof.Proof.Value.TernArr

@[expose] public section

set_option maxRecDepth 16384

noncomputable section

namespace Cert.KernelIdeal.Val

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- Row `R` of the activations as the main kernel finds them. -/
abbrev xRow (c : Dev nD) (R : Fin 16384) (l : Fin 2560) : EReal := (V c main_v2 : S16384x2560.Idx → EReal) (ix2 (n0 := 16384) (n1 := 2560) R l)

/-- The norm's weights as the main kernel finds them. -/
abbrev gRow (c : Dev nD) (l : Fin 2560) : EReal := (V c main_v3 : S1x2560.Idx → EReal) (ix2 (n0 := 1) (n1 := 2560) 0 l)

/-- The ternary weights as the main kernel finds them. -/
abbrev tW (c : Dev nD) : S7168x2560.Idx → EReal := V c main_v1_0

/-- Gamma as the main kernel finds it. -/
abbrev gam0 (c : Dev nD) : EReal := (V c main_v0 : S1x1.Idx → EReal) (ix2 (n0 := 1) (n1 := 1) 0 0)

theorem lt2 (t : Fin cfg2.N) : t.val < 224 := Nat.lt_of_lt_of_eq t.isLt N_2

theorem index2_1 : ∀ t : Fin cfg2.N, win2_1.index t 0 = t.val / 14 ∧ win2_1.index t 1 = 0 := by decide +kernel
theorem index2_2 : ∀ t : Fin cfg2.N, win2_2.index t 0 = 0 ∧ win2_2.index t 1 = 0 := by decide +kernel
theorem index2_3 : ∀ t : Fin cfg2.N, win2_3.index t 0 = 0 ∧ win2_3.index t 1 = 0 := by decide +kernel
theorem index2_4 : ∀ t : Fin cfg2.N, win2_4.index t 0 = t.val / 14 ∧ win2_4.index t 1 = t.val % 14 := by decide +kernel
theorem index2_5 : ∀ t : Fin cfg2.N, win2_5.index t 0 = t.val / 14 ∧ win2_5.index t 1 = 0 := by decide +kernel
theorem index2_6 : ∀ t : Fin cfg2.N, win2_6.index t 0 = t.val / 14 ∧ win2_6.index t 1 = 0 ∧ win2_6.index t 2 = 0 := by decide +kernel
theorem xsize2_4 : ∀ t : Fin cfg2.N, win2_4.xsize (grid2.coords t) 0 = 1024 ∧ win2_4.xsize (grid2.coords t) 1 = min 512 (6912 - 512 * (t.val % 14)) := by decide +kernel
theorem xsize2_5 : ∀ t : Fin cfg2.N, win2_5.xsize (grid2.coords t) 0 = 1024 ∧ win2_5.xsize (grid2.coords t) 1 = 2560 := by decide +kernel
theorem xsize2_6 : ∀ t : Fin cfg2.N, win2_6.xsize (grid2.coords t) 0 = 1 ∧ win2_6.xsize (grid2.coords t) 1 = 1 ∧ win2_6.xsize (grid2.coords t) 2 = 1024 := by decide +kernel
theorem coord2_1 : ∀ t : Fin cfg2.N, (grid2.coords t 1).val = t.val % 14 := by decide +kernel

/-- Row `r` of the row tile point `t` works on. -/
abbrev bigRow (t : Fin cfg2.N) (r : Fin 1024) : Fin 16384 := ⟨t.val / 14 * 1024 + r.val, by have := lt2 t; have := r.isLt; omega⟩

theorem iblk2_0_apply (c : Dev nD) (t : Fin cfg2.N) : (iblk2 V c 0 t : Vec Ideal S1x1 .f32) (ix2 (n0 := 1) (n1 := 1) 0 0) = gam0 V c := by
  unfold iblk2
  rw [View.read_apply]
  show V c main_v0 _ = V c main_v0 _
  exact congrArg _ (one_idx _ _)

theorem iblk2_1_row (c : Dev nD) (t : Fin cfg2.N) (r : Fin 1024) : row1k (iblk2 V c 1 t : Vec Ideal S1024x2560 .bf16) r = xRow V c (bigRow t r) := by
  funext l
  show (iblk2 V c 1 t : Vec Ideal S1024x2560 .bf16) (ix2 (n0 := 1024) (n1 := 2560) r l) = _
  unfold iblk2
  rw [View.read_apply]
  show V c main_v2 _ = V c main_v2 _
  congr 1
  funext a
  apply Fin.ext
  match a with
  | ⟨0, _⟩ => show win2_1.index t 0 * 1024 + 1 * r.val = t.val / 14 * 1024 + r.val; rw [(index2_1 t).1]; omega
  | ⟨1, _⟩ => show win2_1.index t 1 * 2560 + 1 * l.val = l.val; rw [(index2_1 t).2]; omega

theorem iblk2_2_row (c : Dev nD) (t : Fin cfg2.N) : rowG (iblk2 V c 2 t : Vec Ideal S1x2560 .f32) = gRow V c := by
  funext l
  show (iblk2 V c 2 t : Vec Ideal S1x2560 .f32) (ix2 (n0 := 1) (n1 := 2560) 0 l) = _
  unfold iblk2
  rw [View.read_apply]
  show V c main_v3 _ = V c main_v3 _
  congr 1
  funext a
  apply Fin.ext
  match a with
  | ⟨0, _⟩ => show win2_2.index t 0 * 1 + 1 * 0 = 0; rw [(index2_2 t).1]
  | ⟨1, _⟩ => show win2_2.index t 1 * 2560 + 1 * l.val = l.val; rw [(index2_2 t).2]; omega

theorem iblk2_3_apply (c : Dev nD) (t : Fin cfg2.N) (r : Fin 7168) (l : Fin 2560) :
    (iblk2 V c 3 t : Vec Ideal S7168x2560 .bf16) (ix2 (n0 := 7168) (n1 := 2560) r l) = tW V c (ix2 (n0 := 7168) (n1 := 2560) r l) := by
  unfold iblk2
  rw [View.read_apply]
  show V c main_v1_0 _ = V c main_v1_0 _
  congr 1
  funext a
  apply Fin.ext
  match a with
  | ⟨0, _⟩ => show win2_3.index t 0 * 7168 + 1 * r.val = r.val; rw [(index2_3 t).1]; omega
  | ⟨1, _⟩ => show win2_3.index t 1 * 2560 + 1 * l.val = l.val; rw [(index2_3 t).2]; omega

theorem tA2_div (t : Fin cfg2.N) : (tA2 t).val / 14 = t.val / 14 := by unfold tA2; dsimp only; omega
theorem bigRow_tA2 (t : Fin cfg2.N) (r : Fin 1024) : bigRow (tA2 t) r = bigRow t r := Fin.ext (by show (tA2 t).val / 14 * 1024 + r.val = _; rw [tA2_div])

/-- The row tile's first point reads the same rows. -/
theorem tile_row (c : Dev nD) (t : Fin cfg2.N) (r : Fin 1024) : row1k (iblk2 V c 1 (tA2 t) : Vec Ideal S1024x2560 .bf16) r = xRow V c (bigRow t r) :=
  (iblk2_1_row V c (tA2 t) r).trans (congrArg (xRow V c) (bigRow_tA2 t r))

/-! ## What each point leaves -/

theorem o5_apply (c : Dev nD) (t : Fin cfg2.N) (y : S1024x2560.Idx) :
    o5At2 V c t y = Ideal.fptosi 8 (rowQ (xRow V c (bigRow t (y 0))) (gRow V c) (y 1)) := by
  unfold o5At2 o5At2_at
  refine (out5_apply c _ _ _ _ _ _ _ _ _ _ _ _ _ _ _ _ _ _ _ _ _ _ y).trans ?_
  exact congrArg₂ (fun X g => Ideal.fptosi 8 (rowQ X g (y 1))) (tile_row V c t _) (iblk2_2_row V c _)

theorem s0_apply (c : Dev nD) (t : Fin cfg2.N) (y : S1024x2560.Idx) :
    s0At2 V c t y = rowQ (xRow V c (bigRow t (y 0))) (gRow V c) (y 1) := by
  unfold s0At2 s0At2_at
  refine (outs0_apply c _ _ _ _ _ _ _ _ _ _ _ _ _ _ _ _ _ _ _ _ _ _ y).trans ?_
  exact congrArg₂ (fun X g => rowQ X g (y 1)) (tile_row V c t _) (iblk2_2_row V c _)

theorem s1_apply (c : Dev nD) (t : Fin cfg2.N) (y : S1024x128.Idx) :
    s1At2 V c t y = rowScale (xRow V c (bigRow t (y 0))) (gRow V c) := by
  unfold s1At2 s1At2_at
  refine (outs1_apply c _ _ _ _ _ _ _ _ _ _ _ _ _ _ _ _ _ _ _ _ _ _ y).trans ?_
  exact congrArg₂ rowScale (tile_row V c t _) (iblk2_2_row V c _)

theorem o6_apply (c : Dev nD) (t : Fin cfg2.N) (y : S1x1x1024.Idx) :
    o6At2 V c t y = rowScale (xRow V c (bigRow t (y 2))) (gRow V c) := by
  unfold o6At2 o6At2_at
  refine (out6_apply c _ _ _ _ _ _ _ _ _ _ _ _ _ _ _ _ _ _ _ _ _ _ _ _ y).trans ?_
  exact congrArg₂ rowScale (tile_row V c t _) (iblk2_2_row V c _)

/-- The ternary weights' row a point's column `o` reads. -/
abbrev bigCol (t : Fin cfg2.N) (o : Fin 512) : Fin 7168 := ⟨512 * (t.val % 14) + o.val, by have := o.isLt; omega⟩

/-- Element `(R, O)` of the product: the row's codes times the ternary weights' row, times the row's scale, times gamma. -/
def yVal (c : Dev nD) (R : Fin 16384) (O : Fin 7168) : EReal :=
  (∑ l : Fin 2560, rowQ (xRow V c R) (gRow V c) l * tW V c (ix2 (n0 := 7168) (n1 := 2560) O l)) * rowScale (xRow V c R) (gRow V c) * gam0 V c

theorem o4_apply (c : Dev nD) (t : Fin cfg2.N) (r : Fin 1024) (o : Fin 512) :
    o4At2 V c t (ix2 (n0 := 1024) (n1 := 512) r o) = yVal V c (bigRow t r) (bigCol t o) := by
  have hO : tRow (grid2.coords t) o = bigCol t o := Fin.ext (by show 512 * (grid2.coords t 1).val + o.val = _; rw [coord2_1])
  unfold o4At2
  split
  · refine (outA4_apply c _ _ _ _ _ _ _ _ _ _ _ _ _ _ _ _ _ _ _ _ _ _ _ _ r o).trans ?_
    unfold yAt qOf yVal
    dsimp only
    rw [iblk2_0_apply, iblk2_1_row, iblk2_2_row, hO]
    refine congrArg (fun s : EReal => s * _ * _) (Finset.sum_congr rfl fun l _ => congrArg₂ (· * ·) rfl (iblk2_3_apply V c t _ l))
  · refine (outB4_apply c _ _ _ _ _ _ _ _ _ _ _ _ _ _ _ _ _ _ _ _ _ _ _ _ _ _ r o).trans ?_
    unfold yAt yVal
    dsimp only
    rw [iblk2_0_apply, s1_apply, hO]
    refine congrArg (fun s : EReal => s * _ * _) (Finset.sum_congr rfl fun l _ => congrArg₂ (· * ·) (s0_apply V c t _) (iblk2_3_apply V c t _ l))

/-! ## The arrays -/

/-- The codes' array. -/
theorem codesArr (c : Dev nD) (R : Fin 16384) (l : Fin 2560) :
    (dat2 V c).arrAt 5 cfg2.N (ix2 (n0 := 16384) (n1 := 2560) R l) = Ideal.fptosi 8 (rowQ (xRow V c R) (gRow V c) l) := by
  have hN : cfg2.N = 224 := N_2
  have hq : R.val / 1024 * 14 + 13 < cfg2.N := by rw [hN]; omega
  refine ((dat2 V c).arrAt_apply_of_mem 5 (fun i : S16384x2560.Idx => Ideal.fptosi 8 (rowQ (xRow V c (i 0)) (gRow V c) (i 1))) (fun t _ => ?_) cfg2.N ⟨R.val / 1024 * 14 + 13, hq⟩ _ hq ((flush2_5 _).mpr (by dsimp only; omega)) ?_).trans rfl
  · show (cfg2.win 5).cut (grid2.coords t) ((dat2 V c).after 5 t) = _
    rw [after2_5]
    funext j
    rw [View.read_apply]
    refine (o5_apply V c t _).trans ?_
    refine congrArg₂ (fun R l => Ideal.fptosi 8 (rowQ (xRow V c R) (gRow V c) l)) (Fin.ext ?_) (Fin.ext ?_)
    · show t.val / 14 * 1024 + (j 0).val = win2_5.index t 0 * 1024 + 1 * (j 0).val; rw [(index2_5 t).1]; omega
    · show (j 1).val = win2_5.index t 1 * 2560 + 1 * (j 1).val; rw [(index2_5 t).2]; omega
  · show ix2 (n0 := 16384) (n1 := 2560) R l ∈ ((View.whole main_v4_1).slice (win2_5.rect ⟨R.val / 1024 * 14 + 13, hq⟩)).set
    rw [View.set_slice_whole, Rect.mem_set_unit]
    intro a
    match a with
    | ⟨0, _⟩ => show win2_5.index ⟨R.val / 1024 * 14 + 13, hq⟩ 0 * 1024 ≤ R.val ∧ R.val < win2_5.index ⟨R.val / 1024 * 14 + 13, hq⟩ 0 * 1024 + win2_5.xsize (grid2.coords ⟨R.val / 1024 * 14 + 13, hq⟩) 0
                rw [(index2_5 _).1, (xsize2_5 _).1]; dsimp only; omega
    | ⟨1, _⟩ => show win2_5.index ⟨R.val / 1024 * 14 + 13, hq⟩ 1 * 2560 ≤ l.val ∧ l.val < win2_5.index ⟨R.val / 1024 * 14 + 13, hq⟩ 1 * 2560 + win2_5.xsize (grid2.coords ⟨R.val / 1024 * 14 + 13, hq⟩) 1
                rw [(index2_5 _).2, (xsize2_5 _).2]; have := l.isLt; omega

/-- The row of the flattened activations at batch `b`, position `s`. -/
abbrev flatRow (b : Fin 16) (s : Fin 1024) : Fin 16384 := ⟨b.val * 1024 + s.val, by have := b.isLt; have := s.isLt; omega⟩

/-- The scales' array. -/
theorem scalesArr (c : Dev nD) (b : Fin 16) (s : Fin 1024) :
    (dat2 V c).arrAt 6 cfg2.N (ix3 (n0 := 16) (n1 := 1) (n2 := 1024) b 0 s) = rowScale (xRow V c (flatRow b s)) (gRow V c) := by
  have hN : cfg2.N = 224 := N_2
  have hq : b.val * 14 + 13 < cfg2.N := by rw [hN]; have := b.isLt; omega
  refine ((dat2 V c).arrAt_apply_of_mem 6 (fun i : S16x1x1024.Idx => rowScale (xRow V c (flatRow (i 0) (i 2))) (gRow V c)) (fun t _ => ?_) cfg2.N ⟨b.val * 14 + 13, hq⟩ _ hq ((flush2_6 _).mpr (by dsimp only; omega)) ?_).trans rfl
  · show (cfg2.win 6).cut (grid2.coords t) ((dat2 V c).after 6 t) = _
    rw [after2_6]
    funext j
    rw [View.read_apply]
    refine (o6_apply V c t _).trans ?_
    refine congrArg (fun R => rowScale (xRow V c R) (gRow V c)) (Fin.ext ?_)
    have hj : (j 0).val < 1 := Nat.lt_of_lt_of_eq (j 0).isLt (xsize2_6 t).1
    show t.val / 14 * 1024 + (j 2).val = (win2_6.index t 0 * 1 + 1 * (j 0).val) * 1024 + (win2_6.index t 2 * 1024 + 1 * (j 2).val)
    rw [(index2_6 t).1, (index2_6 t).2.2]; omega
  · show ix3 (n0 := 16) (n1 := 1) (n2 := 1024) b 0 s ∈ ((View.whole main_v4_2).slice (win2_6.rect ⟨b.val * 14 + 13, hq⟩)).set
    rw [View.set_slice_whole, Rect.mem_set_unit]
    intro a
    match a with
    | ⟨0, _⟩ => show win2_6.index ⟨b.val * 14 + 13, hq⟩ 0 * 1 ≤ b.val ∧ b.val < win2_6.index ⟨b.val * 14 + 13, hq⟩ 0 * 1 + win2_6.xsize (grid2.coords ⟨b.val * 14 + 13, hq⟩) 0
                rw [(index2_6 _).1, (xsize2_6 _).1]; dsimp only; omega
    | ⟨1, _⟩ => show win2_6.index ⟨b.val * 14 + 13, hq⟩ 1 * 1 ≤ 0 ∧ 0 < win2_6.index ⟨b.val * 14 + 13, hq⟩ 1 * 1 + win2_6.xsize (grid2.coords ⟨b.val * 14 + 13, hq⟩) 1
                rw [(index2_6 _).2.1, (xsize2_6 _).2.1]; omega
    | ⟨2, _⟩ => show win2_6.index ⟨b.val * 14 + 13, hq⟩ 2 * 1024 ≤ s.val ∧ s.val < win2_6.index ⟨b.val * 14 + 13, hq⟩ 2 * 1024 + win2_6.xsize (grid2.coords ⟨b.val * 14 + 13, hq⟩) 2
                rw [(index2_6 _).2.2, (xsize2_6 _).2.2]; have := s.isLt; omega

/-- The product's array: only the first 6912 rows of the ternary weights are read by the part that is kept. -/
theorem yArr (c : Dev nD) (R : Fin 16384) (O : Fin 6912) :
    (dat2 V c).arrAt 4 cfg2.N (ix2 (n0 := 16384) (n1 := 6912) R O) = yVal V c R ⟨O.val, by have := O.isLt; omega⟩ := by
  have hN : cfg2.N = 224 := N_2
  have hO := O.isLt
  have hR := R.isLt
  have hq : R.val / 1024 * 14 + O.val / 512 < cfg2.N := by rw [hN]; omega
  refine ((dat2 V c).arrAt_apply_of_mem 4 (fun i : S16384x6912.Idx => yVal V c (i 0) ⟨(i 1).val, by have : (i 1).val < 6912 := (i 1).isLt; omega⟩) (fun t _ => ?_) cfg2.N ⟨R.val / 1024 * 14 + O.val / 512, hq⟩ _ hq (flush2_4 _) ?_).trans rfl
  · show (cfg2.win 4).cut (grid2.coords t) ((dat2 V c).after 4 t) = _
    rw [after2_4]
    funext j
    rw [View.read_apply]
    have h0 : (j 0).val < 1024 := Nat.lt_of_lt_of_eq (j 0).isLt (xsize2_4 t).1
    have h1 : (j 1).val < 512 := Nat.lt_of_lt_of_le (Nat.lt_of_lt_of_eq (j 1).isLt (xsize2_4 t).2) (min_le_left _ _)
    have ej : (cfg2.win 4).cut (grid2.coords t) (o4At2 V c t) j = o4At2 V c t (ix2 (n0 := 1024) (n1 := 512) ⟨(j 0).val, h0⟩ ⟨(j 1).val, h1⟩) := by
      show o4At2 V c t _ = _
      refine congrArg (o4At2 V c t) (funext fun a => Fin.ext ?_)
      match a with
      | ⟨0, _⟩ => rfl
      | ⟨1, _⟩ => rfl
    refine (ej.trans (o4_apply V c t _ _)).trans ?_
    refine congrArg₂ (yVal V c) (Fin.ext ?_) (Fin.ext ?_)
    · show t.val / 14 * 1024 + (j 0).val = win2_4.index t 0 * 1024 + 1 * (j 0).val; rw [(index2_4 t).1]; omega
    · show 512 * (t.val % 14) + (j 1).val = win2_4.index t 1 * 512 + 1 * (j 1).val; rw [(index2_4 t).2]; omega
  · show ix2 (n0 := 16384) (n1 := 6912) R O ∈ ((View.whole main_v4_0).slice (win2_4.rect ⟨R.val / 1024 * 14 + O.val / 512, hq⟩)).set
    rw [View.set_slice_whole, Rect.mem_set_unit]
    have hd : (R.val / 1024 * 14 + O.val / 512) / 14 = R.val / 1024 := by omega
    have hm : (R.val / 1024 * 14 + O.val / 512) % 14 = O.val / 512 := by omega
    intro a
    match a with
    | ⟨0, _⟩ => show win2_4.index ⟨R.val / 1024 * 14 + O.val / 512, hq⟩ 0 * 1024 ≤ R.val ∧ R.val < win2_4.index ⟨R.val / 1024 * 14 + O.val / 512, hq⟩ 0 * 1024 + win2_4.xsize (grid2.coords ⟨R.val / 1024 * 14 + O.val / 512, hq⟩) 0
                rw [(index2_4 _).1, (xsize2_4 _).1]; dsimp only; rw [hd]; omega
    | ⟨1, _⟩ => show win2_4.index ⟨R.val / 1024 * 14 + O.val / 512, hq⟩ 1 * 512 ≤ O.val ∧ O.val < win2_4.index ⟨R.val / 1024 * 14 + O.val / 512, hq⟩ 1 * 512 + win2_4.xsize (grid2.coords ⟨R.val / 1024 * 14 + O.val / 512, hq⟩) 1
                rw [(index2_4 _).2, (xsize2_4 _).2]; dsimp only; rw [hm]; omega

end Cert.KernelIdeal.Val

end
-- ==== Proof.Value.Ints.lean ====
/- Rounded and clipped values are integers of the clip's range: what a conversion to an integer type makes of them, and back. -/
module

public import proofs.«01_k».proof.Proof.Value.MainArr

@[expose] public section

set_option maxRecDepth 16384

noncomputable section

namespace Cert.KernelIdeal.Val

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

theorem sitofp_ideal (b : BitVec 32) : FloatOps.sitofp (F := Ideal) .f32 b = (((b.toInt : ℤ) : ℝ) : EReal) := rfl

/-- A value rounded to an integer and clipped between two integers is an integer between them. -/
theorem clip_int (lo hi : ℤ) (h : lo ≤ hi) (x : EReal) :
    ∃ n : ℤ, lo ≤ n ∧ n ≤ hi ∧ min (((hi : ℤ) : ℝ) : EReal) (max (((lo : ℤ) : ℝ) : EReal) (FloatOps.roundeven (F := Ideal) (φ := .f32) x)) = ((n : ℝ) : EReal) := by
  show ∃ n : ℤ, lo ≤ n ∧ n ≤ hi ∧ min (((hi : ℤ) : ℝ) : EReal) (max (((lo : ℤ) : ℝ) : EReal) (Ideal.liftRound Ideal.roundHalfEven x)) = ((n : ℝ) : EReal)
  induction x using EReal.rec with
  | bot =>
    refine ⟨lo, le_refl _, h, ?_⟩
    show min _ (max _ (⊥ : EReal)) = _
    rw [max_eq_left bot_le, min_eq_right (EReal.coe_le_coe_iff.mpr (Int.cast_le.mpr h))]
  | top =>
    refine ⟨hi, h, le_refl _, ?_⟩
    show min _ (max _ (⊤ : EReal)) = _
    rw [max_eq_right le_top, min_eq_left le_top]
  | coe r =>
    refine ⟨min hi (max lo (Ideal.roundHalfEven r)), le_min h (le_max_left _ _), min_le_left _ _, ?_⟩
    show min (((hi : ℤ) : ℝ) : EReal) (max (((lo : ℤ) : ℝ) : EReal) (((Ideal.roundHalfEven r : ℤ) : ℝ) : EReal)) = _
    rw [← EReal.coe_strictMono.monotone.map_max, ← EReal.coe_strictMono.monotone.map_min, ← Int.cast_max, ← Int.cast_min]

/-- An integer converted to an integer type, when it fits. -/
theorem fptosi_int (w : ℕ) (n : ℤ) (h0 : -((2 ^ (w - 1) : ℕ) : ℤ) ≤ n) (h1 : n ≤ ((2 ^ (w - 1) : ℕ) : ℤ) - 1) : Ideal.fptosi w ((n : ℝ) : EReal) = BitVec.ofInt w n := by
  unfold Ideal.fptosi
  rw [Ideal.toIntClamped_coe, Int.floor_intCast, Int.ceil_intCast, ite_self, min_eq_right h1, max_eq_right h0]

theorem fptosi32_int (n : ℤ) (h0 : -128 ≤ n) (h1 : n ≤ 127) : Ideal.fptosi 32 ((n : ℝ) : EReal) = BitVec.ofInt 32 n :=
  fptosi_int 32 n (by norm_num; omega) (by norm_num; omega)
theorem fptosi8_int (n : ℤ) (h0 : -128 ≤ n) (h1 : n ≤ 127) : Ideal.fptosi 8 ((n : ℝ) : EReal) = BitVec.ofInt 8 n :=
  fptosi_int 8 n (by norm_num; omega) (by norm_num; omega)

theorem narrow_all : ∀ k : Fin 256, (BitVec.ofInt 32 ((k.val : ℤ) - 128)).setWidth 8 = BitVec.ofInt 8 ((k.val : ℤ) - 128)
    ∧ ((BitVec.ofInt 8 ((k.val : ℤ) - 128)).signExtend 32) = BitVec.ofInt 32 ((k.val : ℤ) - 128)
    ∧ (BitVec.ofInt 32 ((k.val : ℤ) - 128)).toInt = (k.val : ℤ) - 128 := by decide +kernel

/-- A byte-sized integer survives the trip through the wider type and back. -/
theorem narrow_int (n : ℤ) (h0 : -128 ≤ n) (h1 : n ≤ 127) : (BitVec.ofInt 32 n).setWidth 8 = BitVec.ofInt 8 n
    ∧ ((BitVec.ofInt 8 n).signExtend 32) = BitVec.ofInt 32 n ∧ (BitVec.ofInt 32 n).toInt = n := by
  have h := narrow_all ⟨(n + 128).toNat, by omega⟩
  have e : (((n + 128).toNat : ℕ) : ℤ) - 128 = n := by omega
  dsimp only at h
  rw [e] at h
  exact h

/-- Narrowing through 32 bits is narrowing directly, and the result read back is the integer itself. -/
theorem byte_round (x : EReal) (lo hi : ℤ) (hl : -128 ≤ lo) (hh : hi ≤ 127) (hx : ∃ n : ℤ, lo ≤ n ∧ n ≤ hi ∧ x = ((n : ℝ) : EReal)) :
    (Ideal.fptosi 32 x).setWidth 8 = Ideal.fptosi 8 x
      ∧ FloatOps.sitofp (F := Ideal) .f32 (((Ideal.fptosi 32 x).setWidth 8).signExtend 32) = x := by
  obtain ⟨n, h0, h1, rfl⟩ := hx
  obtain ⟨e1, e2, e3⟩ := narrow_int n (by omega) (by omega)
  rw [fptosi32_int n (by omega) (by omega), fptosi8_int n (by omega) (by omega), e1, e2, sitofp_ideal, e3]
  exact ⟨rfl, rfl⟩

theorem rowQ_int (X g : Fin 2560 → EReal) (l : Fin 2560) : ∃ n : ℤ, -127 ≤ n ∧ n ≤ 127 ∧ rowQ X g l = ((n : ℝ) : EReal) := by
  unfold rowQ
  rw [sitofp_ideal, sitofp_ideal, show (127#32).toInt = 127 from by decide, show (4294967169#32).toInt = -127 from by decide]
  exact clip_int (-127) 127 (by norm_num) _

theorem tern_int (γ w : EReal) : ∃ n : ℤ, -1 ≤ n ∧ n ≤ 1 ∧ tern γ w = ((n : ℝ) : EReal) := by
  unfold tern
  rw [sitofp_ideal, sitofp_ideal, show (1#32).toInt = 1 from by decide, show (4294967295#32).toInt = -1 from by decide]
  exact clip_int (-1) 1 (by norm_num) _

theorem rowQ_byte (X g : Fin 2560 → EReal) (l : Fin 2560) : (Ideal.fptosi 32 (rowQ X g l)).setWidth 8 = Ideal.fptosi 8 (rowQ X g l)
    ∧ FloatOps.sitofp (F := Ideal) .f32 (((Ideal.fptosi 32 (rowQ X g l)).setWidth 8).signExtend 32) = rowQ X g l :=
  byte_round _ (-127) 127 (by norm_num) (by norm_num) (rowQ_int X g l)

theorem tern_byte (γ w : EReal) : (Ideal.fptosi 32 (tern γ w)).setWidth 8 = Ideal.fptosi 8 (tern γ w)
    ∧ FloatOps.sitofp (F := Ideal) .f32 (((Ideal.fptosi 32 (tern γ w)).setWidth 8).signExtend 32) = tern γ w :=
  byte_round _ (-1) 1 (by norm_num) (by norm_num) (tern_int γ w)

/-! ## Literals -/

/-- The number of weights, as the reference's literal. -/
theorem lit_w : FloatOps.ofBits (F := Ideal) .f32 0x4B870000#32 = ((17694720 : ℝ) : EReal) := by
  show Ideal.ofBits .f32 0x4B870000#32 = _
  simp [Ideal.ofBits, Ideal.ieee, -EReal.coe_mul]; norm_num

/-- The row length, as the reference's literal. -/
theorem lit_d : FloatOps.ofBits (F := Ideal) .f32 0x45200000#32 = ((2560 : ℝ) : EReal) := by
  show Ideal.ofBits .f32 0x45200000#32 = _
  simp [Ideal.ofBits, Ideal.ieee, -EReal.coe_mul]; norm_num

/-- One, as a literal. -/
theorem lit_one : FloatOps.ofBits (F := Ideal) .f32 0x3F800000#32 = ((1 : ℝ) : EReal) := by
  show Ideal.ofBits .f32 0x3F800000#32 = _
  simp [Ideal.ofBits, Ideal.ieee, -EReal.coe_mul]; norm_num

end Cert.KernelIdeal.Val

end
-- ==== Proof.Value.RefSide.lean ====
/- The reference over the extended reals, read at an index: gamma, the codes, the scales and the product, in the words the
   kernel's values are stated in. -/
module

public import proofs.«01_k».proof.Proof.Value.Ints
public import proofs.«01_k».proof.Proof.Gen.ReferenceIdeal.Read

@[expose] public section

set_option maxRecDepth 16384

noncomputable section

namespace Cert.KernelIdeal.Val

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen
open Cert.ReferenceIdeal.Read

section

variable (x0 : S16x1024x2560.Idx → EReal) (x1 : S6912x2560.Idx → EReal) (x2 : S2560.Idx → EReal)

/-- The mean of |w|. -/
def meanMag : EReal := (∑ i : S6912x2560.Idx, mag (x1 i)) * ((1 / 17694720 : ℝ) : EReal)

/-- The row of activations at batch `b`, position `s`. -/
abbrev refRow (b : Fin 16) (s : Fin 1024) (l : Fin 2560) : EReal := x0 (ix3 (n0 := 16) (n1 := 1024) (n2 := 2560) b s l)

/-- The norm's weights. -/
abbrev refG (l : Fin 2560) : EReal := x2 (ix1 (n := 2560) l)

theorem ref_gamma (i : Cert.ReferenceIdeal.S_.Idx) : val_main_v3 (F := Ideal) x1 i = meanMag x1 := by
  rw [val_main_v3_apply, val_main_v2_apply]
  show Ideal.div (FloatOps.ofBits (F := Ideal) .f32 0x00000000#32 + ∑ j : S6912x2560.Idx, val_main_v1 (F := Ideal) x1 j) (FloatOps.ofBits (F := Ideal) .f32 0x4B870000#32) = _
  rw [lit_w, Ideal.div_coe (by norm_num), show FloatOps.ofBits (F := Ideal) .f32 0x00000000#32 = 0 from Ideal.ofBits_zero_f32, zero_add]
  rfl

theorem ref_rms (b : Fin 16) (s : Fin 1024) : val_main_v18 (F := Ideal) x0 (ix3 (n0 := 16) (n1 := 1024) (n2 := 1) b s 0) = rowRms (refRow x0 b s) := by
  rw [val_main_v18_apply]
  unfold rowRms
  show FloatOps.rsqrt (F := Ideal) (φ := .f32) _ = _
  refine congrArg _ ?_
  rw [val_main_v17_apply, val_main_v16_apply, val_main_v15_apply, val_main_v14_apply, val_main_v13_apply, val_main_v12_apply]
  show Ideal.div (FloatOps.ofBits (F := Ideal) .f32 0x00000000#32 + ∑ k : Fin 2560, val_main_v11 (F := Ideal) x0 (idx_main_v12 _ k)) (FloatOps.ofBits (F := Ideal) .f32 0x45200000#32) + FloatOps.ofBits (F := Ideal) .f32 0x358637BD#32 = _
  rw [lit_d, Ideal.div_coe (by norm_num), show FloatOps.ofBits (F := Ideal) .f32 0x00000000#32 = 0 from Ideal.ofBits_zero_f32, zero_add]
  refine congrArg (fun s : EReal => s * _ + _) (Finset.sum_congr rfl fun k _ => ?_)
  rw [val_main_v11_apply, val_main_v10_apply]
  refine congrArg (fun q => x0 q * x0 q) (funext fun a => ?_)
  match a with
  | ⟨0, _⟩ => rfl
  | ⟨1, _⟩ => rfl
  | ⟨2, _⟩ => rfl

theorem ref_norm (b : Fin 16) (s : Fin 1024) (l : Fin 2560) :
    val_main_v23 (F := Ideal) x0 x2 (ix3 (n0 := 16) (n1 := 1024) (n2 := 2560) b s l) = rowNorm (refRow x0 b s) (refG x2) l := by
  rw [val_main_v23_apply, val_main_v20_apply, val_main_v22_apply, val_main_v21_apply, val_main_v19_apply, val_main_v10_apply]
  unfold rowNorm
  show x0 _ * val_main_v18 (F := Ideal) x0 _ * x2 _ = _
  refine congrArg₂ (· * ·) (congrArg₂ (· * ·) rfl ((congrArg (val_main_v18 (F := Ideal) x0) (funext fun a => ?_)).trans (ref_rms x0 b s))) (congrArg x2 (funext fun a => ?_))
  · match a with
    | ⟨0, _⟩ => rfl
    | ⟨1, _⟩ => rfl
    | ⟨2, _⟩ => rfl
  · match a with
    | ⟨0, _⟩ => rfl

theorem ref_max (b : Fin 16) (s : Fin 1024) : val_main_v25 (F := Ideal) x0 x2 (ix2 (n0 := 16) (n1 := 1024) b s) = rowMax (refRow x0 b s) (refG x2) := by
  unfold val_main_v25
  have hc : Std.Commutative (FloatOps.maximumf (F := Ideal) (φ := .f32)) := ⟨fun a b => max_comm (α := EReal) a b⟩
  have ha : Std.Associative (FloatOps.maximumf (F := Ideal) (φ := .f32)) := ⟨fun a b c => max_assoc (α := EReal) a b c⟩
  have hr : Cert.ReferenceIdeal.S16x1024x2560.Reduces [2] Cert.ReferenceIdeal.S16x1024 := by decide
  refine (Host.reduce_eq_fold_single _ _ _ _ hr _ _).trans ?_
  unfold rowMax
  show (Finset.univ : Finset (Fin 2560)).fold max (FloatOps.ofBits (F := Ideal) .f32 0xFF800000#32) _ = _
  refine congrArg (Finset.univ.fold max _) (funext fun l => ?_)
  show mag (val_main_v23 (F := Ideal) x0 x2 _) = mag _
  refine congrArg mag (Eq.trans (congrArg (val_main_v23 (F := Ideal) x0 x2) (funext fun a => ?_)) (ref_norm x0 x2 b s l))
  match a with
  | ⟨0, _⟩ => rfl
  | ⟨1, _⟩ => rfl
  | ⟨2, _⟩ => rfl

theorem ref_scale (b : Fin 16) (s : Fin 1024) : val_main_v30 (F := Ideal) x0 x2 (ix2 (n0 := 16) (n1 := 1024) b s) = rowScale (refRow x0 b s) (refG x2) := by
  rw [val_main_v30_apply, val_main_v27_apply, val_main_v29_apply, val_main_v26_apply, val_main_v28_apply, val_main_call2_v0_apply, ref_max]
  rfl

theorem ref_q (b : Fin 16) (s : Fin 1024) (l : Fin 2560) :
    val_main_v35 (F := Ideal) x0 x2 (ix3 (n0 := 16) (n1 := 1024) (n2 := 2560) b s l) = rowQ (refRow x0 b s) (refG x2) l := by
  rw [val_main_v35_apply, val_main_call4_v2_apply, val_main_call4_v4_apply, val_main_call4_v1_apply, val_main_v34_apply, val_main_v33_apply, ref_norm, val_main_v32_apply, val_main_v31_apply]
  have e : val_main_v30 (F := Ideal) x0 x2 (idx_main_v31 (idx_main_v32 (ix3 (n0 := 16) (n1 := 1024) (n2 := 2560) b s l))) = rowScale (refRow x0 b s) (refG x2) :=
    (congrArg (val_main_v30 (F := Ideal) x0 x2) (funext fun a => by
      match a with
      | ⟨0, _⟩ => rfl
      | ⟨1, _⟩ => rfl)).trans (ref_scale x0 x2 b s)
  rw [e]
  rfl

theorem ref_codes (b : Fin 16) (s : Fin 1024) (l : Fin 2560) :
    val_main_v37 (F := Ideal) x0 x2 (ix3 (n0 := 16) (n1 := 1024) (n2 := 2560) b s l) = Ideal.fptosi 8 (rowQ (refRow x0 b s) (refG x2) l) := by
  rw [val_main_v37_apply, val_main_v36_apply, ref_q]
  exact (rowQ_byte _ _ _).1

theorem ref_tern (i : S6912x2560.Idx) : val_main_v7 (F := Ideal) x1 i = tern (meanMag x1) (x1 i) := by
  rw [val_main_v7_apply, val_main_call1_v2_apply, val_main_call1_v4_apply, val_main_call1_v1_apply, val_main_v6_apply, val_main_v5_apply, val_main_v4_apply, val_main_v0_apply, ref_gamma]
  rfl

theorem ref_t8 (i : S6912x2560.Idx) : val_main_v9 (F := Ideal) x1 i = Ideal.fptosi 8 (tern (meanMag x1) (x1 i)) := by
  rw [val_main_v9_apply, val_main_v8_apply, ref_tern]
  exact (tern_byte _ _).1

/-- The codes as the product reads them. -/
theorem ref_q16 (b : Fin 16) (s : Fin 1024) (l : Fin 2560) :
    val_main_v40 (F := Ideal) x0 x2 (ix3 (n0 := 16) (n1 := 1024) (n2 := 2560) b s l) = rowQ (refRow x0 b s) (refG x2) l := by
  rw [val_main_v40_apply, val_main_v39_apply, val_main_v38_apply, val_main_v37_apply, val_main_v36_apply, ref_q]
  exact (rowQ_byte _ _ _).2

/-- The ternary weights as the product reads them. -/
theorem ref_t16 (i : S6912x2560.Idx) : val_main_v43 (F := Ideal) x1 i = tern (meanMag x1) (x1 i) := by
  rw [val_main_v43_apply, val_main_v42_apply, val_main_v41_apply, val_main_v9_apply, val_main_v8_apply, ref_tern]
  exact (tern_byte _ _).2

theorem ref_y (b : Fin 16) (s : Fin 1024) (o : Fin 6912) :
    val_main_v50 (F := Ideal) x0 x1 x2 (ix3 (n0 := 16) (n1 := 1024) (n2 := 6912) b s o)
      = (∑ l : Fin 2560, rowQ (refRow x0 b s) (refG x2) l * tern (meanMag x1) (x1 (ix2 (n0 := 6912) (n1 := 2560) o l))) * rowScale (refRow x0 b s) (refG x2) * meanMag x1 := by
  rw [val_main_v50_apply, val_main_v49_apply, val_main_v48_apply, val_main_v47_apply, val_main_v46_apply, val_main_v45_apply, val_main_v44_apply, ref_gamma]
  show (∑ k : Fin 2560, _) * val_main_v30 (F := Ideal) x0 x2 _ * _ = _
  refine congrArg (· * meanMag x1) (congrArg₂ (· * ·) (Finset.sum_congr rfl fun l _ => congrArg₂ (· * ·) ?_ ?_) ?_)
  · refine (congrArg (val_main_v40 (F := Ideal) x0 x2) (funext fun a => ?_)).trans (ref_q16 x0 x2 b s l)
    match a with
    | ⟨0, _⟩ => rfl
    | ⟨1, _⟩ => rfl
    | ⟨2, _⟩ => rfl
  · refine (congrArg (val_main_v43 (F := Ideal) x1) (funext fun a => ?_)).trans (ref_t16 x1 _)
    match a with
    | ⟨0, _⟩ => rfl
    | ⟨1, _⟩ => rfl
  · refine (congrArg (val_main_v30 (F := Ideal) x0 x2) (funext fun a => ?_)).trans (ref_scale x0 x2 b s)
    match a with
    | ⟨0, _⟩ => rfl
    | ⟨1, _⟩ => rfl

end

end Cert.KernelIdeal.Val

end
-- ==== Proof.Value.Pack.lean ====
/- The packed ternary weights: the second kernel's word arithmetic — four codes of a row gathered into one byte — read at an
   index. -/
module

public import proofs.«01_k».proof.Proof.Value.RefSide
public import Idealize.ShloMosaic.Lib.BitcastFour
public import Idealize.ShloMosaic.Lib.KernelVsHost

@[expose] public section

set_option maxRecDepth 16384

noncomputable section

namespace Cert.KernelIdeal.Val

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

/-! ## Four codes in a byte -/

/-- Four codes joined into one byte. -/
def packByte (b0 b1 b2 b3 : BitVec 8) : BitVec 8 := (b0 ||| b1 <<< 2) ||| (b2 ||| b3 <<< 2) <<< 4

/-- Four words joined the same way. -/
def quadW (A B C D : BitVec 32) : BitVec 32 := (A ||| B <<< 2) ||| (C ||| D <<< 2) <<< 4

/-- A code below four has two bits. -/
def Small (b : BitVec 8) : Prop := ∀ i, 2 ≤ i → b.getLsbD i = false

/-- Joining words whose bytes are all codes joins their bytes one by one. -/
theorem quad_bits (A B C D : BitVec 32) (a b c d : ℕ → BitVec 8) (hA : ∀ q, q < 32 → A.getLsbD q = (a (q / 8)).getLsbD (q % 8))
    (hB : ∀ q, q < 32 → B.getLsbD q = (b (q / 8)).getLsbD (q % 8)) (hC : ∀ q, q < 32 → C.getLsbD q = (c (q / 8)).getLsbD (q % 8))
    (hD : ∀ q, q < 32 → D.getLsbD q = (d (q / 8)).getLsbD (q % 8)) (sa : ∀ k, Small (a k)) (sb : ∀ k, Small (b k)) (sc : ∀ k, Small (c k)) (sd : ∀ k, Small (d k))
    (k i : ℕ) (hk : k < 4) (hi : i < 8) : (quadW A B C D).getLsbD (8 * k + i) = (packByte (a k) (b k) (c k) (d k)).getLsbD i := by
  unfold quadW packByte
  simp only [BitVec.getLsbD_or, BitVec.getLsbD_shiftLeft]
  have fa : ∀ k i, 2 ≤ i → (a k).getLsbD i = false := sa
  have fb : ∀ k i, 2 ≤ i → (b k).getLsbD i = false := sb
  have fc : ∀ k i, 2 ≤ i → (c k).getLsbD i = false := sc
  have fd : ∀ k i, 2 ≤ i → (d k).getLsbD i = false := sd
  interval_cases k <;> interval_cases i <;> simp [hA, hB, hC, hD, fa, fb, fc, fd, -BitVec.getLsbD_eq_getElem]

/-! ## The kernel's lane arithmetic -/

/-- The lane numbers. -/
def laneV : IVec S64x128 32 := iota Kind.tc S64x128 32 [1] iota_S64x128_d1_w32

/-- The lane numbers modulo 4, as the kernel computes them. -/
def rem4V : IVec S64x128 32 :=
  let v41 : BitVec 32 := Scalar.select (Scalar.cmpi .eq 4#32 0#32) 1#32 4#32
  let v43 : IVec S64x128 32 := remsi laneV (broadcast S64x128 v41)
  select (andi (xori (cmpi .slt v43 (broadcast S64x128 0#32)) (broadcastTo S64x128 (broadcast S64x128 (Scalar.cmpi .slt v41 0#32)) broadcasts_S64x128_S64x128)) (cmpi .ne v43 (broadcast S64x128 0#32)))
    (addi v43 (broadcast S64x128 v41)) v43

/-- The lane each lane reads, as the kernel computes it, before the last wrap. -/
def srcPre : IVec S64x128 32 :=
  let v116 : BitVec 32 := Scalar.select (Scalar.cmpi .eq 32#32 0#32) 1#32 32#32
  let v118 : IVec S64x128 32 := remsi laneV (broadcast S64x128 v116)
  let v130 : IVec S64x128 32 := select (andi (xori (cmpi .slt v118 (broadcast S64x128 0#32)) (broadcastTo S64x128 (broadcast S64x128 (Scalar.cmpi .slt v116 0#32)) broadcasts_S64x128_S64x128)) (cmpi .ne v118 (broadcast S64x128 0#32)))
    (addi v118 (broadcast S64x128 v116)) v118
  let v134 : IVec S64x128 32 := divsi laneV (broadcast S64x128 32#32)
  let v141 : IVec S64x128 32 := subi (extui 32 (cmpi .sgt laneV (broadcast S64x128 0#32)) natLt_1_32) (extui 32 (cmpi .slt laneV (broadcast S64x128 0#32)) natLt_1_32)
  let v146 : BitVec 32 := Scalar.subi (Scalar.extui (Scalar.cmpi .sgt 32#32 0#32)) (Scalar.extui (Scalar.cmpi .slt 32#32 0#32))
  let v153 : IVec S64x128 1 := andi (cmpi .ne v141 (broadcast S64x128 v146)) (cmpi .ne (remsi laneV (broadcast S64x128 32#32)) (broadcast S64x128 0#32))
  addi (muli (broadcast S64x128 4#32) v130) (select v153 (subi v134 (broadcast S64x128 1#32)) v134)

/-- The lane each lane reads. -/
def srcV : IVec S64x128 32 :=
  shapeCast S64x128 (shapeCast S64x128x1 (select (cmpi .slt srcPre (broadcast S64x128 0#32)) (addi srcPre (broadcast S64x128 128#32)) srcPre) shapeCasts_S64x128_S64x128x1) shapeCasts_S64x128x1_S64x128

/-- A group of 128 lanes, each joined with the three after it. -/
def joinV (w : IVec S64x128 32) : IVec S64x128 32 :=
  let b : IVec S64x128 32 := ori w (shli (dynamicRotate 1 127#32 none w rotates_S64x128_d1) (broadcast S64x128 2#32))
  ori b (shli (dynamicRotate 1 126#32 none b rotates_S64x128_d1) (broadcast S64x128 4#32))

/-- The four joined groups interleaved by the lane modulo 4. -/
def mergeV (w0 w1 w2 w3 : IVec S64x128 32) : IVec S64x128 32 :=
  select (cmpi .eq rem4V (broadcast S64x128 3#32)) (dynamicRotate 1 3#32 none (joinV w3) rotates_S64x128_d1)
    (select (cmpi .eq rem4V (broadcast S64x128 2#32)) (dynamicRotate 1 2#32 none (joinV w2) rotates_S64x128_d1)
      (select (cmpi .eq rem4V (broadcast S64x128 1#32)) (dynamicRotate 1 1#32 none (joinV w1) rotates_S64x128_d1) (joinV w0)))

/-- A chunk's packed words. -/
def packW (f : IVec S64x512 32) : IVec S64x128 32 :=
  dynamicGather 1 (mergeV (extractStridedSlice S64x128 ![0, 0] f slices_S64x512_o0_0_S64x128) (extractStridedSlice S64x128 ![0, 128] f slices_S64x512_o0_128_S64x128)
    (extractStridedSlice S64x128 ![0, 256] f slices_S64x512_o0_256_S64x128) (extractStridedSlice S64x128 ![0, 384] f slices_S64x512_o0_384_S64x128)) srcV

theorem rem4V_row0 : ∀ L : Fin 128, rem4V (ix2 (n0 := 64) (n1 := 128) 0 L) = BitVec.ofNat 32 (L.val % 4) := by decide +kernel

theorem rem4V_apply (a : Fin 64) (L : Fin 128) : rem4V (ix2 (n0 := 64) (n1 := 128) a L) = BitVec.ofNat 32 (L.val % 4) :=
  (show rem4V (ix2 (n0 := 64) (n1 := 128) a L) = rem4V (ix2 (n0 := 64) (n1 := 128) 0 L) from rfl).trans (rem4V_row0 L)

/-- The last wrap of the lane to read. -/
def wrapV : IVec S64x128 32 := select (cmpi .slt srcPre (broadcast S64x128 0#32)) (addi srcPre (broadcast S64x128 128#32)) srcPre

theorem wrapV_row0 : ∀ L : Fin 128, (wrapV (ix2 (n0 := 64) (n1 := 128) 0 L)).toNat = 4 * (L.val % 32) + L.val / 32 := by decide +kernel

theorem srcV_apply (a : Fin 64) (L : Fin 128) : (srcV (ix2 (n0 := 64) (n1 := 128) a L)).toNat = 4 * (L.val % 32) + L.val / 32 := by
  have e : srcV = wrapV := by
    unfold srcV
    rw [shapeCast_shapeCast]
    rfl
  rw [e]
  exact (show (wrapV (ix2 (n0 := 64) (n1 := 128) a L)).toNat = (wrapV (ix2 (n0 := 64) (n1 := 128) 0 L)).toNat from rfl).trans (wrapV_row0 L)

/-- A rotation along the lanes. -/
theorem rot_apply (n : BitVec 32) (w : IVec S64x128 32) (a : Fin 64) (L M : Fin 128) (h : M.val = (L.val + 128 - n.toNat % 128) % 128) :
    dynamicRotate 1 n none w rotates_S64x128_d1 (ix2 (n0 := 64) (n1 := 128) a L) = w (ix2 (n0 := 64) (n1 := 128) a M) := by
  refine dynamicRotate_apply _ _ _ _ _ _ fun b => ?_
  match b with
  | ⟨0, _⟩ => rfl
  | ⟨1, _⟩ => exact h

theorem shl2 (x : BitVec 32) : IntOp.shli .vector x 2#32 = x <<< 2 := rfl
theorem shl4 (x : BitVec 32) : IntOp.shli .vector x 4#32 = x <<< 4 := rfl

theorem join_apply (w : IVec S64x128 32) (a : Fin 64) (L : Fin 128) (h : L.val % 4 = 0) :
    joinV w (ix2 (n0 := 64) (n1 := 128) a L) = quadW (w (ix2 (n0 := 64) (n1 := 128) a L)) (w (ix2 (n0 := 64) (n1 := 128) a ⟨L.val + 1, by omega⟩))
      (w (ix2 (n0 := 64) (n1 := 128) a ⟨L.val + 2, by omega⟩)) (w (ix2 (n0 := 64) (n1 := 128) a ⟨L.val + 3, by omega⟩)) := by
  have hL := L.isLt
  have hb : ∀ M : Fin 128, ∀ h1 : M.val + 1 < 128, ori w (shli (dynamicRotate 1 127#32 none w rotates_S64x128_d1) (broadcast S64x128 2#32)) (ix2 (n0 := 64) (n1 := 128) a M)
      = w (ix2 (n0 := 64) (n1 := 128) a M) ||| w (ix2 (n0 := 64) (n1 := 128) a ⟨M.val + 1, h1⟩) <<< 2 := by
    intro M h1
    show w _ ||| IntOp.shli .vector (dynamicRotate 1 127#32 none w rotates_S64x128_d1 (ix2 (n0 := 64) (n1 := 128) a M)) 2#32 = _
    rw [rot_apply 127#32 w a M ⟨M.val + 1, h1⟩ (by show M.val + 1 = (M.val + 128 - 127) % 128; omega), shl2]
  unfold joinV
  dsimp only
  show (ori w (shli (dynamicRotate 1 127#32 none w rotates_S64x128_d1) (broadcast S64x128 2#32)) (ix2 (n0 := 64) (n1 := 128) a L))
    ||| IntOp.shli .vector (dynamicRotate 1 126#32 none (ori w (shli (dynamicRotate 1 127#32 none w rotates_S64x128_d1) (broadcast S64x128 2#32))) rotates_S64x128_d1 (ix2 (n0 := 64) (n1 := 128) a L)) 4#32 = _
  rw [rot_apply 126#32 _ a L ⟨L.val + 2, by omega⟩ (by show L.val + 2 = (L.val + 128 - 126) % 128; omega), shl4, hb L (by omega), hb ⟨L.val + 2, by omega⟩ (by show L.val + 2 + 1 < 128; omega)]
  rfl

theorem word_ne : ∀ i j : Fin 4, IntOp.cmpi .eq (BitVec.ofNat 32 i.val) (BitVec.ofNat 32 j.val) = if i = j then 1#1 else 0#1 := by decide +kernel

/-- Element `4m + s` of the merged groups is group `s`'s joined words at `4m`. -/
theorem merge_apply (w : Fin 4 → IVec S64x128 32) (a : Fin 64) (s : Fin 4) (m : Fin 32) :
    mergeV (w 0) (w 1) (w 2) (w 3) (ix2 (n0 := 64) (n1 := 128) a ⟨4 * m.val + s.val, by omega⟩) = joinV (w s) (ix2 (n0 := 64) (n1 := 128) a ⟨4 * m.val, by omega⟩) := by
  have hr : rem4V (ix2 (n0 := 64) (n1 := 128) a ⟨4 * m.val + s.val, by omega⟩) = BitVec.ofNat 32 s.val := by
    rw [rem4V_apply]; congr 1; dsimp only; omega
  have e : mergeV (w 0) (w 1) (w 2) (w 3) (ix2 (n0 := 64) (n1 := 128) a ⟨4 * m.val + s.val, by omega⟩)
      = (if IntOp.cmpi .eq (BitVec.ofNat 32 s.val) 3#32 = 1#1 then dynamicRotate 1 3#32 none (joinV (w 3)) rotates_S64x128_d1 (ix2 (n0 := 64) (n1 := 128) a ⟨4 * m.val + s.val, by omega⟩)
        else if IntOp.cmpi .eq (BitVec.ofNat 32 s.val) 2#32 = 1#1 then dynamicRotate 1 2#32 none (joinV (w 2)) rotates_S64x128_d1 (ix2 (n0 := 64) (n1 := 128) a ⟨4 * m.val + s.val, by omega⟩)
        else if IntOp.cmpi .eq (BitVec.ofNat 32 s.val) 1#32 = 1#1 then dynamicRotate 1 1#32 none (joinV (w 1)) rotates_S64x128_d1 (ix2 (n0 := 64) (n1 := 128) a ⟨4 * m.val + s.val, by omega⟩)
        else joinV (w 0) (ix2 (n0 := 64) (n1 := 128) a ⟨4 * m.val + s.val, by omega⟩)) := by
    rw [← hr]; rfl
  refine e.trans ?_
  have hm := m.isLt
  match s with
  | ⟨0, _⟩ => exact (if_neg (show ¬ (IntOp.cmpi .eq 0#32 3#32 = 1#1) by decide)).trans ((if_neg (show ¬ (IntOp.cmpi .eq 0#32 2#32 = 1#1) by decide)).trans (if_neg (show ¬ (IntOp.cmpi .eq 0#32 1#32 = 1#1) by decide)))
  | ⟨1, _⟩ => exact (if_neg (show ¬ (IntOp.cmpi .eq 1#32 3#32 = 1#1) by decide)).trans ((if_neg (show ¬ (IntOp.cmpi .eq 1#32 2#32 = 1#1) by decide)).trans ((if_pos (show (IntOp.cmpi .eq 1#32 1#32 = 1#1) by decide)).trans
      (rot_apply 1#32 _ a _ ⟨4 * m.val, by omega⟩ (by show 4 * m.val = (4 * m.val + 1 + 128 - 1) % 128; omega))))
  | ⟨2, _⟩ => exact (if_neg (show ¬ (IntOp.cmpi .eq 2#32 3#32 = 1#1) by decide)).trans ((if_pos (show (IntOp.cmpi .eq 2#32 2#32 = 1#1) by decide)).trans
      (rot_apply 2#32 _ a _ ⟨4 * m.val, by omega⟩ (by show 4 * m.val = (4 * m.val + 2 + 128 - 2) % 128; omega)))
  | ⟨3, _⟩ => exact (if_pos (show (IntOp.cmpi .eq 3#32 3#32 = 1#1) by decide)).trans (rot_apply 3#32 _ a _ ⟨4 * m.val, by omega⟩ (by show 4 * m.val = (4 * m.val + 3 + 128 - 3) % 128; omega))

/-- A chunk's packed word is the four words it starts at, joined. -/
theorem packW_apply (f : IVec S64x512 32) (a : Fin 64) (L : Fin 128) : packW f (ix2 (n0 := 64) (n1 := 128) a L)
    = quadW (f (ix2 (n0 := 64) (n1 := 512) a ⟨4 * L.val, by omega⟩)) (f (ix2 (n0 := 64) (n1 := 512) a ⟨4 * L.val + 1, by omega⟩))
      (f (ix2 (n0 := 64) (n1 := 512) a ⟨4 * L.val + 2, by omega⟩)) (f (ix2 (n0 := 64) (n1 := 512) a ⟨4 * L.val + 3, by omega⟩)) := by
  have hL := L.isLt
  let w : Fin 4 → IVec S64x128 32 := fun s => match s with
    | ⟨0, _⟩ => extractStridedSlice S64x128 ![0, 0] f slices_S64x512_o0_0_S64x128
    | ⟨1, _⟩ => extractStridedSlice S64x128 ![0, 128] f slices_S64x512_o0_128_S64x128
    | ⟨2, _⟩ => extractStridedSlice S64x128 ![0, 256] f slices_S64x512_o0_256_S64x128
    | ⟨3, _⟩ => extractStridedSlice S64x128 ![0, 384] f slices_S64x512_o0_384_S64x128
  have hw : ∀ (s : Fin 4) (M : Fin 128), w s (ix2 (n0 := 64) (n1 := 128) a M) = f (ix2 (n0 := 64) (n1 := 512) a ⟨128 * s.val + M.val, by omega⟩) := by
    intro s M
    match s with
    | ⟨0, _⟩ => exact extractStridedSlice_apply _ _ _ _ _ (fun | ⟨0, _⟩ => (Nat.zero_add _).symm | ⟨1, _⟩ => rfl)
    | ⟨1, _⟩ => exact extractStridedSlice_apply _ _ _ _ _ (fun | ⟨0, _⟩ => (Nat.zero_add _).symm | ⟨1, _⟩ => rfl)
    | ⟨2, _⟩ => exact extractStridedSlice_apply _ _ _ _ _ (fun | ⟨0, _⟩ => (Nat.zero_add _).symm | ⟨1, _⟩ => rfl)
    | ⟨3, _⟩ => exact extractStridedSlice_apply _ _ _ _ _ (fun | ⟨0, _⟩ => (Nat.zero_add _).symm | ⟨1, _⟩ => rfl)
  have hg : packW f (ix2 (n0 := 64) (n1 := 128) a L) = mergeV (w 0) (w 1) (w 2) (w 3) (ix2 (n0 := 64) (n1 := 128) a ⟨4 * (L.val % 32) + L.val / 32, by omega⟩) := by
    show mergeV (w 0) (w 1) (w 2) (w 3) (fun b => if b = 1 then ⟨(srcV (ix2 (n0 := 64) (n1 := 128) a L)).toNat % S64x128.size b, _⟩ else ix2 (n0 := 64) (n1 := 128) a L b) = _
    congr 1
    funext b
    apply Fin.ext
    match b with
    | ⟨0, _⟩ => rfl
    | ⟨1, _⟩ =>
      show (srcV (ix2 (n0 := 64) (n1 := 128) a L)).toNat % 128 = 4 * (L.val % 32) + L.val / 32
      rw [srcV_apply]
      omega
  refine hg.trans ((merge_apply w a ⟨L.val / 32, by omega⟩ ⟨L.val % 32, by omega⟩).trans ((join_apply _ a _ (by show 4 * (L.val % 32) % 4 = 0; omega)).trans ?_))
  rw [hw, hw, hw, hw]
  have e : ∀ k : ℕ, ∀ hk : k < 4, (⟨128 * (L.val / 32) + (4 * (L.val % 32) + k), by omega⟩ : Fin 512) = ⟨4 * L.val + k, by omega⟩ := fun k hk => Fin.ext (by show 128 * (L.val / 32) + (4 * (L.val % 32) + k) = 4 * L.val + k; omega)
  have e0 := e 0 (by omega)
  have e1 := e 1 (by omega)
  have e2 := e 2 (by omega)
  have e3 := e 3 (by omega)
  unfold quadW
  exact congrArg₂ (· ||| ·) (congrArg₂ (fun p q : Fin 512 => f (ix2 (n0 := 64) (n1 := 512) a p) ||| f (ix2 (n0 := 64) (n1 := 512) a q) <<< 2) e0 e1)
    (congrArg₂ (fun p q : Fin 512 => (f (ix2 (n0 := 64) (n1 := 512) a p) ||| f (ix2 (n0 := 64) (n1 := 512) a q) <<< 2) <<< 4) e2 e3)

/-! ## The bytes of a chunk -/

/-- A weight's code: its ternary value plus one, as a byte. -/
def ub (γ w : EReal) : BitVec 8 := Ideal.fptosi 8 (tern γ w + ((1 : ℝ) : EReal))

/-- A weight's code is 0, 1 or 2. -/
theorem ub_cases (γ w : EReal) : ∃ n : ℤ, (n = -1 ∨ n = 0 ∨ n = 1) ∧ tern γ w = ((n : ℝ) : EReal) ∧ ub γ w = BitVec.ofInt 8 (n + 1) := by
  obtain ⟨n, h0, h1, h⟩ := tern_int γ w
  refine ⟨n, by omega, h, ?_⟩
  unfold ub
  rw [h, ← EReal.coe_add, show ((n : ℝ) + 1 : ℝ) = ((n + 1 : ℤ) : ℝ) by push_cast; rfl]
  exact fptosi8_int (n + 1) (by omega) (by omega)

theorem ub_small (γ w : EReal) : Small (ub γ w) := by
  obtain ⟨n, hn, -, h⟩ := ub_cases γ w
  rw [h]
  intro i hi
  by_cases h8 : i < 8
  · rcases hn with rfl | rfl | rfl <;> interval_cases i <;> rfl
  · exact BitVec.getLsbD_of_ge _ _ (by omega)

/-- A chunk's words: four codes of a column each. -/
theorem words_bit (γ : EReal) (X : Vec Ideal S256x512 .bf16) (a : Fin 64) (l : Fin 512) (q : ℕ) (hq : q < 32) :
    (k1_pay4 γ X (ix2 (n0 := 64) (n1 := 512) a l)).getLsbD q = (ub γ (X (ix2 (n0 := 256) (n1 := 512) ⟨4 * a.val + q / 8, by omega⟩ l))).getLsbD (q % 8) := by
  have e : ∀ p : Fin 256, (fptosi (F := Ideal) 8 (addf (k1_pay2 γ X) (broadcast S256x512 (Scalar.ofBits (F := Ideal) .f32 0x3F800000#32)))) (ix2 (n0 := 256) (n1 := 512) p l) = ub γ (X (ix2 (n0 := 256) (n1 := 512) p l)) := by
    intro p
    show Ideal.fptosi 8 (k1_pay2 γ X (ix2 (n0 := 256) (n1 := 512) p l) + Ideal.ofBits .f32 0x3F800000#32) = _
    rw [tpay2_apply]
    exact congrArg (fun z => Ideal.fptosi 8 (tern γ (X (ix2 (n0 := 256) (n1 := 512) p l)) + z)) lit_one
  have hk : k1_pay4 γ X = bitcast S64x512 32 (fptosi (F := Ideal) 8 (addf (k1_pay2 γ X) (broadcast S256x512 (Scalar.ofBits (F := Ideal) .f32 0x3F800000#32)))) bitcasts_S256x512_w8_S64x512_w32 := rfl
  rw [hk]
  generalize fptosi (F := Ideal) 8 (addf (k1_pay2 γ X) (broadcast S256x512 (Scalar.ofBits (F := Ideal) .f32 0x3F800000#32))) = Y at e
  refine (bitcast_8_32_getLsbD_ix2 (R := 256) (r := 64) (n := 512) Y bitcasts_S256x512_w8_S64x512_w32 a l q hq ⟨4 * a.val + q / 8, by omega⟩ rfl).trans ?_
  exact congrArg (fun b : BitVec 8 => b.getLsbD (q % 8)) (e _)

/-- A byte of a chunk's packed words is four codes of its row joined. -/
theorem chunk_byte (γ : EReal) (X : Vec Ideal S256x512 .bf16) (r : Fin 256) (L : Fin 128) :
    bitcast S256x128 8 (packW (k1_pay4 γ X)) bitcasts_S64x128_w32_S256x128_w8 (ix2 (n0 := 256) (n1 := 128) r L)
      = packByte (ub γ (X (ix2 (n0 := 256) (n1 := 512) r ⟨4 * L.val, by omega⟩))) (ub γ (X (ix2 (n0 := 256) (n1 := 512) r ⟨4 * L.val + 1, by omega⟩)))
          (ub γ (X (ix2 (n0 := 256) (n1 := 512) r ⟨4 * L.val + 2, by omega⟩))) (ub γ (X (ix2 (n0 := 256) (n1 := 512) r ⟨4 * L.val + 3, by omega⟩))) := by
  apply BitVec.eq_of_getLsbD_eq
  intro i hi
  have hr := r.isLt
  have hL := L.isLt
  rw [bitcast_getLsbD _ _ _ i hi (by decide)]
  have hrow : Shape.row S256x128 (ix2 (n0 := 256) (n1 := 128) r L) = r.val := rfl
  have hidx : ∀ p hp, p = r.val / 4 → bitcasts_S64x128_w32_S256x128_w8.srcIdx (ix2 (n0 := 256) (n1 := 128) r L) p hp = ix2 (n0 := 64) (n1 := 128) ⟨r.val / 4, by omega⟩ L := by
    intro p hp h
    funext c
    match c with
    | ⟨0, _⟩ => exact Fin.ext ((Shape.Bitcasts.srcIdx_row _ _ _ _ ⟨0, Nat.zero_lt_two⟩ rfl).trans h)
    | ⟨1, _⟩ => exact Fin.ext (Shape.Bitcasts.srcIdx_other _ _ _ _ ⟨1, Nat.one_lt_two⟩ (by show ¬ 1 + 2 = 2; omega))
  rw [hidx _ _ (by rw [hrow]; omega), hrow, show (r.val * 8 + i) % 32 = 8 * (r.val % 4) + i by omega, packW_apply]
  let A : Fin 512 → ℕ → BitVec 8 := fun l k => ub γ (X (ix2 (n0 := 256) (n1 := 512) ⟨(4 * (r.val / 4) + k) % 256, Nat.mod_lt _ (by decide)⟩ l))
  have hA : ∀ l : Fin 512, ∀ q, q < 32 → (k1_pay4 γ X (ix2 (n0 := 64) (n1 := 512) ⟨r.val / 4, by omega⟩ l)).getLsbD q = (A l (q / 8)).getLsbD (q % 8) := by
    intro l q hq
    rw [words_bit γ X _ l q hq]
    have ef : (⟨4 * (r.val / 4) + q / 8, by omega⟩ : Fin 256) = ⟨(4 * (r.val / 4) + q / 8) % 256, Nat.mod_lt _ (by decide)⟩ := Fin.ext (by show 4 * (r.val / 4) + q / 8 = (4 * (r.val / 4) + q / 8) % 256; omega)
    exact congrArg (fun p : Fin 256 => (ub γ (X (ix2 (n0 := 256) (n1 := 512) p l))).getLsbD (q % 8)) ef
  have hr' : (⟨(4 * (r.val / 4) + r.val % 4) % 256, Nat.mod_lt _ (by decide)⟩ : Fin 256) = r := Fin.ext (by show (4 * (r.val / 4) + r.val % 4) % 256 = r.val; omega)
  have hrow' : ∀ l : Fin 512, A l (r.val % 4) = ub γ (X (ix2 (n0 := 256) (n1 := 512) r l)) := fun l =>
    congrArg (fun p : Fin 256 => ub γ (X (ix2 (n0 := 256) (n1 := 512) p l))) hr'
  refine (quad_bits _ _ _ _ (A ⟨4 * L.val, by omega⟩) (A ⟨4 * L.val + 1, by omega⟩) (A ⟨4 * L.val + 2, by omega⟩) (A ⟨4 * L.val + 3, by omega⟩) (hA _) (hA _) (hA _) (hA _)
    (fun _ => ub_small _ _) (fun _ => ub_small _ _) (fun _ => ub_small _ _) (fun _ => ub_small _ _) (r.val % 4) i (by omega) hi).trans ?_
  rw [hrow', hrow', hrow', hrow']

/-- The same at an index. -/
theorem chunk_byte' (γ : EReal) (X : Vec Ideal S256x512 .bf16) (x : S256x128.Idx) (h1 : (x 1).val < 128) :
    bitcast S256x128 8 (packW (k1_pay4 γ X)) bitcasts_S64x128_w32_S256x128_w8 x
      = packByte (ub γ (X (ix2 (n0 := 256) (n1 := 512) (x 0) ⟨4 * (x 1).val, by omega⟩))) (ub γ (X (ix2 (n0 := 256) (n1 := 512) (x 0) ⟨4 * (x 1).val + 1, by omega⟩)))
          (ub γ (X (ix2 (n0 := 256) (n1 := 512) (x 0) ⟨4 * (x 1).val + 2, by omega⟩))) (ub γ (X (ix2 (n0 := 256) (n1 := 512) (x 0) ⟨4 * (x 1).val + 3, by omega⟩))) := by
  generalize hB : bitcast S256x128 8 (packW (k1_pay4 γ X)) bitcasts_S64x128_w32_S256x128_w8 = B
  refine (congrArg B (eq_ix2 x)).trans ?_
  rw [← hB]
  exact chunk_byte γ X (x 0) (x 1)

/-- The byte of four codes of a row of weights, at column `c` of the packed array. -/
def packRow (γ : EReal) (w : Fin 2560 → EReal) (c : Fin 640) : BitVec 8 :=
  packByte (ub γ (w ⟨4 * c.val, by omega⟩)) (ub γ (w ⟨4 * c.val + 1, by omega⟩)) (ub γ (w ⟨4 * c.val + 2, by omega⟩)) (ub γ (w ⟨4 * c.val + 3, by omega⟩))

/-- A chunk of 128 packed columns of a block. -/
theorem pack_piece {arg1 : Memref sig .tc .smem S1x1 .f32} (harg1 : arg1.IsWhole) {arg2 : Memref sig .tc .vmem S256x2560 .bf16} (harg2 : arg2.IsWhole)
    (x0 : Vec Ideal S1x1 .f32) (x1 : Vec Ideal S256x2560 .bf16) (j : S1x1.Idx) (o o4 : Nat) (inb8 : ∀ a, (![0, o] : Fin 2 → Nat) a + S256x128.size a ≤ S256x640.size a)
    (inb : ∀ a, (![0, o4] : Fin 2 → Nat) a + S256x512.size a ≤ S256x2560.size a) (ho : o4 = 4 * o) (x : S256x128.Idx) :
    bitcast S256x128 8 (packW (k1_pay4 (View.readAt (Elt Ideal) arg1.view (Rect.unit (s := S1x1) ![0, 0] S1x1.size inb_S1x1_S1x1_0_0).toLoadRect (harg1.unread x0) j)
        (View.readAt (Elt Ideal) arg2.view (Rect.unit (s := S256x2560) ![0, o4] S256x512.size inb).toLoadRect (harg2.unread x1)))) bitcasts_S64x128_w32_S256x128_w8 x
      = packRow (x0 (ix2 (n0 := 1) (n1 := 1) 0 0)) (fun l => x1 (ix2 (n0 := 256) (n1 := 2560) ((Rect.unit (s := S256x640) ![0, o] S256x128.size inb8).emb x 0) l))
          ((Rect.unit (s := S256x640) ![0, o] S256x128.size inb8).emb x 1) := by
  simp only [View.readAt_eq_ld, harg1.read_unread, harg2.read_unread, View.ld_unit_zero (S := S1x1) hz]
  have hg : View.ld x0 (Rect.unit (s := S1x1) ![0, 0] S1x1.size inb_S1x1_S1x1_0_0) j = x0 (ix2 (n0 := 1) (n1 := 1) 0 0) := congrArg x0 (one_idx _ _)
  generalize hX : View.ld x1 (Rect.unit (s := S256x2560) ![0, o4] S256x512.size inb) = X
  refine (congrArg (fun γ => bitcast S256x128 8 (packW (k1_pay4 γ X)) bitcasts_S64x128_w32_S256x128_w8 x) hg).trans ?_
  refine (chunk_byte' _ X x (idx2_lt1 x)).trans ?_
  have h0 := idx2_lt0 x
  have h1 := idx2_lt1 x
  have hx : ∀ k, ∀ hk : k < 4, ∀ h5 : 4 * (x 1).val + k < 512, ∀ h6,
      X (ix2 (n0 := 256) (n1 := 512) (x 0) ⟨4 * (x 1).val + k, h5⟩)
      = x1 (ix2 (n0 := 256) (n1 := 2560) ((Rect.unit (s := S256x640) ![0, o] S256x128.size inb8).emb x 0) ⟨4 * ((Rect.unit (s := S256x640) ![0, o] S256x128.size inb8).emb x 1).val + k, h6⟩) := by
    intro k hk h5 h6
    rw [← hX]
    refine congrArg x1 ?_
    funext b
    apply Fin.ext
    match b with
    | ⟨0, _⟩ => rfl
    | ⟨1, _⟩ => show o4 + 1 * (4 * (x 1).val + k) = 4 * (o + 1 * (x 1).val) + k; omega
  unfold packRow
  have e0 := hx 0 (by omega) (by omega)
  have e1 := hx 1 (by omega) (by omega)
  have e2 := hx 2 (by omega) (by omega)
  have e3 := hx 3 (by omega) (by omega)
  exact congr (congr (congrArg₂ packByte (congrArg (ub _) (e0 _)) (congrArg (ub _) (e1 _))) (congrArg (ub _) (e2 _))) (congrArg (ub _) (e3 _))

/-- A point's block of packed weights. -/
theorem tout3_apply (c : Dev nD) (i : grid1.Coords) (arg1 : Memref sig .tc .smem S1x1 .f32) (harg1 : arg1.IsWhole) (arg2 : Memref sig .tc .vmem S256x2560 .bf16) (harg2 : arg2.IsWhole) (arg3 : Memref sig .tc .vmem S256x2560 .bf16) (harg3 : arg3.IsWhole) (arg4 : Memref sig .tc .vmem S256x640 .i8) (harg4 : arg4.IsWhole)
    (x0 : Vec Ideal S1x1 .f32) (x1 : Vec Ideal S256x2560 .bf16) (y : S256x640.Idx) :
    out1_A_3 c i arg1 harg1 arg2 harg2 arg3 harg3 arg4 harg4 x0 x1 y = packRow (x0 (ix2 (n0 := 1) (n1 := 1) 0 0)) (fun l => x1 (ix2 (n0 := 256) (n1 := 2560) (y 0) l)) (y 1) := by
  unfold out1_A_3
  refine View.read_writes_apply_of_pieces _ _ (fun y => packRow (x0 (ix2 (n0 := 1) (n1 := 1) 0 0)) (fun l => x1 (ix2 (n0 := 256) (n1 := 2560) (y 0) l)) (y 1)) _ ?_ y (cover1_A_3 c i arg1 harg1 arg2 harg2 arg3 harg3 arg4 harg4 x0 x1 y)
  unfold kernelRun1_A
  dsimp only
  sl_unfold_words
  intro p hp
  simp only [List.mem_cons, List.not_mem_nil, or_false] at hp
  rcases hp with rfl | rfl | rfl | rfl | rfl
  · intro x
    refine Eq.trans ?_ (pack_piece harg1 harg2 x0 x1 (Shape.Idx.first (by decide)) 512 2048 inb_S256x640_S256x128_0_512 inb_S256x2560_S256x512_0_2048 rfl x)
    dsimp only [k1_pay1, k1_pay2, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, packW, mergeV, joinV, rem4V, srcV, srcPre]
    rfl
  · intro x
    refine Eq.trans ?_ (pack_piece harg1 harg2 x0 x1 (Shape.Idx.first (by decide)) 384 1536 inb_S256x640_S256x128_0_384 inb_S256x2560_S256x512_0_1536 rfl x)
    dsimp only [k1_pay1, k1_pay2, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, packW, mergeV, joinV, rem4V, srcV, srcPre]
    rfl
  · intro x
    refine Eq.trans ?_ (pack_piece harg1 harg2 x0 x1 (Shape.Idx.first (by decide)) 256 1024 inb_S256x640_S256x128_0_256 inb_S256x2560_S256x512_0_1024 rfl x)
    dsimp only [k1_pay1, k1_pay2, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, packW, mergeV, joinV, rem4V, srcV, srcPre]
    rfl
  · intro x
    refine Eq.trans ?_ (pack_piece harg1 harg2 x0 x1 (Shape.Idx.first (by decide)) 128 512 inb_S256x640_S256x128_0_128 inb_S256x2560_S256x512_0_512 rfl x)
    dsimp only [k1_pay1, k1_pay2, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, packW, mergeV, joinV, rem4V, srcV, srcPre]
    rfl
  · intro x
    refine Eq.trans ?_ (pack_piece harg1 harg2 x0 x1 (Shape.Idx.first (by decide)) 0 0 inb_S256x640_S256x128_0_0 inb_S256x2560_S256x512_0_0 rfl x)
    dsimp only [k1_pay1, k1_pay2, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, packW, mergeV, joinV, rem4V, srcV, srcPre]
    rfl

end Cert.KernelIdeal.Val

end
-- ==== Proof.Value.PackArr.lean ====
/- The packed weights as an array after the second kernel, and the reference's. -/
module

public import proofs.«01_k».proof.Proof.Value.Pack

@[expose] public section

set_option maxRecDepth 16384

noncomputable section

namespace Cert.KernelIdeal.Val

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

section KernelSide

variable (V : (c : Dev nD) → (b : Ref sig .tc) → Buf (Elt Ideal) ((c : Thread nD τ).loc b))

theorem index1_3 : ∀ t : Fin cfg1.N, win1_3.index t 0 = t.val ∧ win1_3.index t 1 = 0 := by decide +kernel
theorem xsize1_3 : ∀ t : Fin cfg1.N, win1_3.xsize (grid1.coords t) 0 = 256 ∧ win1_3.xsize (grid1.coords t) 1 = 640 := by decide +kernel

/-- The whole packed array. -/
def packG (c : Dev nD) : S6912x640.Idx → BitVec 8 := fun i =>
  packRow (gArr V c (ix2 (n0 := 1) (n1 := 1) 0 0)) (fun l => wArr V c (ix2 (n0 := 6912) (n1 := 2560) (i 0) l)) (i 1)

theorem flushed1_3 (c : Dev nD) (t : Fin cfg1.N) : (dat1 V c).flushed 3 t = ((cfg1.win 3).blk t).view.read (Elt Ideal) (packG V c) := by
  show (cfg1.win 3).cut (grid1.coords t) ((dat1 V c).after 3 t) = _
  rw [after1_3]
  funext j
  unfold outsAt1
  dsimp only
  have ht : t.val < 27 := Nat.lt_of_lt_of_eq t.isLt N_1
  have hj : (j 0).val < 256 := Nat.lt_of_lt_of_eq (j 0).isLt (xsize1_3 t).1
  have hj1 : (j 1).val < 640 := Nat.lt_of_lt_of_eq (j 1).isLt (xsize1_3 t).2
  refine (tout3_apply c _ _ _ _ _ _ _ _ _ _ _ _).trans ?_
  rw [iblk1_0_apply, View.read_apply]
  have e0 : ((((cfg1.win 3).blk t).view.emb j) 0).val = t.val * 256 + (j 0).val := by
    show win1_3.index t 0 * 256 + 1 * (j 0).val = _; rw [(index1_3 t).1]; omega
  have e1 : ((((cfg1.win 3).blk t).view.emb j) 1).val = (j 1).val := by
    show win1_3.index t 1 * 640 + 1 * (j 1).val = _; rw [(index1_3 t).2]; omega
  show _ = packRow _ (fun l => wArr V c (ix2 (n0 := 6912) (n1 := 2560) ((((cfg1.win 3).blk t).view.emb j) 0) l)) ((((cfg1.win 3).blk t).view.emb j) 1)
  refine congrArg₂ (packRow _) (funext fun l => iblk1_1_apply V c t _ _ ?_ ?_) (Fin.ext ?_)
  · exact e0
  · rfl
  · exact e1.symm

/-- The packed array after the second kernel: four codes of a row of weights to a byte. -/
theorem packArr_apply (c : Dev nD) (r : Fin 6912) (k : Fin 640) :
    (dat1 V c).arrAt 3 cfg1.N (ix2 (n0 := 6912) (n1 := 640) r k)
      = packRow (gArr V c (ix2 (n0 := 1) (n1 := 1) 0 0)) (fun l => wArr V c (ix2 (n0 := 6912) (n1 := 2560) r l)) k := by
  have hN : cfg1.N = 27 := N_1
  have hq : r.val / 256 < cfg1.N := by rw [hN]; omega
  refine ((dat1 V c).arrAt_apply_of_mem 3 (packG V c) (fun t _ => flushed1_3 V c t) cfg1.N ⟨r.val / 256, hq⟩ _ hq (flush1_3 _) ?_).trans ?_
  · show ix2 (n0 := 6912) (n1 := 640) r k ∈ ((View.whole main_v1_1).slice (win1_3.rect ⟨r.val / 256, hq⟩)).set
    rw [View.set_slice_whole, Rect.mem_set_unit]
    intro a
    match a with
    | ⟨0, _⟩ => show win1_3.index ⟨r.val / 256, hq⟩ 0 * 256 ≤ r.val ∧ r.val < win1_3.index ⟨r.val / 256, hq⟩ 0 * 256 + win1_3.xsize (grid1.coords ⟨r.val / 256, hq⟩) 0
                rw [(index1_3 _).1, (xsize1_3 _).1]; dsimp only; omega
    | ⟨1, _⟩ => show win1_3.index ⟨r.val / 256, hq⟩ 1 * 640 ≤ k.val ∧ k.val < win1_3.index ⟨r.val / 256, hq⟩ 1 * 640 + win1_3.xsize (grid1.coords ⟨r.val / 256, hq⟩) 1
                rw [(index1_3 _).2, (xsize1_3 _).2]; have := k.isLt; omega
  · rfl

end KernelSide

section RefSide

open Cert.ReferenceIdeal.Read

variable (x1 : S6912x2560.Idx → EReal)

/-- The reference's byte from its four ternary bytes. -/
def refByte (t0 t1 t2 t3 : BitVec 8) : BitVec 8 :=
  BitVec.setWidth 8 (((IntOp.addi (t0.signExtend 32) 1#32 ||| IntOp.shli .host (IntOp.addi (t1.signExtend 32) 1#32) 2#32) ||| IntOp.shli .host (IntOp.addi (t2.signExtend 32) 1#32) 4#32)
    ||| IntOp.shli .host (IntOp.addi (t3.signExtend 32) 1#32) 6#32)

/-- The two ways to join four codes agree. -/
theorem refByte_eq (a b c d : ℤ) (ha : a = -1 ∨ a = 0 ∨ a = 1) (hb : b = -1 ∨ b = 0 ∨ b = 1) (hc : c = -1 ∨ c = 0 ∨ c = 1) (hd : d = -1 ∨ d = 0 ∨ d = 1) :
    packByte (BitVec.ofInt 8 (a + 1)) (BitVec.ofInt 8 (b + 1)) (BitVec.ofInt 8 (c + 1)) (BitVec.ofInt 8 (d + 1))
      = refByte (BitVec.ofInt 8 a) (BitVec.ofInt 8 b) (BitVec.ofInt 8 c) (BitVec.ofInt 8 d) := by
  rcases ha with rfl | rfl | rfl <;> rcases hb with rfl | rfl | rfl <;> rcases hc with rfl | rfl | rfl <;> rcases hd with rfl | rfl | rfl <;> rfl

/-- A code and the ternary byte it is one more than. -/
theorem ub_pair (γ w : EReal) : ∃ n : ℤ, (n = -1 ∨ n = 0 ∨ n = 1) ∧ ub γ w = BitVec.ofInt 8 (n + 1) ∧ Ideal.fptosi 8 (tern γ w) = BitVec.ofInt 8 n := by
  obtain ⟨n, hn, ht, hu⟩ := ub_cases γ w
  exact ⟨n, hn, hu, by rw [ht]; exact fptosi8_int n (by omega) (by omega)⟩

/-- The reference's word at row `r`, group `c`, place `k` of the group. -/
theorem ref_word (i : Cert.ReferenceIdeal.S6912x640x4.Idx) (r : Fin 6912) (l : Fin 2560) (h0 : (i 0).val = r.val) (h1 : 4 * (i 1).val + (i 2).val = l.val) :
    val_main_v54 (F := Ideal) x1 i = IntOp.addi ((Ideal.fptosi 8 (tern (meanMag x1) (x1 (ix2 (n0 := 6912) (n1 := 2560) r l)))).signExtend 32) 1#32 := by
  have h2 : l.val < 2560 := l.isLt
  have e : idx_main_v54 i = ix2 (n0 := 6912) (n1 := 2560) r l := by
    funext a
    apply Fin.ext
    match a with
    | ⟨0, _⟩ => show (((i 0).val * 640 + (i 1).val) * 4 + (i 2).val) / 2560 = r.val; omega
    | ⟨1, _⟩ => show (((i 0).val * 640 + (i 1).val) * 4 + (i 2).val) % 2560 = l.val; omega
  rw [val_main_v54_apply, e, val_main_v53_apply, val_main_v51_apply, val_main_v52_apply, val_main_c_11_apply, ref_t8]

/-- The reference's packed weights. -/
theorem ref_pack (r : Fin 6912) (k : Fin 640) : val_main_v72 (F := Ideal) x1 (ix2 (n0 := 6912) (n1 := 640) r k)
    = packRow (meanMag x1) (fun l => x1 (ix2 (n0 := 6912) (n1 := 2560) r l)) k := by
  have hk := k.isLt
  have hr := r.isLt
  rw [val_main_v72_apply, val_main_v71_apply, val_main_v66_apply, val_main_v61_apply, val_main_v60_apply, val_main_v65_apply, val_main_v70_apply,
    val_main_v59_apply, val_main_v64_apply, val_main_v69_apply, val_main_c_12_apply, val_main_c_13_apply, val_main_c_14_apply,
    val_main_v56_apply, val_main_v55_apply, val_main_v58_apply, val_main_v57_apply, val_main_v63_apply, val_main_v62_apply, val_main_v68_apply, val_main_v67_apply,
    ref_word x1 _ r ⟨4 * k.val, by omega⟩ (by show (r.val * 640 + k.val) / 640 = r.val; omega) (by show 4 * ((r.val * 640 + k.val) / 1 % 640) + 0 = 4 * k.val; omega),
    ref_word x1 _ r ⟨4 * k.val + 1, by omega⟩ (by show (r.val * 640 + k.val) / 640 = r.val; omega) (by show 4 * ((r.val * 640 + k.val) / 1 % 640) + (1 + 0) = 4 * k.val + 1; omega),
    ref_word x1 _ r ⟨4 * k.val + 2, by omega⟩ (by show (r.val * 640 + k.val) / 640 = r.val; omega) (by show 4 * ((r.val * 640 + k.val) / 1 % 640) + (2 + 0) = 4 * k.val + 2; omega),
    ref_word x1 _ r ⟨4 * k.val + 3, by omega⟩ (by show (r.val * 640 + k.val) / 640 = r.val; omega) (by show 4 * ((r.val * 640 + k.val) / 1 % 640) + (3 + 0) = 4 * k.val + 3; omega)]
  obtain ⟨a, ha, ua, ta⟩ := ub_pair (meanMag x1) (x1 (ix2 (n0 := 6912) (n1 := 2560) r ⟨4 * k.val, by omega⟩))
  obtain ⟨b, hb, ub', tb⟩ := ub_pair (meanMag x1) (x1 (ix2 (n0 := 6912) (n1 := 2560) r ⟨4 * k.val + 1, by omega⟩))
  obtain ⟨c, hc, uc, tc⟩ := ub_pair (meanMag x1) (x1 (ix2 (n0 := 6912) (n1 := 2560) r ⟨4 * k.val + 2, by omega⟩))
  obtain ⟨d, hd, ud, td⟩ := ub_pair (meanMag x1) (x1 (ix2 (n0 := 6912) (n1 := 2560) r ⟨4 * k.val + 3, by omega⟩))
  rw [ta, tb, tc, td]
  unfold packRow
  rw [ua, ub', uc, ud, refByte_eq a b c d ha hb hc hd]
  rfl

end RefSide

end Cert.KernelIdeal.Val

end
-- ==== Proof.Value.Results.lean ====
/- The five results after the whole kernel, as the launch's arguments make them, each equal to the reference's. -/
module

public import proofs.«01_k».proof.Proof.Value.PackArr
public import proofs.«01_k».proof.Proof.KernelIdeal.Run

@[expose] public section

set_option maxRecDepth 16384

noncomputable section

namespace Cert.KernelIdeal.Val

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

open Cert.KernelIdeal.Gen.Main

variable (m : (ℓ : Loc nD τ sig) → Buf (Elt Ideal) ℓ) (c : Dev nD)

/-- The three arguments. -/
abbrev a0 : S16x1024x2560.Idx → EReal := m ((c : Thread nD τ).loc main_arg0)
abbrev a1 : S6912x2560.Idx → EReal := m ((c : Thread nD τ).loc main_arg1)
abbrev a2 : S2560.Idx → EReal := m ((c : Thread nD τ).loc main_arg2)

/-! ## The buffers between the kernels -/

theorem W1_gamma (i : S1x1.Idx) : (W1 m c (Proc.devRef .tc main_v0) : S1x1.Idx → EReal) i = meanMag (a1 m c) :=
  (congrFun (W1_arr m c 1) i).trans (congrFun (final0 (V0 m) c) i)

theorem W2_gamma (i : S1x1.Idx) : (W2 m c (Proc.devRef .tc main_v0) : S1x1.Idx → EReal) i = meanMag (a1 m c) :=
  (congrFun (W2_of m c main_v0 (by decide)) i).trans (W1_gamma m c i)

theorem V1_w : wArr (V1 m) c = a1 m c := W1_args m c main_arg1 (by decide)

theorem W2_t (O : Fin 7168) (h : O.val < 6912) (l : Fin 2560) :
    (W2 m c (Proc.devRef .tc main_v1_0) : S7168x2560.Idx → EReal) (ix2 (n0 := 7168) (n1 := 2560) O l)
      = tern (meanMag (a1 m c)) (a1 m c (ix2 (n0 := 6912) (n1 := 2560) ⟨O.val, h⟩ l)) := by
  refine (congrFun (W2_arr m c 2) _).trans ((tArr_apply (V1 m) c O h l).trans ?_)
  exact congrArg₂ tern (W1_gamma m c _) (congrFun (V1_w m c) _)

theorem W2_p (r : Fin 6912) (k : Fin 640) :
    (W2 m c (Proc.devRef .tc main_v1_1) : S6912x640.Idx → BitVec 8) (ix2 (n0 := 6912) (n1 := 640) r k)
      = packRow (meanMag (a1 m c)) (fun l => a1 m c (ix2 (n0 := 6912) (n1 := 2560) r l)) k := by
  refine (congrFun (W2_arr m c 3) _).trans ((packArr_apply (V1 m) c r k).trans ?_)
  exact congrArg₂ (fun γ w => packRow γ w k) (W1_gamma m c _) (funext fun l => congrFun (V1_w m c) _)

theorem W3_x : (W3 m c (Proc.devRef .tc main_v2) : S16384x2560.Idx → EReal) = shapeCast S16384x2560 (a0 m c) shapeCasts_S16x1024x2560_S16384x2560 := by
  have h : (W3 m c (Proc.devRef .tc main_v2) : S16384x2560.Idx → EReal) = shapeCast S16384x2560 (W2 m c (Proc.devRef .tc main_arg0)) shapeCasts_S16x1024x2560_S16384x2560 := by
    show StableHlo.after hostOps2 _ _ = _
    after_results_simp
    rfl
  rw [h, W2_args m c main_arg0 (by decide)]

theorem W3_g : (W3 m c (Proc.devRef .tc main_v3) : S1x2560.Idx → EReal) = shapeCast S1x2560 (a2 m c) shapeCasts_S2560_S1x2560 := by
  have h : (W3 m c (Proc.devRef .tc main_v3) : S1x2560.Idx → EReal) = shapeCast S1x2560 (W2 m c (Proc.devRef .tc main_arg2)) shapeCasts_S2560_S1x2560 := by
    show StableHlo.after hostOps2 _ _ = _
    after_results_simp
    rfl
  rw [h, W2_args m c main_arg2 (by decide)]

theorem xRow3 (b : Fin 16) (s : Fin 1024) : xRow (V3 m) c (flatRow b s) = refRow (a0 m c) b s := by
  funext l
  refine (congrFun (W3_x m c) _).trans (shapeCast_apply _ _ _ _ ?_)
  rw [Shape.rowMajor_val_three, Shape.rowMajor_val_two]
  rfl

theorem gRow3 : gRow (V3 m) c = refG (a2 m c) := by
  funext l
  refine (congrFun (W3_g m c) _).trans (shapeCast_apply _ _ _ _ ?_)
  rw [Shape.rowMajor_val_one, Shape.rowMajor_val_two]
  show l.val = 0 * 2560 + l.val
  omega

theorem gam3 (i : S1x1.Idx) : (W3 m c (Proc.devRef .tc main_v0) : S1x1.Idx → EReal) i = meanMag (a1 m c) :=
  (congrFun (W3_of m c main_v0 (by decide)) i).trans (W2_gamma m c i)

theorem tW3 (O : Fin 7168) (h : O.val < 6912) (l : Fin 2560) :
    tW (V3 m) c (ix2 (n0 := 7168) (n1 := 2560) O l) = tern (meanMag (a1 m c)) (a1 m c (ix2 (n0 := 6912) (n1 := 2560) ⟨O.val, h⟩ l)) :=
  (congrFun (W3_of m c main_v1_0 (by decide)) _).trans (W2_t m c O h l)

/-! ## The results -/

theorem W5_y : (W5 m c (Proc.devRef .tc main_v5) : S16x1024x6912.Idx → EReal) = shapeCast S16x1024x6912 (W4 m c (Proc.devRef .tc main_v4_0)) shapeCasts_S16384x6912_S16x1024x6912 := by
  show StableHlo.after hostOps3 _ _ = _
  after_results_simp
  rfl
theorem W5_gam : (W5 m c (Proc.devRef .tc main_v6) : S_.Idx → EReal) = shapeCast S_ (W4 m c (Proc.devRef .tc main_v0)) shapeCasts_S1x1_S_ := by
  show StableHlo.after hostOps3 _ _ = _
  after_results_simp
  rfl
theorem W5_codes : (W5 m c (Proc.devRef .tc main_v7) : S16x1024x2560.Idx → BitVec 8) = shapeCast S16x1024x2560 (W4 m c (Proc.devRef .tc main_v4_1)) shapeCasts_S16384x2560_S16x1024x2560 := by
  show StableHlo.after hostOps3 _ _ = _
  after_results_simp
  rfl
theorem W5_scales : (W5 m c (Proc.devRef .tc main_v8) : S16x1024.Idx → EReal) = shapeCast S16x1024 (W4 m c (Proc.devRef .tc main_v4_2)) shapeCasts_S16x1x1024_S16x1024 := by
  show StableHlo.after hostOps3 _ _ = _
  after_results_simp
  rfl

/-- `y` is the reference's. -/
theorem res_y : (W5 m c (Proc.devRef .tc main_v5) : S16x1024x6912.Idx → EReal) = Cert.ReferenceIdeal.Read.val_main_v50 (F := Ideal) (a0 m c) (a1 m c) (a2 m c) := by
  rw [W5_y]
  funext i
  obtain ⟨b, s, o, rfl⟩ : ∃ (b : Fin 16) (s : Fin 1024) (o : Fin 6912), i = ix3 (n0 := 16) (n1 := 1024) (n2 := 6912) b s o := ⟨i 0, i 1, i 2, eq_ix3 i⟩
  refine (shapeCast_apply _ _ _ (ix2 (n0 := 16384) (n1 := 6912) (flatRow b s) o) ?_).trans ?_
  · rw [Shape.rowMajor_val_three, Shape.rowMajor_val_two]; rfl
  refine (congrFun (W4_arr m c 4) _).trans ((yArr (V3 m) c (flatRow b s) o).trans ?_)
  refine Eq.trans ?_ (ref_y (a0 m c) (a1 m c) (a2 m c) b s o).symm
  unfold yVal
  rw [xRow3, gRow3]
  refine congrArg₂ (· * ·) (congrArg (· * rowScale (refRow (a0 m c) b s) (refG (a2 m c))) (Finset.sum_congr rfl fun l _ => ?_)) (gam3 m c _)
  exact congrArg (rowQ (refRow (a0 m c) b s) (refG (a2 m c)) l * ·) (tW3 m c _ o.isLt l)

/-- The packed weights are the reference's. -/
theorem res_pack : (W5 m c (Proc.devRef .tc main_v1_1) : S6912x640.Idx → BitVec 8) = Cert.ReferenceIdeal.Read.val_main_v72 (F := Ideal) (a1 m c) := by
  have h : W5 m c (Proc.devRef .tc main_v1_1) = W2 m c (Proc.devRef .tc main_v1_1) :=
    (W5_of m c main_v1_1 (by decide)).trans ((W4_of m c main_v1_1 (by decide)).trans (W3_of m c main_v1_1 (by decide)))
  funext i
  obtain ⟨r, k, rfl⟩ : ∃ (r : Fin 6912) (k : Fin 640), i = ix2 (n0 := 6912) (n1 := 640) r k := ⟨i 0, i 1, eq_ix2 i⟩
  exact (congrFun h _).trans ((W2_p m c r k).trans (ref_pack (a1 m c) r k).symm)

/-- Gamma is the reference's. -/
theorem res_gamma : (W5 m c (Proc.devRef .tc main_v6) : S_.Idx → EReal) = Cert.ReferenceIdeal.Read.val_main_v3 (F := Ideal) (a1 m c) := by
  rw [W5_gam]
  funext i
  refine Eq.trans ?_ (ref_gamma (a1 m c) i).symm
  have h : W4 m c (Proc.devRef .tc main_v0) = W3 m c (Proc.devRef .tc main_v0) := W4_of m c main_v0 (by decide)
  rw [h]
  exact gam3 m c _

/-- The codes are the reference's. -/
theorem res_codes : (W5 m c (Proc.devRef .tc main_v7) : S16x1024x2560.Idx → BitVec 8) = Cert.ReferenceIdeal.Read.val_main_v37 (F := Ideal) (a0 m c) (a2 m c) := by
  rw [W5_codes]
  funext i
  obtain ⟨b, s, l, rfl⟩ : ∃ (b : Fin 16) (s : Fin 1024) (l : Fin 2560), i = ix3 (n0 := 16) (n1 := 1024) (n2 := 2560) b s l := ⟨i 0, i 1, i 2, eq_ix3 i⟩
  refine (shapeCast_apply _ _ _ (ix2 (n0 := 16384) (n1 := 2560) (flatRow b s) l) ?_).trans ?_
  · rw [Shape.rowMajor_val_three, Shape.rowMajor_val_two]; rfl
  refine (congrFun (W4_arr m c 5) _).trans ((codesArr (V3 m) c (flatRow b s) l).trans ?_)
  rw [xRow3, gRow3]
  exact (ref_codes (a0 m c) (a2 m c) b s l).symm

/-- The scales are the reference's. -/
theorem res_scales : (W5 m c (Proc.devRef .tc main_v8) : S16x1024.Idx → EReal) = Cert.ReferenceIdeal.Read.val_main_v30 (F := Ideal) (a0 m c) (a2 m c) := by
  rw [W5_scales]
  funext i
  obtain ⟨b, s, rfl⟩ : ∃ (b : Fin 16) (s : Fin 1024), i = ix2 (n0 := 16) (n1 := 1024) b s := ⟨i 0, i 1, eq_ix2 i⟩
  refine (shapeCast_apply _ _ _ (ix3 (n0 := 16) (n1 := 1) (n2 := 1024) b 0 s) ?_).trans ?_
  · rw [Shape.rowMajor_val_three, Shape.rowMajor_val_two]
    show (b.val * 1 + 0) * 1024 + s.val = b.val * 1024 + s.val
    omega
  refine (congrFun (W4_arr m c 6) _).trans ((scalesArr (V3 m) c b s).trans ?_)
  rw [xRow3, gRow3]
  exact (ref_scale (a0 m c) (a2 m c) b s).symm

end Cert.KernelIdeal.Val

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Run
public import proofs.«01_k».proof.Proof.KernelIdeal.Run
public import proofs.«01_k».proof.Proof.Value.Results
public import Idealize.ShloMosaic.Adequacy
public import Idealize.ShloMosaic.Init

@[expose] public section

noncomputable section

namespace Cert.Proof

open Idealize.ShloMosaic Idealize.SL.Sem Cert.Kernel

/-- The kernel as compiled: it ends without a fault, its arguments unchanged, every semaphore counter at zero. -/
theorem frame_kernel : Cert.quiescent_Kernel := fun m ρ _ => Cert.Kernel.Gen.Main.frame m ρ

/-- The same of the kernel over the reals. -/
theorem frame_kernelIdeal : Cert.quiescent_KernelIdeal := fun m ρ _ => Cert.KernelIdeal.Gen.Main.frame m ρ

/-- The same of the reference over the reals. -/
theorem frame_referenceIdeal : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- The two constants the kernel multiplies by, 1/17694720 and 1/2560 rounded to f32, are named by those exact numbers. -/
theorem preserves : Cert.preserves_Kernel_KernelIdeal :=
  ⟨IdealRules.named_const.statement Cert.KernelIdeal.κ "inv_w" .f32 0x3372B9D6#32 ((1 / 17694720 : ℝ) : EReal) rfl,
   IdealRules.named_const.statement Cert.KernelIdeal.κ "inv_d" .f32 0x39CCCCCD#32 ((1 / 2560 : ℝ) : EReal) rfl⟩

/-- Over the reals the kernel and the reference end with the same five results: the output, the packed weights, gamma, the codes and
    the scales. -/
theorem algebraic : Cert.algebraic_KernelIdeal_ReferenceIdeal := by
  intro m ρ m' ρ' _ hagree
  refine ⟨fun c => Cert.KernelIdeal.Gen.Main.W5 m c (Proc.devRef .tc Cert.KernelIdeal.main_v5), fun c => Cert.KernelIdeal.Gen.Main.W5 m c (Proc.devRef .tc Cert.KernelIdeal.main_v1_1),
    fun c => Cert.KernelIdeal.Gen.Main.W5 m c (Proc.devRef .tc Cert.KernelIdeal.main_v6), fun c => Cert.KernelIdeal.Gen.Main.W5 m c (Proc.devRef .tc Cert.KernelIdeal.main_v7),
    fun c => Cert.KernelIdeal.Gen.Main.W5 m c (Proc.devRef .tc Cert.KernelIdeal.main_v8), ?_, ?_⟩
  · refine (θ_run Cert.KernelIdeal.defs _ _).mono (fun r h c => ?_) (Cert.KernelIdeal.Gen.Main.run m ρ)
    have hb := fun (b : Ref Cert.KernelIdeal.sig .tc) hb => h.1 c _ (Cert.KernelIdeal.Gen.Main.mem_uc b hb)
    exact ⟨hb Cert.KernelIdeal.main_v5 (by decide), hb Cert.KernelIdeal.main_v1_1 (by decide), hb Cert.KernelIdeal.main_v6 (by decide), hb Cert.KernelIdeal.main_v7 (by decide),
      hb Cert.KernelIdeal.main_v8 (by decide), (hb Cert.KernelIdeal.main_arg0 (by decide)).trans (Cert.KernelIdeal.Gen.Main.W5_args m c _ (by decide)),
      (hb Cert.KernelIdeal.main_arg1 (by decide)).trans (Cert.KernelIdeal.Gen.Main.W5_args m c _ (by decide)),
      (hb Cert.KernelIdeal.main_arg2 (by decide)).trans (Cert.KernelIdeal.Gen.Main.W5_args m c _ (by decide))⟩
  · refine (θ_run Cert.ReferenceIdeal.defs _ _).mono (fun r h c => ?_) (Cert.ReferenceIdeal.Value.run (F := Ideal) m' ρ')
    obtain ⟨e0, e1, e2⟩ := hagree c
    obtain ⟨h0, h1, h2, h3, h4, ha⟩ := h c
    refine ⟨h0.trans ?_, h1.trans ?_, h2.trans ?_, h3.trans ?_, h4.trans ?_, ha⟩
    · rw [Cert.ReferenceIdeal.Read.val_main_v50_eq, e0, e1, e2]
      exact (Cert.KernelIdeal.Val.res_y m c).symm
    · rw [Cert.ReferenceIdeal.Read.val_main_v72_eq, e1]
      exact (Cert.KernelIdeal.Val.res_pack m c).symm
    · rw [Cert.ReferenceIdeal.Read.val_main_v3_eq, e1]
      exact (Cert.KernelIdeal.Val.res_gamma m c).symm
    · rw [Cert.ReferenceIdeal.Read.val_main_v37_eq, e0, e2]
      exact (Cert.KernelIdeal.Val.res_codes m c).symm
    · rw [Cert.ReferenceIdeal.Read.val_main_v30_eq, e0, e2]
      exact (Cert.KernelIdeal.Val.res_scales m c).symm

theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
